-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xC61C4000#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 2048, 128, 128]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 2048, 128, 128]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x16384 : Shape := ⟨2, ![1024, 16384]⟩
abbrev S1x2048x8x128 : Shape := ⟨4, ![1, 2048, 8, 128]⟩
abbrev S16384x1024 : Shape := ⟨2, ![16384, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x2048x1024 .f32) (main_arg1 : FVec F S1024x16384 .f32) (main_arg2 : FVec F S1x2048x8x128 .f32) (main_arg3 : FVec F S1x2048x8x128 .f32) (main_arg4 : FVec F S16384x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x2048x8x128 .f32 := Host.absf main_arg2
  let main_cst_2 : FVec F S_ .f32 := constant S_ .f32 0x7F800000#32
  let main_v10 : FVec F S1x2048x8x128 .f32 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x2048x128x128 : S_.BroadcastsInDim S1x2048x128x128 (![] : Fin 0 → Fin S1x2048x128x128.rank)
  reducesTo_S1x2048x128x128_S_d0_1_2_3 : S1x2048x128x128.ReducesTo [0, 1, 2, 3] S_

variable [Facts]

def fn {F : FTy → Type} [FloatOps F] (main_arg0 : FVec F S1x2048x1024 .f32) (main_arg1 : FVec F S1024x16384 .f32) (main_arg2 : FVec F S1x2048x128x128 .f32) (main_arg3 : FVec F S1x2048x128x128 .f32) (main_arg4 : FVec F S16384x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x2048x128x128 .f32 := Host.absf main_arg2
  let main_cst_2 : FVec F S_ .f32 := constant S_ .f32 0x7F800000#32
  let main_v10 : FVec F S1x2048x128x128 .f32 := broadcastInDim S1x2048x128x128 ![] bcast_S_S1x2048x128x128 main_cst_2
  let main_v11 : IVec S1x2048x128x128 1 := cmpf .olt main_v9 main_v10
  let main_c_3 : IVec S_ 1 := constantI S_ 1 1#1
  let main_v12 : IVec S_ 1 := (fun x v => Host.reduce IntOp.andi x v reducesTo_S1x2048x128x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x16384 : Shape := ⟨2, ![1024, 16384]⟩
abbrev S1x2048x8x128 : Shape := ⟨4, ![1, 2048, 8, 128]⟩
abbrev S16384x1024 : Shape := ⟨2, ![16384, 1024]⟩
abbrev S_ : Shape := ⟨0, ![]⟩
abbrev S2048x1024 : Shape := ⟨2, ![2048, 1024]⟩
abbrev S1024x1024 : Shape := ⟨2, ![1024, 1024]⟩
abbrev S2048x8x128 : Shape := ⟨3, ![2048, 8, 128]⟩
abbrev S256x128 : Shape := ⟨2, ![256, 128]⟩
abbrev S1024x128 : Shape := ⟨2, ![1024, 128]⟩
abbrev S256x1024 : Shape := ⟨2, ![256, 1024]⟩
abbrev S256x1 : Shape := ⟨2, ![256, 1]⟩
abbrev S256 : Shape := ⟨1, ![256]⟩
abbrev S2048x128 : Shape := ⟨2, ![2048, 128]⟩
abbrev S256x2048 : Shape := ⟨2, ![256, 2048]⟩
abbrev S512x1024 : Shape := ⟨2, ![512, 1024]⟩
abbrev S128x1024 : Shape := ⟨2, ![128, 1024]⟩
abbrev S64x1024 : Shape := ⟨2, ![64, 1024]⟩
abbrev S8 : Shape := ⟨1, ![8]⟩
abbrev S1 : Shape := ⟨1, ![1]⟩

abbrev nBuf : Space → Nat
  | .hbm => 52
  | .vmem => 28
  | .smem => 0
  | _ => 0

abbrev bufTy : (tb : Table) → Fin (tcTables nBuf tb) → BufTy
  | .hbm, ⟨0, _⟩ => ⟨S1x2048x1024, .f32⟩
  | .hbm, ⟨1, _⟩ => ⟨S1024x16384, .f32⟩
  | .hbm, ⟨2, _⟩ => ⟨S1x2048x8x128, .f32⟩
  | .hbm, ⟨3, _⟩ => ⟨S1x2048x8x128, .f32⟩
  | .hbm, ⟨4, _⟩ => ⟨S16384x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x1024, .f32⟩
  | .hbm, ⟨12, _⟩ => ⟨S2048x1024, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1024x1024, .f32⟩
  | .hbm, ⟨22, _⟩ => ⟨S1024x1024, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1024x1024, .f32⟩
  | .hbm, ⟨32, _⟩ => ⟨S1024x1024, .bf16⟩
  | .hbm, ⟨33, _⟩ => ⟨S2048x8x128, .f32⟩
  | .hbm, ⟨34, _⟩ => ⟨S2048x1024, .f32⟩
  | .hbm, ⟨35, _⟩ => ⟨S2048x1024, .bf16⟩
  | .hbm, ⟨36, _⟩ => ⟨S2048x8x128, .f32⟩
  | .hbm, ⟨37, _⟩ => ⟨S2048x1024, .f32⟩
  | .hbm, ⟨38, _⟩ => ⟨S2048x1024, .bf16⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x1024, .bf16⟩
  | .hbm, ⟨44, _⟩ => ⟨S1024x1024, .bf16⟩
  | .hbm, ⟨45, _⟩ => ⟨S1024x1024, .bf16⟩
  | .hbm, ⟨46, _⟩ => ⟨S1024x1024, .bf16⟩
  | .hbm, ⟨47, _⟩ => ⟨S1024x1024, .bf16⟩
  | .hbm, ⟨48, _⟩ => ⟨S1024x1024, .f32⟩
  | .hbm, ⟨49, _⟩ => ⟨S1024x1024, .f32⟩
  | .hbm, ⟨50, _⟩ => ⟨S2048x1024, .f32⟩
  | .hbm, ⟨51, _⟩ => ⟨S1x2048x1024, .f32⟩
  | .local _ .vmem, ⟨0, _⟩ => ⟨S256x128, .bf16⟩
  | .local _ .vmem, ⟨1, _⟩ => ⟨S256x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S256x128, .bf16⟩
  | .local _ .vmem, ⟨15, _⟩ => ⟨S256x128, .bf16⟩
  | .local _ .vmem, ⟨16, _⟩ => ⟨S1024x1024, .f32⟩
  | .local _ .vmem, ⟨17, _⟩ => ⟨S1024x1024, .f32⟩
  | .local _ .vmem, ⟨18, _⟩ => ⟨S2048x1024, .f32⟩
  | .local _ .vmem, ⟨19, _⟩ => ⟨S2048x1024, .bf16⟩
  | .local _ .vmem, ⟨20, _⟩ => ⟨S512x1024, .bf16⟩
  | .local _ .vmem, ⟨21, _⟩ => ⟨S256x1024, .bf16⟩
  | .local _ .vmem, ⟨22, _⟩ => ⟨S128x1024, .bf16⟩
  | .local _ .vmem, ⟨23, _⟩ => ⟨S64x1024, .bf16⟩
  | .local _ .vmem, ⟨24, _⟩ => ⟨S512x1024, .bf16⟩
  | .local _ .vmem, ⟨25, _⟩ => ⟨S256x1024, .bf16⟩
  | .local _ .vmem, ⟨26, _⟩ => ⟨S128x1024, .bf16⟩
  | .local _ .vmem, ⟨27, _⟩ => ⟨S64x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_v11 : Ref sig .tc := ⟨.hbm, 21, rfl⟩
abbrev main_v12 : Ref sig .tc := ⟨.hbm, 22, rfl⟩
abbrev main_c_5 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_c_7 : Ref sig .tc := ⟨.hbm, 27, rfl⟩
abbrev main_v15 : Ref sig .tc := ⟨.hbm, 28, rfl⟩
abbrev main_v16 : Ref sig .tc := ⟨.hbm, 29, rfl⟩
abbrev main_c_8 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_scratch0 : Ref sig .tc := ⟨.vmem, 19, rfl⟩
abbrev cc2_scratch1 : Ref sig .tc := ⟨.vmem, 20, rfl⟩
abbrev cc2_scratch2 : Ref sig .tc := ⟨.vmem, 21, rfl⟩
abbrev cc2_scratch3 : Ref sig .tc := ⟨.vmem, 22, rfl⟩
abbrev cc2_scratch4 : Ref sig .tc := ⟨.vmem, 23, rfl⟩
abbrev cc2_scratch5 : Ref sig .tc := ⟨.vmem, 24, rfl⟩
abbrev cc2_scratch6 : Ref sig .tc := ⟨.vmem, 25, rfl⟩
abbrev cc2_scratch7 : Ref sig .tc := ⟨.vmem, 26, rfl⟩
abbrev cc2_scratch8 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem1_0 : DmaSem sig := 17
abbrev cc2_sem2_0 : DmaSem sig := 18
abbrev barrier0 : Sem sig := 0

abbrev nD : Nat := 16
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := .none

def k2_dev1 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_24 : BitVec 32 := 1#32
  let v60 : BitVec 32 := Scalar.addi v2 c1_i32_24
  let c2_i32_26 : BitVec 32 := 2#32
  let c4_i32 : BitVec 32 := 4#32
  let v3 : BitVec 32 := Scalar.remsi v2 c4_i32
  let c2_i32_25 : BitVec 32 := 2#32
  let v61 : BitVec 32 := Scalar.remsi v3 c2_i32_25
  let v62 : BitVec 32 := Scalar.muli c2_i32_26 v61
  let v63 : BitVec 32 := Scalar.subi v60 v62
  let c1_i32_34 : BitVec 32 := 1#32
  let v76 : BitVec 32 := Scalar.muli v63 c1_i32_34
  let v77 : BitVec 32 := Scalar.addi c0_i32_35 v76
  v77.toNat
def k2_dev2 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v64 : BitVec 32 := Scalar.addi v2 c3_i32
  let c2_i32_27 : BitVec 32 := 2#32
  let c4_i32 : BitVec 32 := 4#32
  let v3 : BitVec 32 := Scalar.remsi v2 c4_i32
  let v65 : BitVec 32 := Scalar.muli c2_i32_27 v3
  let v66 : BitVec 32 := Scalar.subi v64 v65
  let c1_i32_37 : BitVec 32 := 1#32
  let v78 : BitVec 32 := Scalar.muli v66 c1_i32_37
  let v79 : BitVec 32 := Scalar.addi c0_i32_38 v78
  v79.toNat
def k2_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_29 : BitVec 32 := 1#32
  let c2_i32_28 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let v67 : BitVec 32 := Scalar.muli c2_i32_28 v42
  let v68 : BitVec 32 := Scalar.subi c1_i32_29 v67
  let c4_i32_30 : BitVec 32 := 4#32
  let v69 : BitVec 32 := Scalar.muli v68 c4_i32_30
  let v70 : BitVec 32 := Scalar.addi v2 v69
  let c1_i32_40 : BitVec 32 := 1#32
  let v80 : BitVec 32 := Scalar.muli v70 c1_i32_40
  let v81 : BitVec 32 := Scalar.addi c0_i32_41 v80
  v81.toNat
def k2_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_32 : BitVec 32 := 1#32
  let c2_i32_31 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let v71 : BitVec 32 := Scalar.muli c2_i32_31 v59
  let v72 : BitVec 32 := Scalar.subi c1_i32_32 v71
  let c8_i32 : BitVec 32 := 8#32
  let v73 : BitVec 32 := Scalar.muli v72 c8_i32
  let v74 : BitVec 32 := Scalar.addi v2 v73
  let c1_i32_43 : BitVec 32 := 1#32
  let v82 : BitVec 32 := Scalar.muli v74 c1_i32_43
  let v83 : BitVec 32 := Scalar.addi c0_i32_44 v82
  v83.toNat
def k2_off1 (d0 : Dev nD) : Fin 2 → Nat :=
  let c0_i32_57 : BitVec 32 := 0#32
  let c0_i32_56 : BitVec 32 := 0#32
  let c1_i32_54 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let v92 : BitVec 32 := Scalar.subi c1_i32_54 v24
  let c8_i32_55 : BitVec 32 := 8#32
  let v93 : BitVec 32 := Scalar.muli v92 c8_i32_55
  let v94 : BitVec 32 := Scalar.addi c0_i32_56 v93
  let v95 : BitVec 32 := Scalar.addi c0_i32_57 v94
  let c64_i32 : BitVec 32 := 64#32
  let v96 : BitVec 32 := Scalar.muli v95 c64_i32
  let v97 : Index := Scalar.indexCast v96
  let c0_58 : Index := 0#32
  ![v97.toNat, 0]
def k2_off2 (d0 : Dev nD) : Fin 2 → Nat :=
  let c0_i32_57 : BitVec 32 := 0#32
  let c0_i32_56 : BitVec 32 := 0#32
  let c1_i32_54 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let v92 : BitVec 32 := Scalar.subi c1_i32_54 v24
  let c8_i32_55 : BitVec 32 := 8#32
  let v93 : BitVec 32 := Scalar.muli v92 c8_i32_55
  let v94 : BitVec 32 := Scalar.addi c0_i32_56 v93
  let v95 : BitVec 32 := Scalar.addi c0_i32_57 v94
  let c64_i32 : BitVec 32 := 64#32
  let v96 : BitVec 32 := Scalar.muli v95 c64_i32
  let c0_i32_64 : BitVec 32 := 0#32
  ![v96.toNat, 0]
def k2_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_24 : BitVec 32 := 1#32
  let v60 : BitVec 32 := Scalar.addi v2 c1_i32_24
  let c2_i32_26 : BitVec 32 := 2#32
  let c4_i32 : BitVec 32 := 4#32
  let v3 : BitVec 32 := Scalar.remsi v2 c4_i32
  let c2_i32_25 : BitVec 32 := 2#32
  let v61 : BitVec 32 := Scalar.remsi v3 c2_i32_25
  let v62 : BitVec 32 := Scalar.muli c2_i32_26 v61
  let v63 : BitVec 32 := Scalar.subi v60 v62
  let c1_i32_62 : BitVec 32 := 1#32
  let v105 : BitVec 32 := Scalar.muli v63 c1_i32_62
  let v106 : BitVec 32 := Scalar.addi c0_i32_63 v105
  v106.toNat
def k2_off3 (d0 : Dev nD) : Fin 2 → Nat :=
  let c16_i32_70 : BitVec 32 := 16#32
  let c0_i32_69 : BitVec 32 := 0#32
  let c1_i32_67 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let v114 : BitVec 32 := Scalar.subi c1_i32_67 v41
  let c8_i32_68 : BitVec 32 := 8#32
  let v115 : BitVec 32 := Scalar.muli v114 c8_i32_68
  let v116 : BitVec 32 := Scalar.addi c0_i32_69 v115
  let v117 : BitVec 32 := Scalar.addi c16_i32_70 v116
  let c64_i32_71 : BitVec 32 := 64#32
  let v118 : BitVec 32 := Scalar.muli v117 c64_i32_71
  let v119 : Index := Scalar.indexCast v118
  let c0_72 : Index := 0#32
  ![v119.toNat, 0]
def k2_off4 (d0 : Dev nD) : Fin 2 → Nat :=
  let c16_i32_70 : BitVec 32 := 16#32
  let c0_i32_69 : BitVec 32 := 0#32
  let c1_i32_67 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let v114 : BitVec 32 := Scalar.subi c1_i32_67 v41
  let c8_i32_68 : BitVec 32 := 8#32
  let v115 : BitVec 32 := Scalar.muli v114 c8_i32_68
  let v116 : BitVec 32 := Scalar.addi c0_i32_69 v115
  let v117 : BitVec 32 := Scalar.addi c16_i32_70 v116
  let c64_i32_71 : BitVec 32 := 64#32
  let v118 : BitVec 32 := Scalar.muli v117 c64_i32_71
  let c0_i32_78 : BitVec 32 := 0#32
  ![v118.toNat, 0]
def k2_dev6 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v64 : BitVec 32 := Scalar.addi v2 c3_i32
  let c2_i32_27 : BitVec 32 := 2#32
  let c4_i32 : BitVec 32 := 4#32
  let v3 : BitVec 32 := Scalar.remsi v2 c4_i32
  let v65 : BitVec 32 := Scalar.muli c2_i32_27 v3
  let v66 : BitVec 32 := Scalar.subi v64 v65
  let c1_i32_76 : BitVec 32 := 1#32
  let v127 : BitVec 32 := Scalar.muli v66 c1_i32_76
  let v128 : BitVec 32 := Scalar.addi c0_i32_77 v127
  v128.toNat
def k2_off5 (d0 : Dev nD) : Fin 2 → Nat :=
  let c0_i32_88 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let v142 : BitVec 32 := Scalar.addi c0_i32_88 v91
  let c64_i32_89 : BitVec 32 := 64#32
  let v143 : BitVec 32 := Scalar.muli v142 c64_i32_89
  let v144 : Index := Scalar.indexCast v143
  let c0_90 : Index := 0#32
  ![v144.toNat, 0]
def k2_off6 (d0 : Dev nD) : Fin 2 → Nat :=
  let c16_i32_103 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let v160 : BitVec 32 := Scalar.addi c16_i32_103 v113
  let c64_i32_104 : BitVec 32 := 64#32
  let v161 : BitVec 32 := Scalar.muli v160 c64_i32_104
  let v162 : Index := Scalar.indexCast v161
  let c0_105 : Index := 0#32
  ![v162.toNat, 0]
def k2_off7 (d0 : Dev nD) : Fin 2 → Nat :=
  let c0_i32_112 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let c1_i32_110 : BitVec 32 := 1#32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let v172 : BitVec 32 := Scalar.subi c1_i32_110 v41
  let c4_i32_111 : BitVec 32 := 4#32
  let v173 : BitVec 32 := Scalar.muli v172 c4_i32_111
  let v174 : BitVec 32 := Scalar.addi v91 v173
  let v175 : BitVec 32 := Scalar.addi c0_i32_112 v174
  let c64_i32_113 : BitVec 32 := 64#32
  let v176 : BitVec 32 := Scalar.muli v175 c64_i32_113
  let v177 : Index := Scalar.indexCast v176
  let c0_114 : Index := 0#32
  ![v177.toNat, 0]
def k2_off8 (d0 : Dev nD) : Fin 2 → Nat :=
  let c0_i32_112 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let c1_i32_110 : BitVec 32 := 1#32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let v172 : BitVec 32 := Scalar.subi c1_i32_110 v41
  let c4_i32_111 : BitVec 32 := 4#32
  let v173 : BitVec 32 := Scalar.muli v172 c4_i32_111
  let v174 : BitVec 32 := Scalar.addi v91 v173
  let v175 : BitVec 32 := Scalar.addi c0_i32_112 v174
  let c64_i32_113 : BitVec 32 := 64#32
  let v176 : BitVec 32 := Scalar.muli v175 c64_i32_113
  let c0_i32_120 : BitVec 32 := 0#32
  ![v176.toNat, 0]
def k2_dev7 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v64 : BitVec 32 := Scalar.addi v2 c3_i32
  let c2_i32_27 : BitVec 32 := 2#32
  let c4_i32 : BitVec 32 := 4#32
  let v3 : BitVec 32 := Scalar.remsi v2 c4_i32
  let v65 : BitVec 32 := Scalar.muli c2_i32_27 v3
  let v66 : BitVec 32 := Scalar.subi v64 v65
  let c1_i32_118 : BitVec 32 := 1#32
  let v185 : BitVec 32 := Scalar.muli v66 c1_i32_118
  let v186 : BitVec 32 := Scalar.addi c0_i32_119 v185
  v186.toNat
def k2_off9 (d0 : Dev nD) : Fin 2 → Nat :=
  let c16_i32_124 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let c1_i32_122 : BitVec 32 := 1#32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let v194 : BitVec 32 := Scalar.subi c1_i32_122 v24
  let c4_i32_123 : BitVec 32 := 4#32
  let v195 : BitVec 32 := Scalar.muli v194 c4_i32_123
  let v196 : BitVec 32 := Scalar.addi v113 v195
  let v197 : BitVec 32 := Scalar.addi c16_i32_124 v196
  let c64_i32_125 : BitVec 32 := 64#32
  let v198 : BitVec 32 := Scalar.muli v197 c64_i32_125
  let v199 : Index := Scalar.indexCast v198
  let c0_126 : Index := 0#32
  ![v199.toNat, 0]
def k2_off10 (d0 : Dev nD) : Fin 2 → Nat :=
  let c16_i32_124 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let c1_i32_122 : BitVec 32 := 1#32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let v194 : BitVec 32 := Scalar.subi c1_i32_122 v24
  let c4_i32_123 : BitVec 32 := 4#32
  let v195 : BitVec 32 := Scalar.muli v194 c4_i32_123
  let v196 : BitVec 32 := Scalar.addi v113 v195
  let v197 : BitVec 32 := Scalar.addi c16_i32_124 v196
  let c64_i32_125 : BitVec 32 := 64#32
  let v198 : BitVec 32 := Scalar.muli v197 c64_i32_125
  let c0_i32_131 : BitVec 32 := 0#32
  ![v198.toNat, 0]
def k2_dev8 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_24 : BitVec 32 := 1#32
  let v60 : BitVec 32 := Scalar.addi v2 c1_i32_24
  let c2_i32_26 : BitVec 32 := 2#32
  let c4_i32 : BitVec 32 := 4#32
  let v3 : BitVec 32 := Scalar.remsi v2 c4_i32
  let c2_i32_25 : BitVec 32 := 2#32
  let v61 : BitVec 32 := Scalar.remsi v3 c2_i32_25
  let v62 : BitVec 32 := Scalar.muli c2_i32_26 v61
  let v63 : BitVec 32 := Scalar.subi v60 v62
  let c1_i32_129 : BitVec 32 := 1#32
  let v207 : BitVec 32 := Scalar.muli v63 c1_i32_129
  let v208 : BitVec 32 := Scalar.addi c0_i32_130 v207
  v208.toNat
def k2_off11 (d0 : Dev nD) : Fin 2 → Nat :=
  let c0_i32_141 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c4_i32_109 : BitVec 32 := 4#32
  let v170 : BitVec 32 := Scalar.muli v41 c4_i32_109
  let v171 : BitVec 32 := Scalar.addi v91 v170
  let v222 : BitVec 32 := Scalar.addi c0_i32_141 v171
  let c64_i32_142 : BitVec 32 := 64#32
  let v223 : BitVec 32 := Scalar.muli v222 c64_i32_142
  let v224 : Index := Scalar.indexCast v223
  let c0_143 : Index := 0#32
  ![v224.toNat, 0]
def k2_off12 (d0 : Dev nD) : Fin 2 → Nat :=
  let c16_i32_156 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c4_i32_121 : BitVec 32 := 4#32
  let v192 : BitVec 32 := Scalar.muli v24 c4_i32_121
  let v193 : BitVec 32 := Scalar.addi v113 v192
  let v240 : BitVec 32 := Scalar.addi c16_i32_156 v193
  let c64_i32_157 : BitVec 32 := 64#32
  let v241 : BitVec 32 := Scalar.muli v240 c64_i32_157
  let v242 : Index := Scalar.indexCast v241
  let c0_158 : Index := 0#32
  ![v242.toNat, 0]
def k2_off13 (d0 : Dev nD) : Fin 2 → Nat :=
  let c0_i32_165 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c4_i32_109 : BitVec 32 := 4#32
  let v170 : BitVec 32 := Scalar.muli v41 c4_i32_109
  let v171 : BitVec 32 := Scalar.addi v91 v170
  let c1_i32_163 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let v252 : BitVec 32 := Scalar.subi c1_i32_163 v42
  let c2_i32_164 : BitVec 32 := 2#32
  let v253 : BitVec 32 := Scalar.muli v252 c2_i32_164
  let v254 : BitVec 32 := Scalar.addi v171 v253
  let v255 : BitVec 32 := Scalar.addi c0_i32_165 v254
  let c64_i32_166 : BitVec 32 := 64#32
  let v256 : BitVec 32 := Scalar.muli v255 c64_i32_166
  let v257 : Index := Scalar.indexCast v256
  let c0_167 : Index := 0#32
  ![v257.toNat, 0]
def k2_off14 (d0 : Dev nD) : Fin 2 → Nat :=
  let c0_i32_165 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c4_i32_109 : BitVec 32 := 4#32
  let v170 : BitVec 32 := Scalar.muli v41 c4_i32_109
  let v171 : BitVec 32 := Scalar.addi v91 v170
  let c1_i32_163 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let v252 : BitVec 32 := Scalar.subi c1_i32_163 v42
  let c2_i32_164 : BitVec 32 := 2#32
  let v253 : BitVec 32 := Scalar.muli v252 c2_i32_164
  let v254 : BitVec 32 := Scalar.addi v171 v253
  let v255 : BitVec 32 := Scalar.addi c0_i32_165 v254
  let c64_i32_166 : BitVec 32 := 64#32
  let v256 : BitVec 32 := Scalar.muli v255 c64_i32_166
  let c0_i32_173 : BitVec 32 := 0#32
  ![v256.toNat, 0]
def k2_dev9 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_29 : BitVec 32 := 1#32
  let c2_i32_28 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let v67 : BitVec 32 := Scalar.muli c2_i32_28 v42
  let v68 : BitVec 32 := Scalar.subi c1_i32_29 v67
  let c4_i32_30 : BitVec 32 := 4#32
  let v69 : BitVec 32 := Scalar.muli v68 c4_i32_30
  let v70 : BitVec 32 := Scalar.addi v2 v69
  let c1_i32_171 : BitVec 32 := 1#32
  let v265 : BitVec 32 := Scalar.muli v70 c1_i32_171
  let v266 : BitVec 32 := Scalar.addi c0_i32_172 v265
  v266.toNat
def k2_off15 (d0 : Dev nD) : Fin 2 → Nat :=
  let c16_i32_177 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c4_i32_121 : BitVec 32 := 4#32
  let v192 : BitVec 32 := Scalar.muli v24 c4_i32_121
  let v193 : BitVec 32 := Scalar.addi v113 v192
  let c1_i32_175 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let v274 : BitVec 32 := Scalar.subi c1_i32_175 v59
  let c2_i32_176 : BitVec 32 := 2#32
  let v275 : BitVec 32 := Scalar.muli v274 c2_i32_176
  let v276 : BitVec 32 := Scalar.addi v193 v275
  let v277 : BitVec 32 := Scalar.addi c16_i32_177 v276
  let c64_i32_178 : BitVec 32 := 64#32
  let v278 : BitVec 32 := Scalar.muli v277 c64_i32_178
  let v279 : Index := Scalar.indexCast v278
  let c0_179 : Index := 0#32
  ![v279.toNat, 0]
def k2_off16 (d0 : Dev nD) : Fin 2 → Nat :=
  let c16_i32_177 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c4_i32_121 : BitVec 32 := 4#32
  let v192 : BitVec 32 := Scalar.muli v24 c4_i32_121
  let v193 : BitVec 32 := Scalar.addi v113 v192
  let c1_i32_175 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let v274 : BitVec 32 := Scalar.subi c1_i32_175 v59
  let c2_i32_176 : BitVec 32 := 2#32
  let v275 : BitVec 32 := Scalar.muli v274 c2_i32_176
  let v276 : BitVec 32 := Scalar.addi v193 v275
  let v277 : BitVec 32 := Scalar.addi c16_i32_177 v276
  let c64_i32_178 : BitVec 32 := 64#32
  let v278 : BitVec 32 := Scalar.muli v277 c64_i32_178
  let c0_i32_184 : BitVec 32 := 0#32
  ![v278.toNat, 0]
def k2_dev10 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_32 : BitVec 32 := 1#32
  let c2_i32_31 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let v71 : BitVec 32 := Scalar.muli c2_i32_31 v59
  let v72 : BitVec 32 := Scalar.subi c1_i32_32 v71
  let c8_i32 : BitVec 32 := 8#32
  let v73 : BitVec 32 := Scalar.muli v72 c8_i32
  let v74 : BitVec 32 := Scalar.addi v2 v73
  let c1_i32_182 : BitVec 32 := 1#32
  let v287 : BitVec 32 := Scalar.muli v74 c1_i32_182
  let v288 : BitVec 32 := Scalar.addi c0_i32_183 v287
  v288.toNat
def k2_off17 (d0 : Dev nD) : Fin 2 → Nat :=
  let c0_i32_194 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c4_i32_109 : BitVec 32 := 4#32
  let v170 : BitVec 32 := Scalar.muli v41 c4_i32_109
  let v171 : BitVec 32 := Scalar.addi v91 v170
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let c2_i32_162 : BitVec 32 := 2#32
  let v250 : BitVec 32 := Scalar.muli v42 c2_i32_162
  let v251 : BitVec 32 := Scalar.addi v171 v250
  let v302 : BitVec 32 := Scalar.addi c0_i32_194 v251
  let c64_i32_195 : BitVec 32 := 64#32
  let v303 : BitVec 32 := Scalar.muli v302 c64_i32_195
  let v304 : Index := Scalar.indexCast v303
  let c0_196 : Index := 0#32
  ![v304.toNat, 0]
def k2_off18 (d0 : Dev nD) : Fin 2 → Nat :=
  let c16_i32_209 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c4_i32_121 : BitVec 32 := 4#32
  let v192 : BitVec 32 := Scalar.muli v24 c4_i32_121
  let v193 : BitVec 32 := Scalar.addi v113 v192
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c2_i32_174 : BitVec 32 := 2#32
  let v272 : BitVec 32 := Scalar.muli v59 c2_i32_174
  let v273 : BitVec 32 := Scalar.addi v193 v272
  let v320 : BitVec 32 := Scalar.addi c16_i32_209 v273
  let c64_i32_210 : BitVec 32 := 64#32
  let v321 : BitVec 32 := Scalar.muli v320 c64_i32_210
  let v322 : Index := Scalar.indexCast v321
  let c0_211 : Index := 0#32
  ![v322.toNat, 0]
def k2_off19 (d0 : Dev nD) : Fin 2 → Nat :=
  let c0_i32_218 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c4_i32_109 : BitVec 32 := 4#32
  let v170 : BitVec 32 := Scalar.muli v41 c4_i32_109
  let v171 : BitVec 32 := Scalar.addi v91 v170
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let c2_i32_162 : BitVec 32 := 2#32
  let v250 : BitVec 32 := Scalar.muli v42 c2_i32_162
  let v251 : BitVec 32 := Scalar.addi v171 v250
  let c1_i32_216 : BitVec 32 := 1#32
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let v332 : BitVec 32 := Scalar.subi c1_i32_216 v59
  let c1_i32_217 : BitVec 32 := 1#32
  let v333 : BitVec 32 := Scalar.muli v332 c1_i32_217
  let v334 : BitVec 32 := Scalar.addi v251 v333
  let v335 : BitVec 32 := Scalar.addi c0_i32_218 v334
  let c64_i32_219 : BitVec 32 := 64#32
  let v336 : BitVec 32 := Scalar.muli v335 c64_i32_219
  let v337 : Index := Scalar.indexCast v336
  let c0_220 : Index := 0#32
  ![v337.toNat, 0]
def k2_off20 (d0 : Dev nD) : Fin 2 → Nat :=
  let c0_i32_218 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c4_i32_109 : BitVec 32 := 4#32
  let v170 : BitVec 32 := Scalar.muli v41 c4_i32_109
  let v171 : BitVec 32 := Scalar.addi v91 v170
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let c2_i32_162 : BitVec 32 := 2#32
  let v250 : BitVec 32 := Scalar.muli v42 c2_i32_162
  let v251 : BitVec 32 := Scalar.addi v171 v250
  let c1_i32_216 : BitVec 32 := 1#32
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let v332 : BitVec 32 := Scalar.subi c1_i32_216 v59
  let c1_i32_217 : BitVec 32 := 1#32
  let v333 : BitVec 32 := Scalar.muli v332 c1_i32_217
  let v334 : BitVec 32 := Scalar.addi v251 v333
  let v335 : BitVec 32 := Scalar.addi c0_i32_218 v334
  let c64_i32_219 : BitVec 32 := 64#32
  let v336 : BitVec 32 := Scalar.muli v335 c64_i32_219
  let c0_i32_226 : BitVec 32 := 0#32
  ![v336.toNat, 0]
def k2_dev11 (d0 : Dev nD) : Nat :=
  let c0_i32_225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_32 : BitVec 32 := 1#32
  let c2_i32_31 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let v71 : BitVec 32 := Scalar.muli c2_i32_31 v59
  let v72 : BitVec 32 := Scalar.subi c1_i32_32 v71
  let c8_i32 : BitVec 32 := 8#32
  let v73 : BitVec 32 := Scalar.muli v72 c8_i32
  let v74 : BitVec 32 := Scalar.addi v2 v73
  let c1_i32_224 : BitVec 32 := 1#32
  let v345 : BitVec 32 := Scalar.muli v74 c1_i32_224
  let v346 : BitVec 32 := Scalar.addi c0_i32_225 v345
  v346.toNat
def k2_off21 (d0 : Dev nD) : Fin 2 → Nat :=
  let c16_i32_230 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c4_i32_121 : BitVec 32 := 4#32
  let v192 : BitVec 32 := Scalar.muli v24 c4_i32_121
  let v193 : BitVec 32 := Scalar.addi v113 v192
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c2_i32_174 : BitVec 32 := 2#32
  let v272 : BitVec 32 := Scalar.muli v59 c2_i32_174
  let v273 : BitVec 32 := Scalar.addi v193 v272
  let c1_i32_228 : BitVec 32 := 1#32
  let c2_i32_16 : BitVec 32 := 2#32
  let v42 : BitVec 32 := Scalar.remsi v20 c2_i32_16
  let v354 : BitVec 32 := Scalar.subi c1_i32_228 v42
  let c1_i32_229 : BitVec 32 := 1#32
  let v355 : BitVec 32 := Scalar.muli v354 c1_i32_229
  let v356 : BitVec 32 := Scalar.addi v273 v355
  let v357 : BitVec 32 := Scalar.addi c16_i32_230 v356
  let c64_i32_231 : BitVec 32 := 64#32
  let v358 : BitVec 32 := Scalar.muli v357 c64_i32_231
  let v359 : Index := Scalar.indexCast v358
  let c0_232 : Index := 0#32
  ![v359.toNat, 0]
def k2_off22 (d0 : Dev nD) : Fin 2 → Nat :=
  let c16_i32_230 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c4_i32_121 : BitVec 32 := 4#32
  let v192 : BitVec 32 := Scalar.muli v24 c4_i32_121
  let v193 : BitVec 32 := Scalar.addi v113 v192
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c2_i32_174 : BitVec 32 := 2#32
  let v272 : BitVec 32 := Scalar.muli v59 c2_i32_174
  let v273 : BitVec 32 := Scalar.addi v193 v272
  let c1_i32_228 : BitVec 32 := 1#32
  let c2_i32_16 : BitVec 32 := 2#32
  let v42 : BitVec 32 := Scalar.remsi v20 c2_i32_16
  let v354 : BitVec 32 := Scalar.subi c1_i32_228 v42
  let c1_i32_229 : BitVec 32 := 1#32
  let v355 : BitVec 32 := Scalar.muli v354 c1_i32_229
  let v356 : BitVec 32 := Scalar.addi v273 v355
  let v357 : BitVec 32 := Scalar.addi c16_i32_230 v356
  let c64_i32_231 : BitVec 32 := 64#32
  let v358 : BitVec 32 := Scalar.muli v357 c64_i32_231
  let c0_i32_237 : BitVec 32 := 0#32
  ![v358.toNat, 0]
def k2_dev12 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_29 : BitVec 32 := 1#32
  let c2_i32_28 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let v67 : BitVec 32 := Scalar.muli c2_i32_28 v42
  let v68 : BitVec 32 := Scalar.subi c1_i32_29 v67
  let c4_i32_30 : BitVec 32 := 4#32
  let v69 : BitVec 32 := Scalar.muli v68 c4_i32_30
  let v70 : BitVec 32 := Scalar.addi v2 v69
  let c1_i32_235 : BitVec 32 := 1#32
  let v367 : BitVec 32 := Scalar.muli v70 c1_i32_235
  let v368 : BitVec 32 := Scalar.addi c0_i32_236 v367
  v368.toNat
def k2_off23 (d0 : Dev nD) : Fin 2 → Nat :=
  let c0_i32_247 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c4_i32_109 : BitVec 32 := 4#32
  let v170 : BitVec 32 := Scalar.muli v41 c4_i32_109
  let v171 : BitVec 32 := Scalar.addi v91 v170
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let c2_i32_162 : BitVec 32 := 2#32
  let v250 : BitVec 32 := Scalar.muli v42 c2_i32_162
  let v251 : BitVec 32 := Scalar.addi v171 v250
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c1_i32_215 : BitVec 32 := 1#32
  let v330 : BitVec 32 := Scalar.muli v59 c1_i32_215
  let v331 : BitVec 32 := Scalar.addi v251 v330
  let v382 : BitVec 32 := Scalar.addi c0_i32_247 v331
  let c64_i32_248 : BitVec 32 := 64#32
  let v383 : BitVec 32 := Scalar.muli v382 c64_i32_248
  let v384 : Index := Scalar.indexCast v383
  let c0_249 : Index := 0#32
  ![v384.toNat, 0]
def k2_off24 (d0 : Dev nD) : Fin 2 → Nat :=
  let c16_i32_262 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c4_i32_121 : BitVec 32 := 4#32
  let v192 : BitVec 32 := Scalar.muli v24 c4_i32_121
  let v193 : BitVec 32 := Scalar.addi v113 v192
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c2_i32_174 : BitVec 32 := 2#32
  let v272 : BitVec 32 := Scalar.muli v59 c2_i32_174
  let v273 : BitVec 32 := Scalar.addi v193 v272
  let c2_i32_16 : BitVec 32 := 2#32
  let v42 : BitVec 32 := Scalar.remsi v20 c2_i32_16
  let c1_i32_227 : BitVec 32 := 1#32
  let v352 : BitVec 32 := Scalar.muli v42 c1_i32_227
  let v353 : BitVec 32 := Scalar.addi v273 v352
  let v400 : BitVec 32 := Scalar.addi c16_i32_262 v353
  let c64_i32_263 : BitVec 32 := 64#32
  let v401 : BitVec 32 := Scalar.muli v400 c64_i32_263
  let v402 : Index := Scalar.indexCast v401
  let c0_264 : Index := 0#32
  ![v402.toNat, 0]
def k2_off25 (d0 : Dev nD) : Fin 2 → Nat :=
  let c0_i32_279 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c4_i32_109 : BitVec 32 := 4#32
  let v170 : BitVec 32 := Scalar.muli v41 c4_i32_109
  let v171 : BitVec 32 := Scalar.addi v91 v170
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let c2_i32_162 : BitVec 32 := 2#32
  let v250 : BitVec 32 := Scalar.muli v42 c2_i32_162
  let v251 : BitVec 32 := Scalar.addi v171 v250
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c1_i32_215 : BitVec 32 := 1#32
  let v330 : BitVec 32 := Scalar.muli v59 c1_i32_215
  let v331 : BitVec 32 := Scalar.addi v251 v330
  let v435 : BitVec 32 := Scalar.addi c0_i32_279 v331
  let c64_i32_280 : BitVec 32 := 64#32
  let v436 : BitVec 32 := Scalar.muli v435 c64_i32_280
  let c0_i32_285 : BitVec 32 := 0#32
  ![v436.toNat, 0]
def k2_dev13 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_32 : BitVec 32 := 1#32
  let c2_i32_31 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let v71 : BitVec 32 := Scalar.muli c2_i32_31 v59
  let v72 : BitVec 32 := Scalar.subi c1_i32_32 v71
  let c8_i32 : BitVec 32 := 8#32
  let v73 : BitVec 32 := Scalar.muli v72 c8_i32
  let v74 : BitVec 32 := Scalar.addi v2 v73
  let c1_i32_283 : BitVec 32 := 1#32
  let v437 : BitVec 32 := Scalar.muli v74 c1_i32_283
  let v438 : BitVec 32 := Scalar.addi c0_i32_284 v437
  v438.toNat
def k2_off26 (d0 : Dev nD) : Fin 2 → Nat :=
  let c16_i32_290 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c4_i32_121 : BitVec 32 := 4#32
  let v192 : BitVec 32 := Scalar.muli v24 c4_i32_121
  let v193 : BitVec 32 := Scalar.addi v113 v192
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c2_i32_174 : BitVec 32 := 2#32
  let v272 : BitVec 32 := Scalar.muli v59 c2_i32_174
  let v273 : BitVec 32 := Scalar.addi v193 v272
  let c2_i32_16 : BitVec 32 := 2#32
  let v42 : BitVec 32 := Scalar.remsi v20 c2_i32_16
  let c1_i32_227 : BitVec 32 := 1#32
  let v352 : BitVec 32 := Scalar.muli v42 c1_i32_227
  let v353 : BitVec 32 := Scalar.addi v273 v352
  let v450 : BitVec 32 := Scalar.addi c16_i32_290 v353
  let c64_i32_291 : BitVec 32 := 64#32
  let v451 : BitVec 32 := Scalar.muli v450 c64_i32_291
  let c0_i32_296 : BitVec 32 := 0#32
  ![v451.toNat, 0]
def k2_dev14 (d0 : Dev nD) : Nat :=
  let c0_i32_295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_29 : BitVec 32 := 1#32
  let c2_i32_28 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let v67 : BitVec 32 := Scalar.muli c2_i32_28 v42
  let v68 : BitVec 32 := Scalar.subi c1_i32_29 v67
  let c4_i32_30 : BitVec 32 := 4#32
  let v69 : BitVec 32 := Scalar.muli v68 c4_i32_30
  let v70 : BitVec 32 := Scalar.addi v2 v69
  let c1_i32_294 : BitVec 32 := 1#32
  let v452 : BitVec 32 := Scalar.muli v70 c1_i32_294
  let v453 : BitVec 32 := Scalar.addi c0_i32_295 v452
  v453.toNat
def k2_off27 (d0 : Dev nD) : Fin 2 → Nat :=
  let c0_i32_309 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c4_i32_109 : BitVec 32 := 4#32
  let v170 : BitVec 32 := Scalar.muli v41 c4_i32_109
  let v171 : BitVec 32 := Scalar.addi v91 v170
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let c2_i32_162 : BitVec 32 := 2#32
  let v250 : BitVec 32 := Scalar.muli v42 c2_i32_162
  let v251 : BitVec 32 := Scalar.addi v171 v250
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c1_i32_215 : BitVec 32 := 1#32
  let v330 : BitVec 32 := Scalar.muli v59 c1_i32_215
  let v331 : BitVec 32 := Scalar.addi v251 v330
  let c1_i32_276 : BitVec 32 := 1#32
  let v430 : BitVec 32 := Scalar.muli v59 c1_i32_276
  let v431 : BitVec 32 := Scalar.subi v331 v430
  let c1_i32_277 : BitVec 32 := 1#32
  let v432 : BitVec 32 := Scalar.subi c1_i32_277 v59
  let c1_i32_278 : BitVec 32 := 1#32
  let v433 : BitVec 32 := Scalar.muli v432 c1_i32_278
  let v434 : BitVec 32 := Scalar.addi v431 v433
  let v470 : BitVec 32 := Scalar.addi c0_i32_309 v434
  let c64_i32_310 : BitVec 32 := 64#32
  let v471 : BitVec 32 := Scalar.muli v470 c64_i32_310
  let v472 : Index := Scalar.indexCast v471
  let c0_311 : Index := 0#32
  ![v472.toNat, 0]
def k2_off28 (d0 : Dev nD) : Fin 2 → Nat :=
  let c16_i32_324 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c4_i32_121 : BitVec 32 := 4#32
  let v192 : BitVec 32 := Scalar.muli v24 c4_i32_121
  let v193 : BitVec 32 := Scalar.addi v113 v192
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c2_i32_174 : BitVec 32 := 2#32
  let v272 : BitVec 32 := Scalar.muli v59 c2_i32_174
  let v273 : BitVec 32 := Scalar.addi v193 v272
  let c2_i32_16 : BitVec 32 := 2#32
  let v42 : BitVec 32 := Scalar.remsi v20 c2_i32_16
  let c1_i32_227 : BitVec 32 := 1#32
  let v352 : BitVec 32 := Scalar.muli v42 c1_i32_227
  let v353 : BitVec 32 := Scalar.addi v273 v352
  let c1_i32_287 : BitVec 32 := 1#32
  let v445 : BitVec 32 := Scalar.muli v42 c1_i32_287
  let v446 : BitVec 32 := Scalar.subi v353 v445
  let c1_i32_288 : BitVec 32 := 1#32
  let v447 : BitVec 32 := Scalar.subi c1_i32_288 v42
  let c1_i32_289 : BitVec 32 := 1#32
  let v448 : BitVec 32 := Scalar.muli v447 c1_i32_289
  let v449 : BitVec 32 := Scalar.addi v446 v448
  let v487 : BitVec 32 := Scalar.addi c16_i32_324 v449
  let c64_i32_325 : BitVec 32 := 64#32
  let v488 : BitVec 32 := Scalar.muli v487 c64_i32_325
  let v489 : Index := Scalar.indexCast v488
  let c0_326 : Index := 0#32
  ![v489.toNat, 0]
def k2_off29 (d0 : Dev nD) : Fin 2 → Nat :=
  let c0_i32_331 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c4_i32_109 : BitVec 32 := 4#32
  let v170 : BitVec 32 := Scalar.muli v41 c4_i32_109
  let v171 : BitVec 32 := Scalar.addi v91 v170
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let c2_i32_162 : BitVec 32 := 2#32
  let v250 : BitVec 32 := Scalar.muli v42 c2_i32_162
  let v251 : BitVec 32 := Scalar.addi v171 v250
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c1_i32_215 : BitVec 32 := 1#32
  let v330 : BitVec 32 := Scalar.muli v59 c1_i32_215
  let v331 : BitVec 32 := Scalar.addi v251 v330
  let c1_i32_276 : BitVec 32 := 1#32
  let v430 : BitVec 32 := Scalar.muli v59 c1_i32_276
  let v431 : BitVec 32 := Scalar.subi v331 v430
  let v499 : BitVec 32 := Scalar.addi c0_i32_331 v431
  let c64_i32_332 : BitVec 32 := 64#32
  let v500 : BitVec 32 := Scalar.muli v499 c64_i32_332
  let c0_i32_337 : BitVec 32 := 0#32
  ![v500.toNat, 0]
def k2_dev15 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_29 : BitVec 32 := 1#32
  let c2_i32_28 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let v67 : BitVec 32 := Scalar.muli c2_i32_28 v42
  let v68 : BitVec 32 := Scalar.subi c1_i32_29 v67
  let c4_i32_30 : BitVec 32 := 4#32
  let v69 : BitVec 32 := Scalar.muli v68 c4_i32_30
  let v70 : BitVec 32 := Scalar.addi v2 v69
  let c1_i32_335 : BitVec 32 := 1#32
  let v501 : BitVec 32 := Scalar.muli v70 c1_i32_335
  let v502 : BitVec 32 := Scalar.addi c0_i32_336 v501
  v502.toNat
def k2_off30 (d0 : Dev nD) : Fin 2 → Nat :=
  let c16_i32_342 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c4_i32_121 : BitVec 32 := 4#32
  let v192 : BitVec 32 := Scalar.muli v24 c4_i32_121
  let v193 : BitVec 32 := Scalar.addi v113 v192
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c2_i32_174 : BitVec 32 := 2#32
  let v272 : BitVec 32 := Scalar.muli v59 c2_i32_174
  let v273 : BitVec 32 := Scalar.addi v193 v272
  let c2_i32_16 : BitVec 32 := 2#32
  let v42 : BitVec 32 := Scalar.remsi v20 c2_i32_16
  let c1_i32_227 : BitVec 32 := 1#32
  let v352 : BitVec 32 := Scalar.muli v42 c1_i32_227
  let v353 : BitVec 32 := Scalar.addi v273 v352
  let c1_i32_287 : BitVec 32 := 1#32
  let v445 : BitVec 32 := Scalar.muli v42 c1_i32_287
  let v446 : BitVec 32 := Scalar.subi v353 v445
  let v514 : BitVec 32 := Scalar.addi c16_i32_342 v446
  let c64_i32_343 : BitVec 32 := 64#32
  let v515 : BitVec 32 := Scalar.muli v514 c64_i32_343
  let c0_i32_348 : BitVec 32 := 0#32
  ![v515.toNat, 0]
def k2_dev16 (d0 : Dev nD) : Nat :=
  let c0_i32_347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_32 : BitVec 32 := 1#32
  let c2_i32_31 : BitVec 32 := 2#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let v71 : BitVec 32 := Scalar.muli c2_i32_31 v59
  let v72 : BitVec 32 := Scalar.subi c1_i32_32 v71
  let c8_i32 : BitVec 32 := 8#32
  let v73 : BitVec 32 := Scalar.muli v72 c8_i32
  let v74 : BitVec 32 := Scalar.addi v2 v73
  let c1_i32_346 : BitVec 32 := 1#32
  let v516 : BitVec 32 := Scalar.muli v74 c1_i32_346
  let v517 : BitVec 32 := Scalar.addi c0_i32_347 v516
  v517.toNat
def k2_off31 (d0 : Dev nD) : Fin 2 → Nat :=
  let c0_i32_361 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c4_i32_109 : BitVec 32 := 4#32
  let v170 : BitVec 32 := Scalar.muli v41 c4_i32_109
  let v171 : BitVec 32 := Scalar.addi v91 v170
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let c2_i32_162 : BitVec 32 := 2#32
  let v250 : BitVec 32 := Scalar.muli v42 c2_i32_162
  let v251 : BitVec 32 := Scalar.addi v171 v250
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c1_i32_215 : BitVec 32 := 1#32
  let v330 : BitVec 32 := Scalar.muli v59 c1_i32_215
  let v331 : BitVec 32 := Scalar.addi v251 v330
  let c1_i32_276 : BitVec 32 := 1#32
  let v430 : BitVec 32 := Scalar.muli v59 c1_i32_276
  let v431 : BitVec 32 := Scalar.subi v331 v430
  let c2_i32_328 : BitVec 32 := 2#32
  let v494 : BitVec 32 := Scalar.muli v42 c2_i32_328
  let v495 : BitVec 32 := Scalar.subi v431 v494
  let c1_i32_329 : BitVec 32 := 1#32
  let v496 : BitVec 32 := Scalar.subi c1_i32_329 v42
  let c2_i32_330 : BitVec 32 := 2#32
  let v497 : BitVec 32 := Scalar.muli v496 c2_i32_330
  let v498 : BitVec 32 := Scalar.addi v495 v497
  let v534 : BitVec 32 := Scalar.addi c0_i32_361 v498
  let c64_i32_362 : BitVec 32 := 64#32
  let v535 : BitVec 32 := Scalar.muli v534 c64_i32_362
  let v536 : Index := Scalar.indexCast v535
  let c0_363 : Index := 0#32
  ![v536.toNat, 0]
def k2_off32 (d0 : Dev nD) : Fin 2 → Nat :=
  let c16_i32_376 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c4_i32_121 : BitVec 32 := 4#32
  let v192 : BitVec 32 := Scalar.muli v24 c4_i32_121
  let v193 : BitVec 32 := Scalar.addi v113 v192
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c2_i32_174 : BitVec 32 := 2#32
  let v272 : BitVec 32 := Scalar.muli v59 c2_i32_174
  let v273 : BitVec 32 := Scalar.addi v193 v272
  let c2_i32_16 : BitVec 32 := 2#32
  let v42 : BitVec 32 := Scalar.remsi v20 c2_i32_16
  let c1_i32_227 : BitVec 32 := 1#32
  let v352 : BitVec 32 := Scalar.muli v42 c1_i32_227
  let v353 : BitVec 32 := Scalar.addi v273 v352
  let c1_i32_287 : BitVec 32 := 1#32
  let v445 : BitVec 32 := Scalar.muli v42 c1_i32_287
  let v446 : BitVec 32 := Scalar.subi v353 v445
  let c2_i32_339 : BitVec 32 := 2#32
  let v509 : BitVec 32 := Scalar.muli v59 c2_i32_339
  let v510 : BitVec 32 := Scalar.subi v446 v509
  let c1_i32_340 : BitVec 32 := 1#32
  let v511 : BitVec 32 := Scalar.subi c1_i32_340 v59
  let c2_i32_341 : BitVec 32 := 2#32
  let v512 : BitVec 32 := Scalar.muli v511 c2_i32_341
  let v513 : BitVec 32 := Scalar.addi v510 v512
  let v551 : BitVec 32 := Scalar.addi c16_i32_376 v513
  let c64_i32_377 : BitVec 32 := 64#32
  let v552 : BitVec 32 := Scalar.muli v551 c64_i32_377
  let v553 : Index := Scalar.indexCast v552
  let c0_378 : Index := 0#32
  ![v553.toNat, 0]
def k2_off33 (d0 : Dev nD) : Fin 2 → Nat :=
  let c0_i32_383 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c4_i32_109 : BitVec 32 := 4#32
  let v170 : BitVec 32 := Scalar.muli v41 c4_i32_109
  let v171 : BitVec 32 := Scalar.addi v91 v170
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let c2_i32_162 : BitVec 32 := 2#32
  let v250 : BitVec 32 := Scalar.muli v42 c2_i32_162
  let v251 : BitVec 32 := Scalar.addi v171 v250
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c1_i32_215 : BitVec 32 := 1#32
  let v330 : BitVec 32 := Scalar.muli v59 c1_i32_215
  let v331 : BitVec 32 := Scalar.addi v251 v330
  let c1_i32_276 : BitVec 32 := 1#32
  let v430 : BitVec 32 := Scalar.muli v59 c1_i32_276
  let v431 : BitVec 32 := Scalar.subi v331 v430
  let c2_i32_328 : BitVec 32 := 2#32
  let v494 : BitVec 32 := Scalar.muli v42 c2_i32_328
  let v495 : BitVec 32 := Scalar.subi v431 v494
  let v563 : BitVec 32 := Scalar.addi c0_i32_383 v495
  let c64_i32_384 : BitVec 32 := 64#32
  let v564 : BitVec 32 := Scalar.muli v563 c64_i32_384
  let c0_i32_389 : BitVec 32 := 0#32
  ![v564.toNat, 0]
def k2_dev17 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v64 : BitVec 32 := Scalar.addi v2 c3_i32
  let c2_i32_27 : BitVec 32 := 2#32
  let c4_i32 : BitVec 32 := 4#32
  let v3 : BitVec 32 := Scalar.remsi v2 c4_i32
  let v65 : BitVec 32 := Scalar.muli c2_i32_27 v3
  let v66 : BitVec 32 := Scalar.subi v64 v65
  let c1_i32_387 : BitVec 32 := 1#32
  let v565 : BitVec 32 := Scalar.muli v66 c1_i32_387
  let v566 : BitVec 32 := Scalar.addi c0_i32_388 v565
  v566.toNat
def k2_off34 (d0 : Dev nD) : Fin 2 → Nat :=
  let c16_i32_394 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c4_i32_121 : BitVec 32 := 4#32
  let v192 : BitVec 32 := Scalar.muli v24 c4_i32_121
  let v193 : BitVec 32 := Scalar.addi v113 v192
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c2_i32_174 : BitVec 32 := 2#32
  let v272 : BitVec 32 := Scalar.muli v59 c2_i32_174
  let v273 : BitVec 32 := Scalar.addi v193 v272
  let c2_i32_16 : BitVec 32 := 2#32
  let v42 : BitVec 32 := Scalar.remsi v20 c2_i32_16
  let c1_i32_227 : BitVec 32 := 1#32
  let v352 : BitVec 32 := Scalar.muli v42 c1_i32_227
  let v353 : BitVec 32 := Scalar.addi v273 v352
  let c1_i32_287 : BitVec 32 := 1#32
  let v445 : BitVec 32 := Scalar.muli v42 c1_i32_287
  let v446 : BitVec 32 := Scalar.subi v353 v445
  let c2_i32_339 : BitVec 32 := 2#32
  let v509 : BitVec 32 := Scalar.muli v59 c2_i32_339
  let v510 : BitVec 32 := Scalar.subi v446 v509
  let v578 : BitVec 32 := Scalar.addi c16_i32_394 v510
  let c64_i32_395 : BitVec 32 := 64#32
  let v579 : BitVec 32 := Scalar.muli v578 c64_i32_395
  let c0_i32_400 : BitVec 32 := 0#32
  ![v579.toNat, 0]
def k2_dev18 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_24 : BitVec 32 := 1#32
  let v60 : BitVec 32 := Scalar.addi v2 c1_i32_24
  let c2_i32_26 : BitVec 32 := 2#32
  let c4_i32 : BitVec 32 := 4#32
  let v3 : BitVec 32 := Scalar.remsi v2 c4_i32
  let c2_i32_25 : BitVec 32 := 2#32
  let v61 : BitVec 32 := Scalar.remsi v3 c2_i32_25
  let v62 : BitVec 32 := Scalar.muli c2_i32_26 v61
  let v63 : BitVec 32 := Scalar.subi v60 v62
  let c1_i32_398 : BitVec 32 := 1#32
  let v580 : BitVec 32 := Scalar.muli v63 c1_i32_398
  let v581 : BitVec 32 := Scalar.addi c0_i32_399 v580
  v581.toNat
def k2_off35 (d0 : Dev nD) : Fin 2 → Nat :=
  let c0_i32_413 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c4_i32_109 : BitVec 32 := 4#32
  let v170 : BitVec 32 := Scalar.muli v41 c4_i32_109
  let v171 : BitVec 32 := Scalar.addi v91 v170
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let c2_i32_162 : BitVec 32 := 2#32
  let v250 : BitVec 32 := Scalar.muli v42 c2_i32_162
  let v251 : BitVec 32 := Scalar.addi v171 v250
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c1_i32_215 : BitVec 32 := 1#32
  let v330 : BitVec 32 := Scalar.muli v59 c1_i32_215
  let v331 : BitVec 32 := Scalar.addi v251 v330
  let c1_i32_276 : BitVec 32 := 1#32
  let v430 : BitVec 32 := Scalar.muli v59 c1_i32_276
  let v431 : BitVec 32 := Scalar.subi v331 v430
  let c2_i32_328 : BitVec 32 := 2#32
  let v494 : BitVec 32 := Scalar.muli v42 c2_i32_328
  let v495 : BitVec 32 := Scalar.subi v431 v494
  let c4_i32_380 : BitVec 32 := 4#32
  let v558 : BitVec 32 := Scalar.muli v41 c4_i32_380
  let v559 : BitVec 32 := Scalar.subi v495 v558
  let c1_i32_381 : BitVec 32 := 1#32
  let v560 : BitVec 32 := Scalar.subi c1_i32_381 v41
  let c4_i32_382 : BitVec 32 := 4#32
  let v561 : BitVec 32 := Scalar.muli v560 c4_i32_382
  let v562 : BitVec 32 := Scalar.addi v559 v561
  let v598 : BitVec 32 := Scalar.addi c0_i32_413 v562
  let c64_i32_414 : BitVec 32 := 64#32
  let v599 : BitVec 32 := Scalar.muli v598 c64_i32_414
  let v600 : Index := Scalar.indexCast v599
  let c0_415 : Index := 0#32
  ![v600.toNat, 0]
def k2_off36 (d0 : Dev nD) : Fin 2 → Nat :=
  let c16_i32_428 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c4_i32_121 : BitVec 32 := 4#32
  let v192 : BitVec 32 := Scalar.muli v24 c4_i32_121
  let v193 : BitVec 32 := Scalar.addi v113 v192
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c2_i32_174 : BitVec 32 := 2#32
  let v272 : BitVec 32 := Scalar.muli v59 c2_i32_174
  let v273 : BitVec 32 := Scalar.addi v193 v272
  let c2_i32_16 : BitVec 32 := 2#32
  let v42 : BitVec 32 := Scalar.remsi v20 c2_i32_16
  let c1_i32_227 : BitVec 32 := 1#32
  let v352 : BitVec 32 := Scalar.muli v42 c1_i32_227
  let v353 : BitVec 32 := Scalar.addi v273 v352
  let c1_i32_287 : BitVec 32 := 1#32
  let v445 : BitVec 32 := Scalar.muli v42 c1_i32_287
  let v446 : BitVec 32 := Scalar.subi v353 v445
  let c2_i32_339 : BitVec 32 := 2#32
  let v509 : BitVec 32 := Scalar.muli v59 c2_i32_339
  let v510 : BitVec 32 := Scalar.subi v446 v509
  let c4_i32_391 : BitVec 32 := 4#32
  let v573 : BitVec 32 := Scalar.muli v24 c4_i32_391
  let v574 : BitVec 32 := Scalar.subi v510 v573
  let c1_i32_392 : BitVec 32 := 1#32
  let v575 : BitVec 32 := Scalar.subi c1_i32_392 v24
  let c4_i32_393 : BitVec 32 := 4#32
  let v576 : BitVec 32 := Scalar.muli v575 c4_i32_393
  let v577 : BitVec 32 := Scalar.addi v574 v576
  let v615 : BitVec 32 := Scalar.addi c16_i32_428 v577
  let c64_i32_429 : BitVec 32 := 64#32
  let v616 : BitVec 32 := Scalar.muli v615 c64_i32_429
  let v617 : Index := Scalar.indexCast v616
  let c0_430 : Index := 0#32
  ![v617.toNat, 0]
def k2_off37 (d0 : Dev nD) : Fin 2 → Nat :=
  let c0_i32_435 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c4_i32_109 : BitVec 32 := 4#32
  let v170 : BitVec 32 := Scalar.muli v41 c4_i32_109
  let v171 : BitVec 32 := Scalar.addi v91 v170
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let c2_i32_162 : BitVec 32 := 2#32
  let v250 : BitVec 32 := Scalar.muli v42 c2_i32_162
  let v251 : BitVec 32 := Scalar.addi v171 v250
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c1_i32_215 : BitVec 32 := 1#32
  let v330 : BitVec 32 := Scalar.muli v59 c1_i32_215
  let v331 : BitVec 32 := Scalar.addi v251 v330
  let c1_i32_276 : BitVec 32 := 1#32
  let v430 : BitVec 32 := Scalar.muli v59 c1_i32_276
  let v431 : BitVec 32 := Scalar.subi v331 v430
  let c2_i32_328 : BitVec 32 := 2#32
  let v494 : BitVec 32 := Scalar.muli v42 c2_i32_328
  let v495 : BitVec 32 := Scalar.subi v431 v494
  let c4_i32_380 : BitVec 32 := 4#32
  let v558 : BitVec 32 := Scalar.muli v41 c4_i32_380
  let v559 : BitVec 32 := Scalar.subi v495 v558
  let v627 : BitVec 32 := Scalar.addi c0_i32_435 v559
  let c64_i32_436 : BitVec 32 := 64#32
  let v628 : BitVec 32 := Scalar.muli v627 c64_i32_436
  let c0_i32_441 : BitVec 32 := 0#32
  ![v628.toNat, 0]
def k2_dev19 (d0 : Dev nD) : Nat :=
  let c0_i32_440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_24 : BitVec 32 := 1#32
  let v60 : BitVec 32 := Scalar.addi v2 c1_i32_24
  let c2_i32_26 : BitVec 32 := 2#32
  let c4_i32 : BitVec 32 := 4#32
  let v3 : BitVec 32 := Scalar.remsi v2 c4_i32
  let c2_i32_25 : BitVec 32 := 2#32
  let v61 : BitVec 32 := Scalar.remsi v3 c2_i32_25
  let v62 : BitVec 32 := Scalar.muli c2_i32_26 v61
  let v63 : BitVec 32 := Scalar.subi v60 v62
  let c1_i32_439 : BitVec 32 := 1#32
  let v629 : BitVec 32 := Scalar.muli v63 c1_i32_439
  let v630 : BitVec 32 := Scalar.addi c0_i32_440 v629
  v630.toNat
def k2_off38 (d0 : Dev nD) : Fin 2 → Nat :=
  let c16_i32_446 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c4_i32_121 : BitVec 32 := 4#32
  let v192 : BitVec 32 := Scalar.muli v24 c4_i32_121
  let v193 : BitVec 32 := Scalar.addi v113 v192
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c2_i32_174 : BitVec 32 := 2#32
  let v272 : BitVec 32 := Scalar.muli v59 c2_i32_174
  let v273 : BitVec 32 := Scalar.addi v193 v272
  let c2_i32_16 : BitVec 32 := 2#32
  let v42 : BitVec 32 := Scalar.remsi v20 c2_i32_16
  let c1_i32_227 : BitVec 32 := 1#32
  let v352 : BitVec 32 := Scalar.muli v42 c1_i32_227
  let v353 : BitVec 32 := Scalar.addi v273 v352
  let c1_i32_287 : BitVec 32 := 1#32
  let v445 : BitVec 32 := Scalar.muli v42 c1_i32_287
  let v446 : BitVec 32 := Scalar.subi v353 v445
  let c2_i32_339 : BitVec 32 := 2#32
  let v509 : BitVec 32 := Scalar.muli v59 c2_i32_339
  let v510 : BitVec 32 := Scalar.subi v446 v509
  let c4_i32_391 : BitVec 32 := 4#32
  let v573 : BitVec 32 := Scalar.muli v24 c4_i32_391
  let v574 : BitVec 32 := Scalar.subi v510 v573
  let v642 : BitVec 32 := Scalar.addi c16_i32_446 v574
  let c64_i32_447 : BitVec 32 := 64#32
  let v643 : BitVec 32 := Scalar.muli v642 c64_i32_447
  let c0_i32_452 : BitVec 32 := 0#32
  ![v643.toNat, 0]
def k2_dev20 (d0 : Dev nD) : Nat :=
  let c0_i32_451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v64 : BitVec 32 := Scalar.addi v2 c3_i32
  let c2_i32_27 : BitVec 32 := 2#32
  let c4_i32 : BitVec 32 := 4#32
  let v3 : BitVec 32 := Scalar.remsi v2 c4_i32
  let v65 : BitVec 32 := Scalar.muli c2_i32_27 v3
  let v66 : BitVec 32 := Scalar.subi v64 v65
  let c1_i32_450 : BitVec 32 := 1#32
  let v644 : BitVec 32 := Scalar.muli v66 c1_i32_450
  let v645 : BitVec 32 := Scalar.addi c0_i32_451 v644
  v645.toNat
def k2_off39 (d0 : Dev nD) : Fin 2 → Nat :=
  let c0_i32_465 : BitVec 32 := 0#32
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c8_i32_52 : BitVec 32 := 8#32
  let v90 : BitVec 32 := Scalar.muli v24 c8_i32_52
  let v91 : BitVec 32 := Scalar.addi c0_i32_53 v90
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c4_i32_109 : BitVec 32 := 4#32
  let v170 : BitVec 32 := Scalar.muli v41 c4_i32_109
  let v171 : BitVec 32 := Scalar.addi v91 v170
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_16 : BitVec 32 := 2#32
  let v42 : BitVec 32 := Scalar.remsi v20 c2_i32_16
  let c2_i32_162 : BitVec 32 := 2#32
  let v250 : BitVec 32 := Scalar.muli v42 c2_i32_162
  let v251 : BitVec 32 := Scalar.addi v171 v250
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c1_i32_215 : BitVec 32 := 1#32
  let v330 : BitVec 32 := Scalar.muli v59 c1_i32_215
  let v331 : BitVec 32 := Scalar.addi v251 v330
  let c1_i32_276 : BitVec 32 := 1#32
  let v430 : BitVec 32 := Scalar.muli v59 c1_i32_276
  let v431 : BitVec 32 := Scalar.subi v331 v430
  let c2_i32_328 : BitVec 32 := 2#32
  let v494 : BitVec 32 := Scalar.muli v42 c2_i32_328
  let v495 : BitVec 32 := Scalar.subi v431 v494
  let c4_i32_380 : BitVec 32 := 4#32
  let v558 : BitVec 32 := Scalar.muli v41 c4_i32_380
  let v559 : BitVec 32 := Scalar.subi v495 v558
  let c8_i32_432 : BitVec 32 := 8#32
  let v622 : BitVec 32 := Scalar.muli v24 c8_i32_432
  let v623 : BitVec 32 := Scalar.subi v559 v622
  let c1_i32_433 : BitVec 32 := 1#32
  let v624 : BitVec 32 := Scalar.subi c1_i32_433 v24
  let c8_i32_434 : BitVec 32 := 8#32
  let v625 : BitVec 32 := Scalar.muli v624 c8_i32_434
  let v626 : BitVec 32 := Scalar.addi v623 v625
  let v662 : BitVec 32 := Scalar.addi c0_i32_465 v626
  let c64_i32_466 : BitVec 32 := 64#32
  let v663 : BitVec 32 := Scalar.muli v662 c64_i32_466
  let v664 : Index := Scalar.indexCast v663
  let c0_467 : Index := 0#32
  ![v664.toNat, 0]
def k2_off40 (d0 : Dev nD) : Fin 2 → Nat :=
  let c16_i32_480 : BitVec 32 := 16#32
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_10 : BitVec 32 := 0#32
  let v26 : BitVec 1 := Scalar.cmpi .sgt v3 c0_i32_10
  let v27 : BitVec 32 := Scalar.extui v26
  let c0_i32_11 : BitVec 32 := 0#32
  let v28 : BitVec 1 := Scalar.cmpi .slt v3 c0_i32_11
  let v29 : BitVec 32 := Scalar.extui v28
  let v30 : BitVec 32 := Scalar.subi v27 v29
  let c2_i32_9 : BitVec 32 := 2#32
  let c0_i32_12 : BitVec 32 := 0#32
  let v31 : BitVec 1 := Scalar.cmpi .sgt c2_i32_9 c0_i32_12
  let v32 : BitVec 32 := Scalar.extui v31
  let c0_i32_13 : BitVec 32 := 0#32
  let v33 : BitVec 1 := Scalar.cmpi .slt c2_i32_9 c0_i32_13
  let v34 : BitVec 32 := Scalar.extui v33
  let v35 : BitVec 32 := Scalar.subi v32 v34
  let v36 : BitVec 1 := Scalar.cmpi .ne v30 v35
  let v37 : BitVec 32 := Scalar.remsi v3 c2_i32_9
  let c0_i32_14 : BitVec 32 := 0#32
  let v38 : BitVec 1 := Scalar.cmpi .ne v37 c0_i32_14
  let v39 : BitVec 1 := Scalar.andi v36 v38
  let v25 : BitVec 32 := Scalar.divsi v3 c2_i32_9
  let c1_i32_15 : BitVec 32 := 1#32
  let v40 : BitVec 32 := Scalar.subi v25 c1_i32_15
  let v41 : BitVec 32 := Scalar.select v39 v40 v25
  let c8_i32_65 : BitVec 32 := 8#32
  let v112 : BitVec 32 := Scalar.muli v41 c8_i32_65
  let v113 : BitVec 32 := Scalar.addi c0_i32_66 v112
  let c1_i32_6 : BitVec 32 := 1#32
  let v21 : BitVec 1 := Scalar.cmpi .eq v3 c1_i32_6
  let c2_i32 : BitVec 32 := 2#32
  let v22 : BitVec 1 := Scalar.cmpi .eq v3 c2_i32
  let v23 : BitVec 1 := Scalar.ori v21 v22
  let c1_i32_7 : BitVec 32 := 1#32
  let c0_i32_8 : BitVec 32 := 0#32
  let v24 : BitVec 32 := Scalar.select v23 c1_i32_7 c0_i32_8
  let c4_i32_121 : BitVec 32 := 4#32
  let v192 : BitVec 32 := Scalar.muli v24 c4_i32_121
  let v193 : BitVec 32 := Scalar.addi v113 v192
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_18 : BitVec 32 := 0#32
  let v44 : BitVec 1 := Scalar.cmpi .sgt v20 c0_i32_18
  let v45 : BitVec 32 := Scalar.extui v44
  let c0_i32_19 : BitVec 32 := 0#32
  let v46 : BitVec 1 := Scalar.cmpi .slt v20 c0_i32_19
  let v47 : BitVec 32 := Scalar.extui v46
  let v48 : BitVec 32 := Scalar.subi v45 v47
  let c2_i32_17 : BitVec 32 := 2#32
  let c0_i32_20 : BitVec 32 := 0#32
  let v49 : BitVec 1 := Scalar.cmpi .sgt c2_i32_17 c0_i32_20
  let v50 : BitVec 32 := Scalar.extui v49
  let c0_i32_21 : BitVec 32 := 0#32
  let v51 : BitVec 1 := Scalar.cmpi .slt c2_i32_17 c0_i32_21
  let v52 : BitVec 32 := Scalar.extui v51
  let v53 : BitVec 32 := Scalar.subi v50 v52
  let v54 : BitVec 1 := Scalar.cmpi .ne v48 v53
  let v55 : BitVec 32 := Scalar.remsi v20 c2_i32_17
  let c0_i32_22 : BitVec 32 := 0#32
  let v56 : BitVec 1 := Scalar.cmpi .ne v55 c0_i32_22
  let v57 : BitVec 1 := Scalar.andi v54 v56
  let v43 : BitVec 32 := Scalar.divsi v20 c2_i32_17
  let c1_i32_23 : BitVec 32 := 1#32
  let v58 : BitVec 32 := Scalar.subi v43 c1_i32_23
  let v59 : BitVec 32 := Scalar.select v57 v58 v43
  let c2_i32_174 : BitVec 32 := 2#32
  let v272 : BitVec 32 := Scalar.muli v59 c2_i32_174
  let v273 : BitVec 32 := Scalar.addi v193 v272
  let c2_i32_16 : BitVec 32 := 2#32
  let v42 : BitVec 32 := Scalar.remsi v20 c2_i32_16
  let c1_i32_227 : BitVec 32 := 1#32
  let v352 : BitVec 32 := Scalar.muli v42 c1_i32_227
  let v353 : BitVec 32 := Scalar.addi v273 v352
  let c1_i32_287 : BitVec 32 := 1#32
  let v445 : BitVec 32 := Scalar.muli v42 c1_i32_287
  let v446 : BitVec 32 := Scalar.subi v353 v445
  let c2_i32_339 : BitVec 32 := 2#32
  let v509 : BitVec 32 := Scalar.muli v59 c2_i32_339
  let v510 : BitVec 32 := Scalar.subi v446 v509
  let c4_i32_391 : BitVec 32 := 4#32
  let v573 : BitVec 32 := Scalar.muli v24 c4_i32_391
  let v574 : BitVec 32 := Scalar.subi v510 v573
  let c8_i32_443 : BitVec 32 := 8#32
  let v637 : BitVec 32 := Scalar.muli v41 c8_i32_443
  let v638 : BitVec 32 := Scalar.subi v574 v637
  let c1_i32_444 : BitVec 32 := 1#32
  let v639 : BitVec 32 := Scalar.subi c1_i32_444 v41
  let c8_i32_445 : BitVec 32 := 8#32
  let v640 : BitVec 32 := Scalar.muli v639 c8_i32_445
  let v641 : BitVec 32 := Scalar.addi v638 v640
  let v679 : BitVec 32 := Scalar.addi c16_i32_480 v641
  let c64_i32_481 : BitVec 32 := 64#32
  let v680 : BitVec 32 := Scalar.muli v679 c64_i32_481
  let v681 : Index := Scalar.indexCast v680
  let c0_482 : Index := 0#32
  ![v681.toNat, 0]
abbrev stage2_0 : Fin 1 → Memref sig .tc .vmem S1024x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2048x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S1x2048x16384 : Shape := ⟨3, ![1, 2048, 16384]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x128x2048x2048 : Shape := ⟨4, ![1, 128, 2048, 2048]⟩
abbrev S1x1x2048x2048 : Shape := ⟨4, ![1, 1, 2048, 2048]⟩
abbrev S1x128x2048 : Shape := ⟨3, ![1, 128, 2048]⟩
abbrev S1x128x2048x1 : Shape := ⟨4, ![1, 128, 2048, 1]⟩
abbrev S1x1x2048x1 : Shape := ⟨4, ![1, 1, 2048, 1]⟩
abbrev S1x128x128x2048 : Shape := ⟨4, ![1, 128, 128, 2048]⟩

abbrev nBuf : Space → Nat
  | .hbm => 89
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x16384, .f32⟩
  | .hbm, ⟨2, _⟩ => ⟨S1x2048x128x128, .f32⟩
  | .hbm, ⟨3, _⟩ => ⟨S1x2048x128x128, .f32⟩
  | .hbm, ⟨4, _⟩ => ⟨S16384x1024, .f32⟩
  | .hbm, ⟨5, _⟩ => ⟨S1x2048x16384, .f32⟩
  | .hbm, ⟨6, _⟩ => ⟨S1x2048x128x128, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048, .i32⟩
  | .hbm, ⟨28, _⟩ => ⟨S_, .i32⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S1x2048, .i32⟩
  | .hbm, ⟨47, _⟩ => ⟨S2048x2048, .i32⟩
  | .hbm, ⟨48, _⟩ => ⟨S2048x2048, .i32⟩
  | .hbm, ⟨49, _⟩ => ⟨S2048x2048, .i1⟩
  | .hbm, ⟨50, _⟩ => ⟨S1x128x2048x2048, .f32⟩
  | .hbm, ⟨51, _⟩ => ⟨S_, .f32⟩
  | .hbm, ⟨52, _⟩ => ⟨S1x128x2048x2048, .f32⟩
  | .hbm, ⟨53, _⟩ => ⟨S1x128x2048x2048, .f32⟩
  | .hbm, ⟨54, _⟩ => ⟨S1x1x2048x2048, .i1⟩
  | .hbm, ⟨55, _⟩ => ⟨S_, .f32⟩
  | .hbm, ⟨56, _⟩ => ⟨S_, .f32⟩
  | .hbm, ⟨57, _⟩ => ⟨S1x128x2048x2048, .i1⟩
  | .hbm, ⟨58, _⟩ => ⟨S1x128x2048x2048, .f32⟩
  | .hbm, ⟨59, _⟩ => ⟨S1x128x2048x2048, .f32⟩
  | .hbm, ⟨60, _⟩ => ⟨S_, .f32⟩
  | .hbm, ⟨61, _⟩ => ⟨S1x128x2048, .f32⟩
  | .hbm, ⟨62, _⟩ => ⟨S1x128x2048x1, .f32⟩
  | .hbm, ⟨63, _⟩ => ⟨S1x128x2048x2048, .f32⟩
  | .hbm, ⟨64, _⟩ => ⟨S1x128x2048x2048, .f32⟩
  | .hbm, ⟨65, _⟩ => ⟨S1x128x2048x2048, .f32⟩
  | .hbm, ⟨66, _⟩ => ⟨S_, .i1⟩
  | .hbm, ⟨67, _⟩ => ⟨S2048, .i1⟩
  | .hbm, ⟨68, _⟩ => ⟨S1x1x2048x1, .i1⟩
  | .hbm, ⟨69, _⟩ => ⟨S_, .f32⟩
  | .hbm, ⟨70, _⟩ => ⟨S1x128x2048, .f32⟩
  | .hbm, ⟨71, _⟩ => ⟨S1x128x2048x1, .f32⟩
  | .hbm, ⟨72, _⟩ => ⟨S_, .f32⟩
  | .hbm, ⟨73, _⟩ => ⟨S_, .f32⟩
  | .hbm, ⟨74, _⟩ => ⟨S1x128x2048x1, .i1⟩
  | .hbm, ⟨75, _⟩ => ⟨S1x128x2048x1, .f32⟩
  | .hbm, ⟨76, _⟩ => ⟨S1x128x2048x1, .f32⟩
  | .hbm, ⟨77, _⟩ => ⟨S1x128x2048x2048, .f32⟩
  | .hbm, ⟨78, _⟩ => ⟨S1x128x2048x2048, .f32⟩
  | .hbm, ⟨79, _⟩ => ⟨S1x1x2048x1, .i1⟩
  | .hbm, ⟨80, _⟩ => ⟨S_, .f32⟩
  | .hbm, ⟨81, _⟩ => ⟨S_, .f32⟩
  | .hbm, ⟨82, _⟩ => ⟨S1x128x2048x2048, .i1⟩
  | .hbm, ⟨83, _⟩ => ⟨S1x128x2048x2048, .f32⟩
  | .hbm, ⟨84, _⟩ => ⟨S1x128x2048x2048, .f32⟩
  | .hbm, ⟨85, _⟩ => ⟨S1x128x128x2048, .f32⟩
  | .hbm, ⟨86, _⟩ => ⟨S1x2048x128x128, .f32⟩
  | .hbm, ⟨87, _⟩ => ⟨S1x2048x16384, .f32⟩
  | .hbm, ⟨88, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Mesh.lean ====
/-
# The exchange pattern of the all-reduce and the values it carries

Sixteen devices; the four exchange directions `x`, `y`, `z0`, `z1` pair device `c` with the device whose position differs
by the masks 1, 3, 4, 8. The result array has 2048 rows, in units of 64: half 0 (units 0 – 15) is reduced in the order
`x, y, z0, z1`, half 1 (units 16 – 31) in the order `y, x, z1, z0`. At step `k` of the reduce-scatter the active units of a
half are halved: one half is sent to the partner, the other kept and added to.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.AllReduce

open Cert.KernelIdeal Cert.KernelIdeal.Gen
open Idealize.ShloMosaic Idealize.ShloMosaic.TcCoe

variable {F : FTy → Type} [FloatOps F] [Named F]

/-! ## Partners -/

def mask : Fin 4 → Nat := ![1, 3, 4, 8]

/-- The device paired with `c` in direction `d`. -/
def pt (d : Fin 4) (c : Dev nD) : Dev nD := ⟨(c.val ^^^ mask d) % 16, Nat.mod_lt _ (by decide)⟩

theorem pt_pt (d : Fin 4) (c : Dev nD) : pt d (pt d c) = c := by revert d c; decide

/-- The direction half `hf` exchanges in at step `k`. -/
def dm (hf : Fin 2) (k : Fin 4) : Fin 4 := if hf = 0 then k else ![1, 0, 3, 2] k

/-- The partner of `c` in half `hf` at step `k`. -/
def P (hf : Fin 2) (k : Fin 4) (c : Dev nD) : Dev nD := pt (dm hf k) c

theorem P_P (hf : Fin 2) (k : Fin 4) (c : Dev nD) : P hf k (P hf k c) = c := pt_pt _ c

/-! ## Which rows -/

/-- The coordinate of `c` in direction `d`. -/
def bit (d : Fin 4) (c : Dev nD) : Nat :=
  ![if c.val % 4 = 1 ∨ c.val % 4 = 2 then 1 else 0, c.val % 4 / 2, c.val / 4 % 2, c.val / 8] d

/-- The first active unit of half `hf` before step `k`. -/
def act (hf : Fin 2) : Nat → Dev nD → Nat
  | 0, _ => 16 * hf.val
  | k + 1, c => act hf k c + bit (dm hf (Fin.ofNat 4 k)) c * (8 / 2 ^ k)

/-- The first unit sent at step `k`. -/
def snd (hf : Fin 2) (k : Nat) (c : Dev nD) : Nat := act hf k c + (1 - bit (dm hf (Fin.ofNat 4 k)) c) * (8 / 2 ^ k)

/-- The number of units active before step `k`; after it half as many. -/
def nu (k : Nat) : Nat := 16 / 2 ^ k

theorem act_zero (hf : Fin 2) (c : Dev nD) : act hf 0 c = 16 * hf.val := rfl

theorem snd_P (hf : Fin 2) (k : Fin 4) (c : Dev nD) : snd hf k (P hf k c) = act hf (k + 1) c := by
  revert hf k c; decide +kernel

theorem act_P (hf : Fin 2) (k : Fin 4) (c : Dev nD) : act hf (k + 1) (P hf k c) = snd hf k c := by
  revert hf k c; decide +kernel

/-- The units active before step `k` are those kept and those sent. -/
theorem act_split (hf : Fin 2) (k : Fin 4) (c : Dev nD) :
    (act hf (k + 1) c = act hf k c ∧ snd hf k c = act hf k c + nu (k + 1)
      ∨ snd hf k c = act hf k c ∧ act hf (k + 1) c = act hf k c + nu (k + 1)) ∧ nu k = nu (k + 1) + nu (k + 1)
      ∧ 16 * hf.val ≤ act hf k c ∧ act hf k c + nu k ≤ 16 * hf.val + 16 := by
  revert hf k c; decide +kernel

theorem act_range (hf : Fin 2) (c : Dev nD) : 16 * hf.val ≤ act hf 4 c ∧ act hf 4 c + 1 ≤ 16 * hf.val + 16 := by
  revert hf c; decide +kernel

/-- The device that ends the reduce-scatter with unit `u` of half `hf`. -/
def owner (hf : Fin 2) (u : Nat) : Dev nD :=
  ![(![0, 8, 4, 12, 3, 11, 7, 15, 1, 9, 5, 13, 2, 10, 6, 14] : Fin 16 → Dev nD) (Fin.ofNat 16 u),
    (![0, 4, 8, 12, 1, 5, 9, 13, 3, 7, 11, 15, 2, 6, 10, 14] : Fin 16 → Dev nD) (Fin.ofNat 16 u)] hf

theorem owner_act (hf : Fin 2) (c : Dev nD) : owner hf (act hf 4 c) = c := by revert hf c; decide +kernel

/-! ## Index sets of the result's shape -/

abbrev SR : Shape := S2048x1024

/-- The indices in the `n` units from unit `a`. -/
def rowsU (a n : Nat) : Finset SR.Idx := Finset.univ.filter fun i => 64 * a ≤ (i 0).val ∧ (i 0).val < 64 * (a + n)

theorem mem_rowsU {a n : Nat} {i : SR.Idx} : i ∈ rowsU a n ↔ 64 * a ≤ (i 0).val ∧ (i 0).val < 64 * (a + n) := by
  simp [rowsU]

/-- The indices of half `hf`. -/
def half (hf : Fin 2) : Finset SR.Idx := rowsU (16 * hf.val) 16

theorem rows_union (hf : Fin 2) (k : Fin 4) (c : Dev nD) :
    rowsU (act hf k c) (nu k) = rowsU (act hf (k + 1) c) (nu (k + 1)) ∪ rowsU (snd hf k c) (nu (k + 1)) := by
  obtain ⟨h, hn, -, -⟩ := act_split hf k c
  ext i
  rw [Finset.mem_union, mem_rowsU, mem_rowsU, mem_rowsU]
  rcases h with ⟨h1, h2⟩ | ⟨h1, h2⟩ <;> rw [h1, h2] <;> omega

theorem rows_disjoint (hf : Fin 2) (k : Fin 4) (c : Dev nD) :
    Disjoint (rowsU (act hf (k + 1) c) (nu (k + 1))) (rowsU (snd hf k c) (nu (k + 1))) := by
  obtain ⟨h, hn, -, -⟩ := act_split hf k c
  rw [Finset.disjoint_left]
  intro i
  rw [mem_rowsU, mem_rowsU]
  rcases h with ⟨h1, h2⟩ | ⟨h1, h2⟩ <;> rw [h1, h2] <;> omega

theorem act_subset (hf : Fin 2) (k : Fin 4) (c : Dev nD) : rowsU (act hf k c) (nu k) ⊆ half hf := by
  obtain ⟨-, -, h1, h2⟩ := act_split hf k c
  intro i; rw [half, mem_rowsU, mem_rowsU]; omega

theorem keep_subset (hf : Fin 2) (k : Fin 4) (c : Dev nD) : rowsU (act hf (k + 1) c) (nu (k + 1)) ⊆ half hf :=
  fun i hi => act_subset hf k c (by rw [rows_union]; exact Finset.mem_union_left _ hi)

theorem snd_subset (hf : Fin 2) (k : Fin 4) (c : Dev nD) : rowsU (snd hf k c) (nu (k + 1)) ⊆ half hf :=
  fun i hi => act_subset hf k c (by rw [rows_union]; exact Finset.mem_union_right _ hi)

/-! ## The values -/

/-- Rounding to the narrow format and widening back, the printed casts. -/
def tr (x : F .f32) : F .bf16 := FloatOps.truncf .bf16 bitsLt_bf16_f32 x
def ex (x : F .bf16) : F .f32 := FloatOps.extf .f32 bitsLt_bf16_f32 x

/-- Before step `k` of the reduce-scatter of half `hf`, from the devices' partial results `X`. -/
def A (X : Dev nD → SR.Idx → F .f32) (hf : Fin 2) : Nat → Dev nD → SR.Idx → F .f32
  | 0, c => X c
  | k + 1, c => fun i =>
    if i ∈ rowsU (act hf (k + 1) c) (nu (k + 1)) then
      FloatOps.addf (A X hf k c i) (ex (tr (A X hf k (P hf (Fin.ofNat 4 k) c) i)))
    else A X hf k c i

/-- The finished rows in the narrow format: what the owner of the row's unit gathers out. -/
def T (X : Dev nD → SR.Idx → F .f32) (hf : Fin 2) (i : SR.Idx) : F .bf16 := tr (A X hf 4 (owner hf ((i 0).val / 64)) i)

/-- During the all-gather of half `hf`: before the step that receives what reduce-scatter step `k - 1` sent. -/
def B (X : Dev nD → SR.Idx → F .f32) (hf : Fin 2) (k : Nat) (c : Dev nD) (i : SR.Idx) : F .f32 :=
  if i ∈ rowsU (act hf k c) (nu k) ∧ i ∉ rowsU (act hf 4 c) 1 then ex (T X hf i) else A X hf 4 c i

end Cert.AllReduce
-- ==== Proof.Sched.lean ====
/-
# The exchange protocol

Per device one barrier cell and thirty-two transfer cells: reduce-scatter send and receive, all-gather send and receive,
each per half and step. Every cell has one round. The barrier cell's four duties are the four partners' signals; each hands
over the two landing buffers its partner's copies of that direction go to. A reduce-scatter receive hands over the landing
buffer holding the partner's rounded rows together with the partner's own rows of the gather buffer they were sent from: the
rows that the receiver will later write back into. An all-gather receive hands over those rows, filled.
-/
module

public import proofs.«01_k».proof.Proof.Mesh

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers -/

abbrev oM : Memref sig .tc .vmem S2048x1024 .f32 := Memref.whole cc2_stg2_0
abbrev gM : Memref sig .tc .vmem S2048x1024 .bf16 := Memref.whole cc2_scratch0

/-- Elements `S` of the result's staging buffer, and of the gather buffer, of device `c`. -/
abbrev oP (c : Dev nD) (S : Finset SR.Idx) (f : SR.Idx → F .f32) : sProp 𝕄 :=
  ((c : Thread nD τ).loc cc2_stg2_0 ↦[S]{fullShare} f)
abbrev gP (c : Dev nD) (S : Finset SR.Idx) (f : SR.Idx → F .bf16) : sProp 𝕄 :=
  ((c : Thread nD τ).loc cc2_scratch0 ↦[S]{fullShare} f)
def gAny (c : Dev nD) (S : Finset SR.Idx) : sProp 𝕄 := iprop(∃ f, gP (F := F) c S f)

/-- A landing buffer of device `c`, at any contents; and at contents that agree with `G` on the rows from unit `a`. -/
def lAny (c : Dev nD) (r : Nat) (m : Memref sig .tc .vmem ⟨2, ![r, 1024]⟩ .bf16) : sProp 𝕄 :=
  iprop(∃ f : Buf (Elt F) (m.view.loc (c : Thread nD τ)), (m.view.loc (c : Thread nD τ) ↦[m.view.set]{fullShare} f))
def lAt (c : Dev nD) (a : Nat) (G : SR.Idx → F .bf16) (r : Nat) (m : Memref sig .tc .vmem ⟨2, ![r, 1024]⟩ .bf16) : sProp 𝕄 :=
  iprop(∃ f : Buf (Elt F) (m.view.loc (c : Thread nD τ)),
    ⌜∀ (j : Shape.Idx ⟨2, ![r, 1024]⟩) (i : SR.Idx), (i 0).val = 64 * a + (j 0).val → (i 1).val = (j 1).val → m.view.read (Elt F) f j = G i⌝
    ∗ (m.view.loc (c : Thread nD τ) ↦[m.view.set]{fullShare} f))

/-- The landing buffer of half `hf`, step `k`. -/
def onBuf (Φ : (r : Nat) → Memref sig .tc .vmem ⟨2, ![r, 1024]⟩ .bf16 → sProp 𝕄) : Fin 2 → Fin 4 → sProp 𝕄
  | 0, 0 => Φ 512 (Memref.whole cc2_scratch1)
  | 0, 1 => Φ 256 (Memref.whole cc2_scratch2)
  | 0, 2 => Φ 128 (Memref.whole cc2_scratch3)
  | 0, 3 => Φ 64 (Memref.whole cc2_scratch4)
  | 1, 0 => Φ 512 (Memref.whole cc2_scratch5)
  | 1, 1 => Φ 256 (Memref.whole cc2_scratch6)
  | 1, 2 => Φ 128 (Memref.whole cc2_scratch7)
  | 1, 3 => Φ 64 (Memref.whole cc2_scratch8)

/-! ## Cells -/

abbrev barS : Sem sig := (SemArray.scalar (sig.barrier 0 rfl) : Sems sig S_).sem

/-- A cell of a device: its barrier cell, or by phase (reduce-scatter send, receive, all-gather send, receive), half, step. -/
abbrev CI : Type := Option (Fin 4 × Fin 2 × Fin 4)

def dsem (ph : Fin 4) (hf : Fin 2) (k : Fin 4) : DmaSem sig := ⟨19 + 8 * ph.val + 4 * hf.val + k.val, by
  have h1 := ph.isLt; have h2 := hf.isLt; have h3 := k.isLt
  show _ < 51
  omega⟩

def csem : CI → SemLoc sig
  | none => .reg barS
  | some (ph, hf, k) => .dma (dsem ph hf k)

def kcell (p : Dev nD × CI) : GSem nD τ sig := ((p.1 : Thread nD τ), csem p.2)

def ciOf : SemLoc sig → Option CI
  | .reg s => if s = barS then some none else none
  | .dma q => if 19 ≤ q.val then some (some (Fin.ofNat 4 ((q.val - 19) / 8), Fin.ofNat 2 ((q.val - 19) / 4), Fin.ofNat 4 (q.val - 19))) else none

theorem ciOf_csem (i : CI) : ciOf (csem i) = some i := by revert i; decide

theorem csem_inj : Function.Injective csem := fun i j h => Option.some.inj (by rw [← ciOf_csem i, ← ciOf_csem j, h])

theorem kcell_inj : Function.Injective kcell := fun p q h => by
  have h1 : p.1 = q.1 := congrArg (fun g : GSem nD τ sig => g.1.1) h
  have h2 : csem p.2 = csem q.2 := congrArg (fun g : GSem nD τ sig => g.2) h
  exact Prod.ext h1 (csem_inj h2)

/-- The credit of a reduce-scatter copy of step `k`. -/
def N : Fin 4 → ℕ :=
  ![(Memref.whole cc2_scratch1 : Memref sig .tc .vmem S512x1024 .bf16).view.dmaCredit,
    (Memref.whole cc2_scratch2 : Memref sig .tc .vmem S256x1024 .bf16).view.dmaCredit,
    (Memref.whole cc2_scratch3 : Memref sig .tc .vmem S128x1024 .bf16).view.dmaCredit,
    (Memref.whole cc2_scratch4 : Memref sig .tc .vmem S64x1024 .bf16).view.dmaCredit]

theorem N_pos (k : Fin 4) : 0 < N k := by
  have h : 0 < N 0 ∧ 0 < N 1 ∧ 0 < N 2 ∧ 0 < N 3 :=
    ⟨View.dmaCredit_pos _ (by decide), View.dmaCredit_pos _ (by decide), View.dmaCredit_pos _ (by decide), View.dmaCredit_pos _ (by decide)⟩
  obtain ⟨h0, h1, h2, h3⟩ := h
  fin_cases k <;> assumption

/-- The reduce-scatter step whose rows the all-gather step `k` returns: step 0 returns step 3's. -/
def rv (k : Fin 4) : Fin 4 := ![3, 2, 1, 0] k

/-- What one duty of a cell is worth. -/
def amt : CI → ℕ
  | none => 1
  | some (ph, _, k) => if ph.val < 2 then N k else N (rv k)

theorem amt_0 (hf : Fin 2) (k : Fin 4) : amt (some (0, hf, k)) = N k := by simp [amt]
theorem amt_1 (hf : Fin 2) (k : Fin 4) : amt (some (1, hf, k)) = N k := by simp [amt]
theorem amt_2 (hf : Fin 2) (k : Fin 4) : amt (some (2, hf, k)) = N (rv k) := by simp [amt]
theorem amt_3 (hf : Fin 2) (k : Fin 4) : amt (some (3, hf, k)) = N (rv k) := by simp [amt]

theorem amt_pos (i : CI) : 0 < amt i := by
  rcases i with _ | ⟨ph, hf, k⟩
  · exact Nat.one_pos
  · simp only [amt]; split <;> exact N_pos _

/-! ## Payloads -/

variable (X : Dev nD → SR.Idx → F .f32)

/-- Every cell of `c` is open. -/
def near (c : Dev nD) : sProp 𝕄 := bigSep Finset.univ fun i : CI => reached ER (kcell (c, i)) 0

/-- What the partner in direction `d` hands to `c` at the entry: its two landing buffers for `c`'s copies, and that its cells
    are open. -/
def barPay (d : Fin 4) (c : Dev nD) : sProp 𝕄 :=
  iprop((onBuf (lAny (F := F) (pt d c)) 0 (dm 0 d) ∗ onBuf (lAny (F := F) (pt d c)) 1 (dm 1 d)) ∗ near (F := F) (pt d c))

def rsPay (hf : Fin 2) (k : Fin 4) (c : Dev nD) : sProp 𝕄 :=
  iprop(onBuf (lAt c (act hf (k + 1) c) (fun i => tr (A X hf k (P hf k c) i))) hf k
    ∗ gAny (F := F) (P hf k c) (rowsU (act hf (k + 1) c) (nu (k + 1))))

def agBack (hf : Fin 2) (k : Fin 4) (c : Dev nD) : sProp 𝕄 := gP c (rowsU (act hf (k + 1) c) (nu (k + 1))) (T X hf)
def agPay (hf : Fin 2) (k : Fin 4) (c : Dev nD) : sProp 𝕄 := gP c (rowsU (snd hf k c) (nu (k + 1))) (T X hf)

def pay (c : Dev nD) : CI → Fin 4 → sProp 𝕄
  | none, d => barPay (F := F) d c
  | some (0, _, _), _ => iprop(emp)
  | some (1, hf, k), _ => rsPay X hf k c
  | some (2, hf, k), _ => agBack X hf (rv k) c
  | some (3, hf, k), _ => agPay X hf (rv k) c

def dut : CI → Finset (Fin 4)
  | none => Finset.univ
  | some _ => {0}

def Rd : Rounds.Schedule (GSem nD τ sig) (Fin 4) 𝕄 where
  duties g r := if r = 0 ∧ g.1.2 = .tc then ((ciOf g.2).map dut).getD ∅ else ∅
  unitless _ := False
  amount g _ _ := ((ciOf g.2).map amt).getD 1
  payload g _ d := ((ciOf g.2).map fun i => pay X g.1.1 i d).getD iprop(emp)
  amount_pos g _ _ _ := by
    rcases ciOf g.2 with _ | i
    · exact Nat.one_pos
    · exact amt_pos i

omit [FloatOps F] [Named F] in
instance gAny_storable (c : Dev nD) (S) : BI.Storable (upEmb : UEmb _ 𝕄) (gAny (F := F) c S) := by unfold gAny; infer_instance
omit [FloatOps F] [Named F] in
instance lAny_storable (c : Dev nD) (r m) : BI.Storable (upEmb : UEmb _ 𝕄) (lAny (F := F) c r m) := by unfold lAny; infer_instance
omit [FloatOps F] [Named F] in
instance lAt_storable (c : Dev nD) (a G r m) : BI.Storable (upEmb : UEmb _ 𝕄) (lAt (F := F) c a G r m) := by unfold lAt; infer_instance
omit [FloatOps F] [Named F] in
instance onBuf_storable (Φ : (r : Nat) → Memref sig .tc .vmem ⟨2, ![r, 1024]⟩ .bf16 → sProp 𝕄) [∀ r m, BI.Storable (upEmb : UEmb _ 𝕄) (Φ r m)]
    (hf : Fin 2) (k : Fin 4) : BI.Storable (upEmb : UEmb _ 𝕄) (onBuf Φ hf k) := by
  unfold onBuf; split <;> infer_instance

instance near_persistent (c : Dev nD) : BI.Persistent (near (F := F) c) := by unfold near; infer_instance
instance near_storable (c : Dev nD) : BI.Storable (upEmb : UEmb _ 𝕄) (near (F := F) c) := by unfold near; infer_instance

instance pay_storable (c : Dev nD) (i : CI) (d : Fin 4) : BI.Storable (upEmb : UEmb _ 𝕄) (pay X c i d) := by
  unfold pay barPay rsPay agBack agPay; split <;> infer_instance

instance Rd_payload_storable (g : GSem nD τ sig) (r : ℕ) (d : Fin 4) :
    BI.Storable (upEmb : UEmb _ 𝕄) ((Rd X).payload g r d) := by
  show BI.Storable upEmb (((ciOf g.2).map fun i => pay X g.1.1 i d).getD iprop(emp))
  rcases ciOf g.2 with _ | i
  · show BI.Storable upEmb iprop(emp); infer_instance
  · exact pay_storable X g.1.1 i d

section Facts
variable (c : Dev nD) (i : CI)

theorem duties_cell : (Rd X).duties (kcell (c, i)) 0 = dut i := by
  dsimp only [Rd, kcell]; rw [if_pos ⟨rfl, rfl⟩, ciOf_csem]; rfl
theorem duties_later (g : GSem nD τ sig) : ∀ r, 1 ≤ r → (Rd X).duties g r = ∅ := fun r hr => by
  dsimp only [Rd]; rw [if_neg fun h => by omega]
theorem amount_cell (d : Fin 4) : (Rd X).amount (kcell (c, i)) 0 d = amt i := by dsimp only [Rd, kcell]; rw [ciOf_csem]; rfl
theorem payload_cell (d : Fin 4) : (Rd X).payload (kcell (c, i)) 0 d = pay X c i d := by dsimp only [Rd, kcell]; rw [ciOf_csem]; rfl

theorem expect_bar : (Rd X).expect (kcell (c, none)) 0 = 4 := by
  unfold Schedule.expect Schedule.amountOf
  rw [duties_cell, Finset.sum_congr rfl fun d _ => amount_cell X c none d]; rfl
theorem expect_dma (q : Fin 4 × Fin 2 × Fin 4) : (Rd X).expect (kcell (c, some q)) 0 = amt (some q) := by
  unfold Schedule.expect Schedule.amountOf
  rw [duties_cell, show dut (some q) = {0} from rfl, Finset.sum_singleton, amount_cell]

theorem rest_bar : bigSep ((Rd X).duties (kcell (c, none)) 0 \ ∅) (fun d => (Rd X).payload (kcell (c, none)) 0 d)
    = iprop(barPay (F := F) 0 c ∗ barPay (F := F) 1 c ∗ barPay (F := F) 2 c ∗ barPay (F := F) 3 c) := by
  rw [Finset.sdiff_empty, duties_cell, show dut none = Finset.univ from rfl,
    bigSep_univ_eq_bigSepL [0, 1, 2, 3] (by decide) (by decide), bigSepL_cons_cons, bigSepL_cons_cons, bigSepL_cons_cons, bigSepL_singleton]
  simp only [payload_cell]; rfl
theorem rest_dma (q : Fin 4 × Fin 2 × Fin 4) :
    bigSep ((Rd X).duties (kcell (c, some q)) 0 \ ∅) (fun d => (Rd X).payload (kcell (c, some q)) 0 d) = pay X c (some q) 0 := by
  rw [Finset.sdiff_empty, duties_cell, show dut (some q) = {0} from rfl, bigSep_singleton, payload_cell]

end Facts

/-! ## What a device owes; the levels -/

/-- Owing the amount of each cell listed, the first to be discharged first. -/
def tal : List (Dev nD × CI) → CellTallies nD τ sig Unit
  | [] => 0
  | p :: l => tal l + tallyAt (kcell p) () (amt p.2)

theorem tal_cons (p : Dev nD × CI) (l : List (Dev nD × CI)) : tal (p :: l) = tal l + tallyAt (kcell p) () (amt p.2) := rfl

def L (g : GSem nD τ sig) : Finset Unit := if g.1.2 = .tc then {()} else ∅

def lvC : CI → ℕ
  | none => 1
  | some (ph, _, k) => if ph = 1 then 2 + k.val else if ph = 3 then 6 + k.val else 0

def lv (g : GSem nD τ sig) (_ : Unit) : ℕ := ((ciOf g.2).map lvC).getD 0

theorem L_tc (c : Dev nD) (sm : SemLoc sig) : L ((c : Thread nD τ), sm) = {()} := if_pos rfl
theorem L_of_ne (g : GSem nD τ sig) (h : g.1.2 ≠ .tc) : L g = ∅ := if_neg h
theorem lv_cell (p : Dev nD × CI) : lv (kcell p) () = lvC p.2 := by dsimp only [lv, kcell]; rw [ciOf_csem]; rfl

theorem tal_pos {l : List (Dev nD × CI)} {g : GSem nD τ sig} {u : Unit} (h : 0 < tal l g u) : ∃ p ∈ l, g = kcell p := by
  induction l with
  | nil => exact absurd h (Nat.lt_irrefl 0)
  | cons p l ih =>
    unfold tal at h
    rw [Pi.add_apply, Finsupp.add_apply, tallyAt_apply] at h
    by_cases hp : g = kcell p ∧ u = ()
    · exact ⟨p, List.mem_cons_self, hp.1⟩
    · rw [if_neg hp, Nat.add_zero] at h
      obtain ⟨q, hq, hg⟩ := ih h
      exact ⟨q, List.mem_cons_of_mem _ hq, hg⟩

omit [FloatOps F] [Named F] in
/-- A device may wait at a cell whose level is below every cell it owes. -/
theorem mayWait_tal (c : Dev nD) (sm : SemLoc sig) (l : List (Dev nD × CI)) (l' : List CI) (hl : l.map Prod.snd = l')
    (h : ∀ i ∈ l', lv ((c : Thread nD τ), sm) () < lvC i) :
    (levAts L lv : sProp 𝕄) ⊢ MayWait (c : Thread nD τ) sm () (tal l) := by
  refine MayOwe.of_cut (L := L) (lev := lv) (lv ((c : Thread nD τ), sm) ())
    (fun p hp => by rw [Finset.mem_singleton.mp hp, L_tc]; exact Finset.mem_singleton_self _)
    (fun g u hg => ?_) (fun p hp => by rw [Finset.mem_singleton.mp hp]) (fun g u hg => ?_)
  · obtain ⟨p, hp, rfl⟩ := tal_pos hg
    unfold kcell; rw [L_tc]; exact Finset.mem_singleton_self _
  · obtain ⟨p, hp, rfl⟩ := tal_pos hg
    exact (lv_cell p).symm ▸ h p.2 (hl ▸ List.mem_map_of_mem hp)

end Cert.AllReduce
-- ==== Proof.Steps.lean ====
/-
# The steps of the exchange

One lemma per kind of step, at a symbolic device, half and step: the send of the reduce-scatter (round the rows, start the
copy), its receive (two waits, add the landed rows), the rounding of the finished rows, the send and the receive of the
all-gather. Each consumes the printed operations of the step.
-/
module

public import proofs.«01_k».proof.Proof.Sched

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-! ## A block of whole rows -/

section Rows

variable {off : Fin 2 → Nat} {a n r : Nat} {inb : ∀ x, off x + (![r, 1024] : Fin 2 → Nat) x ≤ SR.size x}

theorem emb_row (ho : off = ![64 * a, 0]) (j : Shape.Idx ⟨2, ![r, 1024]⟩) :
    (((Rect.unit (s := SR) off ![r, 1024] inb).emb j) 0).val = 64 * a + (j 0).val := by
  subst ho; rw [Rect.emb_apply]; show 64 * a + 1 * _ = _; omega

theorem emb_col (ho : off = ![64 * a, 0]) (j : Shape.Idx ⟨2, ![r, 1024]⟩) :
    (((Rect.unit (s := SR) off ![r, 1024] inb).emb j) 1).val = (j 1).val := by
  subst ho; rw [Rect.emb_apply]; show 0 + 1 * _ = _; omega

theorem emb_mem (ho : off = ![64 * a, 0]) (hr : r = 64 * n) (j : Shape.Idx ⟨2, ![r, 1024]⟩) :
    (Rect.unit (s := SR) off ![r, 1024] inb).emb j ∈ rowsU a n := by
  rw [mem_rowsU, emb_row ho]
  have h : (j 0).val < r := (j 0).isLt
  omega

theorem emb_cover (ho : off = ![64 * a, 0]) (hr : r = 64 * n) {i : SR.Idx} (hi : i ∈ rowsU a n) :
    ∃ j : Shape.Idx ⟨2, ![r, 1024]⟩, (Rect.unit (s := SR) off ![r, 1024] inb).emb j = i := by
  have hs : i ∈ (Rect.unit (s := SR) off ![r, 1024] inb).set := by
    rw [Rect.mem_set_unit]
    rw [mem_rowsU] at hi
    have h1 : (i 1).val < 1024 := (i 1).isLt
    subst ho
    refine Fin.forall_fin_two.mpr ⟨?_, ?_⟩
    · show 64 * a ≤ _ ∧ _ < 64 * a + r; omega
    · show 0 ≤ _ ∧ _ < 0 + 1024; omega
  exact (Rect.unit (s := SR) off ![r, 1024] inb).exists_idx_of_mem hs

theorem rect_set (ho : off = ![64 * a, 0]) (hr : r = 64 * n) :
    (Rect.unit (s := SR) off ![r, 1024] inb).set = rowsU a n := by
  ext i
  constructor
  · intro hi
    obtain ⟨j, rfl⟩ := (Rect.unit (s := SR) off ![r, 1024] inb).exists_idx_of_mem hi
    exact emb_mem ho hr j
  · intro hi
    obtain ⟨j, rfl⟩ := emb_cover (inb := inb) ho hr hi
    exact (Rect.unit (s := SR) off ![r, 1024] inb).idx_mem j

end Rows

section Views

variable {off : Fin 2 → Nat} {a n r : Nat} {inb : ∀ x, off x + (![r, 1024] : Fin 2 → Nat) x ≤ SR.size x}

abbrev rct (off : Fin 2 → Nat) (r : Nat) (inb : ∀ x, off x + (![r, 1024] : Fin 2 → Nat) x ≤ SR.size x) : Rect SR :=
  Rect.unit (s := SR) off ![r, 1024] inb

theorem o_setOn {S : Finset SR.Idx} (ho : off = ![64 * a, 0]) (hr : r = 64 * n) (hS : rowsU a n ⊆ S) :
    oM.view.setOn (rct off r inb).toLoadRect.set ⊆ S := by
  intro i hi
  obtain ⟨j, hj, rfl⟩ := Finset.mem_map.mp hi
  exact hS ((rect_set ho hr) ▸ hj)
theorem g_setOn {S : Finset SR.Idx} (ho : off = ![64 * a, 0]) (hr : r = 64 * n) (hS : rowsU a n ⊆ S) :
    gM.view.setOn (rct off r inb).toLoadRect.set ⊆ S := by
  intro i hi
  obtain ⟨j, hj, rfl⟩ := Finset.mem_map.mp hi
  exact hS ((rect_set ho hr) ▸ hj)

theorem g_slice_set (ho : off = ![64 * a, 0]) (hr : r = 64 * n) :
    (gM.view.slice (rct off r inb)).set = rowsU a n :=
  (View.set_slice_whole _ _).trans (rect_set ho hr)
theorem o_access (ho : off = ![64 * a, 0]) (hr : r = 64 * n) :
    (oM.access (rct off r inb)).set = rowsU a n :=
  (View.set_slice_whole _ _).trans (rect_set ho hr)

omit [FloatOps F] [Named F] in
theorem idx_ext {i j : SR.Idx} (h0 : (i 0).val = (j 0).val) (h1 : (i 1).val = (j 1).val) : i = j :=
  funext fun x => Fin.ext (by revert x; exact Fin.forall_fin_two.mpr ⟨h0, h1⟩)

theorem o_read (f : SR.Idx → F .f32) (j : Shape.Idx ⟨2, ![r, 1024]⟩) :
    oM.view.readAt (Elt F) (rct off r inb).toLoadRect f j = f ((rct off r inb).emb j) := rfl
theorem g_read (f : SR.Idx → F .bf16) (j : Shape.Idx ⟨2, ![r, 1024]⟩) :
    gM.view.readAt (Elt F) (rct off r inb).toLoadRect f j = f ((rct off r inb).emb j) := rfl
theorem g_slice_read (f : SR.Idx → F .bf16) (j : Shape.Idx ⟨2, ![r, 1024]⟩) :
    (gM.view.slice (rct off r inb)).read (Elt F) f j = f ((rct off r inb).emb j) := rfl

theorem o_write (f : SR.Idx → F .f32) (w : Shape.Idx ⟨2, ![r, 1024]⟩ → F .f32) (j : Shape.Idx ⟨2, ![r, 1024]⟩) :
    (oM.access (rct off r inb)).write (Elt F) f w Finset.univ ((rct off r inb).emb j) = w j :=
  View.write_emb_of_mem (v := oM.access (rct off r inb)) (Val := Elt F) f w (Finset.mem_univ j)
theorem g_write (f : SR.Idx → F .bf16) (w : Shape.Idx ⟨2, ![r, 1024]⟩ → F .bf16) (j : Shape.Idx ⟨2, ![r, 1024]⟩) :
    (gM.access (rct off r inb)).write (Elt F) f w Finset.univ ((rct off r inb).emb j) = w j :=
  View.write_emb_of_mem (v := gM.access (rct off r inb)) (Val := Elt F) f w (Finset.mem_univ j)
theorem o_write_off (ho : off = ![64 * a, 0]) (hr : r = 64 * n) (f : SR.Idx → F .f32) (w : Shape.Idx ⟨2, ![r, 1024]⟩ → F .f32)
    {i : SR.Idx} (hi : i ∉ rowsU a n) : (oM.access (rct off r inb)).write (Elt F) f w Finset.univ i = f i :=
  View.write_of_not_mem (v := oM.access (rct off r inb)) (Val := Elt F) f w _ (by
    rw [View.setOn_univ, o_access ho hr]; exact hi)

/-- A landing buffer, loaded whole. -/
theorem b_read {m : Memref sig .tc .vmem ⟨2, ![r, 1024]⟩ .bf16} {inb : ∀ x, (![0, 0] : Fin 2 → Nat) x + (![r, 1024] : Fin 2 → Nat) x ≤ (⟨2, ![r, 1024]⟩ : Shape).size x}
    (f : m.view.ty.Contents (Elt F)) (j : Shape.Idx ⟨2, ![r, 1024]⟩) :
    m.view.readAt (Elt F) (Rect.unit (s := ⟨2, ![r, 1024]⟩) ![0, 0] ![r, 1024] inb).toLoadRect f j = m.view.read (Elt F) f j := by
  rw [View.readAt_apply]
  congr 1
  refine funext fun x => Fin.ext ?_
  show (![0, 0] : Fin 2 → Nat) x + 1 * (j x).val = _
  have : (![0, 0] : Fin 2 → Nat) x = 0 := by revert x; exact Fin.forall_fin_two.mpr ⟨rfl, rfl⟩
  rw [this]; omega

end Views

/-! ## Records -/

section Steps

variable (X : Dev nD → SR.Idx → F .f32) (K : Dev nD × CI → ℕ)

/-- Every cell's invariant. -/
def invs : sProp 𝕄 := bigSep Finset.univ fun p : Dev nD × CI => cellInv ER (Rd X) (K p) (kcell p)

/-- What device `c` knows at the entry: every cell's invariant, that every barrier cell is open, and that its own cells are. -/
def pre (c : Dev nD) : sProp 𝕄 :=
  iprop(invs X K ∗ (bigSep Finset.univ fun n : Dev nD => reached ER (kcell (n, none)) 0) ∗ near (F := F) c)

/-- What device `c` knows after the handshake: every cell's invariant, and that its own and its partners' cells are open. -/
def recs (c : Dev nD) : sProp 𝕄 :=
  iprop(invs X K ∗ near (F := F) c ∗ bigSep Finset.univ fun d : Fin 4 => near (F := F) (pt d c))

instance invs_persistent : BI.Persistent (invs X K) := by unfold invs; infer_instance
instance pre_persistent (c : Dev nD) : BI.Persistent (pre X K c) := by unfold pre; infer_instance
instance recs_persistent (c : Dev nD) : BI.Persistent (recs X K c) := by unfold recs; infer_instance

theorem invs_at (p : Dev nD × CI) : invs X K ⊢ cellInv ER (Rd X) (K p) (kcell p) := by
  unfold invs
  exact (Entails.of_eq (bigSep_erase (Finset.mem_univ p))).trans sep_elim_left

theorem near_at (c : Dev nD) (i : CI) : near (F := F) c ⊢ reached ER (kcell (c, i)) 0 := by
  unfold near
  exact (Entails.of_eq (bigSep_erase (Finset.mem_univ i))).trans sep_elim_left

theorem recs_own (c : Dev nD) (i : CI) : recs X K c ⊢ iprop(cellInv ER (Rd X) (K (c, i)) (kcell (c, i)) ∗ reached ER (kcell (c, i)) 0) := by
  unfold recs
  iintro ⟨HI, HN, -⟩
  isplitl [HI]; · iapply (invs_at X K (c, i)); iexact HI
  iapply (near_at c i); iexact HN

theorem recs_pt (c : Dev nD) (hf : Fin 2) (k : Fin 4) (i : CI) :
    recs X K c ⊢ iprop(cellInv ER (Rd X) (K (P hf k c, i)) (kcell (P hf k c, i)) ∗ reached ER (kcell (P hf k c, i)) 0) := by
  have hd : (bigSep Finset.univ fun d : Fin 4 => near (F := F) (pt d c)) ⊢ near (F := F) (P hf k c) :=
    (Entails.of_eq (bigSep_erase (Finset.mem_univ (dm hf k)))).trans sep_elim_left
  unfold recs
  iintro ⟨HI, -, HP⟩
  isplitl [HI]; · iapply (invs_at X K (P hf k c, i)); iexact HI
  ihave HN := hd $$ HP
  iapply (near_at (P hf k c) i); iexact HN

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Owing the cells listed. -/
def owesE (c : Dev nD) (l : List (Dev nD × CI)) : sProp 𝕄 := iprop(∃ W, owes (c : Thread nD τ) (tal l) W)

theorem dut_dma (p : Dev nD) (q : Fin 4 × Fin 2 × Fin 4) : (0 : Fin 4) ∈ (Rd X).duties (kcell (p, some q)) 0 := by
  rw [duties_cell]; exact Finset.mem_singleton_self _

omit [FloatOps F] [Named F] in
theorem g_split (hf : Fin 2) (k : Fin 4) (c : Dev nD) (f : SR.Idx → F .bf16) :
    gP c (rowsU (act hf k c) (nu k)) f ⊣⊢ iprop(gP c (rowsU (act hf (k + 1) c) (nu (k + 1))) f ∗ gP c (rowsU (snd hf k c) (nu (k + 1))) f) := by
  rw [rows_union]; exact pointsTo_union (ℓ := (c : Thread nD τ).loc cc2_scratch0) (rows_disjoint hf k c)

omit [FloatOps F] [Named F] in
theorem g_slice_pts {off : Fin 2 → Nat} {a n r : Nat} {inb} (ho : off = ![64 * a, 0]) (hr : r = 64 * n) (c : Dev nD) (f : SR.Idx → F .bf16) :
    gP c (rowsU a n) f = ((gM.view.slice (rct off r inb)).loc (c : Thread nD τ) ↦[(gM.view.slice (rct off r inb)).set]{fullShare} f) := by
  rw [g_slice_set ho hr]

/-- What the copy of a reduce-scatter send delivers, from rows `fs` of the gather buffer that hold the rounded sums. -/
theorem rs_land {hf : Fin 2} {k : Fin 4} {c : Dev nD} {r : Nat} {mb : Memref sig .tc .vmem ⟨2, ![r, 1024]⟩ .bf16}
    (hbuf : ∀ Φ : (r : Nat) → Memref sig .tc .vmem ⟨2, ![r, 1024]⟩ .bf16 → sProp 𝕄, onBuf Φ hf k = Φ r mb)
    (hr : r = 64 * nu (k + 1)) {off : Fin 2 → Nat} (ho : off = ![64 * snd hf k c, 0]) {inb}
    (fb : Buf (Elt F) (mb.view.loc (P hf k c : Thread nD τ))) (fs : SR.Idx → F .bf16)
    (hfs : ∀ j, fs ((rct off r inb).emb j) = tr (A X hf k c ((rct off r inb).emb j))) :
    iprop((mb.view.loc (P hf k c : Thread nD τ) ↦[mb.view.set]{fullShare}
          (mb.view.write (Elt F) fb ((gM.view.slice (rct off r inb)).read (Elt F) fs) Finset.univ))
        ∗ ((gM.view.slice (rct off r inb)).loc (c : Thread nD τ) ↦[(gM.view.slice (rct off r inb)).set]{fullShare} fs))
      ⊢ (Rd X).payload (kcell (P hf k c, some (1, hf, k))) 0 0 := by
  rw [payload_cell]
  show _ ⊢ rsPay X hf k (P hf k c)
  unfold rsPay lAt gAny
  rw [hbuf, P_P, act_P, ← g_slice_pts (inb := inb) ho hr c _]
  iintro ⟨Hb, Hs⟩
  isplitl [Hb]
  · iexists _
    isplitr
    rotate_left
    · iexact Hb
    · ipureintro
      intro j i h0 h1
      rw [View.read_write_univ, g_slice_read, hfs]
      have : (rct off r inb).emb j = i := idx_ext (by rw [emb_row ho, h0]) (by rw [emb_col ho, h1])
      rw [this]
  · iexists _; iexact Hs

/-- The reduce-scatter's send of half `hf`, step `k`: the rows sent are rounded into the gather buffer and their copy to the
    partner's landing buffer started. -/
theorem rs_send {hf : Fin 2} {k : Fin 4} {c n : Dev nD} {r : Nat} {mb : Memref sig .tc .vmem ⟨2, ![r, 1024]⟩ .bf16}
    (hbuf : ∀ Φ : (r : Nat) → Memref sig .tc .vmem ⟨2, ![r, 1024]⟩ .bf16 → sProp 𝕄, onBuf Φ hf k = Φ r mb)
    (hr : r = 64 * nu (k + 1)) (hN : mb.view.dmaCredit = N k) (hn : n = P hf k c)
    {off off' : Fin 2 → Nat} (ho : off = ![64 * snd hf k c, 0]) (ho' : off' = ![64 * snd hf k c, 0])
    {inb inb'} {sS sR : DmaSem sig} (hS : sS = dsem 0 hf k) (hR : sR = dsem 1 hf k)
    {pv : Vec F ⟨2, ![r, 1024]⟩ .f32 → FVec F ⟨2, ![r, 1024]⟩ .bf16} (hp : ∀ v j, pv v j = tr (v j))
    (l : List (Dev nD × CI)) {hs' : ∀ x, (rct off' r inb').stride x = 1} {h1 h2 h3 h4 h5 h6 h7 h8}
    {α : Type} {Q : α → sProp 𝕄} {kk : PUnit → Prog (TpuEff nD τ sig (Elt F) Λ₀ .tc) α} :
    iprop(recs X K c ∗ oP c (half hf) (A X hf k c) ∗ gAny (F := F) c (rowsU (act hf k c) (nu k)) ∗ onBuf (lAny (F := F) n) hf k
        ∗ dutyTok ER (kcell (c, some (0, hf, k))) 0 0 ∗ dutyTok ER (kcell (P hf k c, some (1, hf, k))) 0 0
        ∗ owesE c ((P hf k c, some (1, hf, k)) :: l))
      ⊢ iprop(((oP c (half hf) (A X hf k c) ∗ gAny (F := F) c (rowsU (act hf (k + 1) c) (nu (k + 1)))
            ∗ cred (tallyAt (kcell (c, some (0, hf, k))) () (N k)) ∗ owesE c l) -∗ WP c (kk ⟨⟩) Q)
        -∗ WP c (.op (.load oM (rct off r inb).toLoadRect h1) fun v => .op (.load gM (rct off r inb).toLoadRect h2) fun _ =>
            .op (.store gM (rct off r inb) (pv v) Finset.univ h3 h4) fun _ =>
            .op (.enqueueDma (gM.slice (rct off' r inb') hs') (.remote (Dev.tc n) mb (.dma sS) h5) (.dma sR) h6 h7 h8) kk) Q) := by
  obtain rfl : off = off' := ho.trans ho'.symm
  subst hn hS hR
  unfold owesE gAny WP
  rw [hbuf]
  unfold lAny
  iintro ⟨#HR, Ho, ⟨%fg, Hg⟩, ⟨%fb, Hb⟩, HtS, HtR, ⟨%W, HO⟩⟩ Hk
  ihave #HS := (recs_own X K c (some (0, hf, k))) $$ HR
  ihave #HV := (recs_pt X K c hf k (some (1, hf, k))) $$ HR
  icases HS with ⟨#HSi, #HSr⟩
  icases HV with ⟨#HVi, #HVr⟩
  iapply (wp_load 𝒱₀ (c : Thread nD τ) none Set.univ (m := oM) (S := half hf) (o_setOn ho hr (snd_subset hf k c))) $$ Ho; iintro Ho
  iapply (wp_load 𝒱₀ (c : Thread nD τ) none Set.univ (m := gM) (S := rowsU (act hf k c) (nu k))
    (g_setOn ho hr (by rw [rows_union]; exact Finset.subset_union_right))) $$ Hg; iintro Hg
  iapply (wp_store 𝒱₀ (c : Thread nD τ) none Set.univ (m := gM) (r := rct off r inb) (S := rowsU (act hf k c) (nu k)) (Mk := Finset.univ)
    (by rw [View.setOn_univ, g_slice_set ho hr, rows_union]; exact Finset.subset_union_right)) $$ Hg; iintro Hg
  have hfs : ∀ j, (gM.access (rct off r inb)).write (Elt F) fg (pv (oM.view.readAt (Elt F) (rct off r inb).toLoadRect (A X hf k c))) Finset.univ
      ((rct off r inb).emb j) = tr (A X hf k c ((rct off r inb).emb j)) := fun j => by rw [g_write, hp, o_read]
  generalize (gM.access (rct off r inb)).write (Elt F) fg (pv (oM.view.readAt (Elt F) (rct off r inb).toLoadRect (A X hf k c))) Finset.univ = fs at hfs
  ihave Hg2 := ((g_split hf k c fs).1) $$ Hg
  icases Hg2 with ⟨Hg, Hsrc0⟩
  ihave Hsrc := (Entails.of_eq (g_slice_pts (inb := inb') ho hr c fs)) $$ Hsrc0
  have hp1 : (emp : sProp 𝕄) ⊢ (Rd X).payload (kcell (c, some (0, hf, k))) 0 0 := by rw [payload_cell]; exact Entails.refl _
  have hsend := Rounds.wp_send_landing_pointsTo (defs := defs₀ (F := F)) 𝒱₀ ER (Rd X) (c : Thread nD τ) none (Γ := .empty) (Es := Set.univ)
    (κ₁ := K (c, some (0, hf, k))) (κ₂ := K (P hf k c, some (1, hf, k)))
    (src := gM.slice (rct off r inb') hs') (dst := mb) (hsc := h5) (sS := .dma (dsem 0 hf k)) (sem := .dma (dsem 1 hf k))
    (hsrc := h6) (hdst := h7) (hsem := h8) (k := kk) (Q := Q)
    (c' := (P hf k c : Thread nD τ)) (q := fullShare) (r₁ := 0) (r₂ := 0) (d₁ := 0) (d₂ := 0) (fd := fb) (fs := fs)
    (dut_dma X c (0, hf, k)) (dut_dma X (P hf k c) (1, hf, k)) () () (N k) hN
    ((amount_cell X c (some (0, hf, k)) 0).trans (amt_0 hf k)) ((amount_cell X (P hf k c) (some (1, hf, k)) 0).trans (amt_1 hf k))
    (O₀ := tal ((P hf k c, some (1, hf, k)) :: l)) (tal l)
    ((tal_cons (P hf k c, some (1, hf, k)) l).trans (by rw [amt_1]; rfl)) (W := W) hp1 (rs_land X hbuf hr ho fb fs hfs)
  iapply hsend $$ [Hsrc Hb HO HtS HtR]
  · isplitr; · iexact HSi
    isplitr; · iexact HVi
    isplitl [Hsrc]; · iexact Hsrc
    isplitl [Hb]; · iexact Hb
    isplitl [HO]; · iexact HO
    isplitl [HtS]; · iexact HtS
    isplitr; · iexact HSr
    isplitl [HtR]; · iexact HtR
    iexact HVr
  iintro ⟨Hc, HO⟩
  iapply Hk
  isplitl [Ho]; · iexact Ho
  isplitl [Hg]; · iexists _; iexact Hg
  isplitl [Hc]; · iexact Hc
  iexists W; iexact HO

theorem ofNat_val (k : Fin 4) : Fin.ofNat 4 k.val = k := by revert k; decide

/-- A wait at one of the transfer cells: what landed is handed out and the cell is closed. -/
theorem wait_cell {ph : Fin 4} {hf : Fin 2} {k : Fin 4} {c : Dev nD} {sem : DmaSem sig} (hS : sem = dsem ph hf k)
    {sp sp' : Space} {s s' : Shape} {e e' : EltTy} {src : Memref sig .tc sp' s' e'} {dst : Memref sig .tc sp s e}
    (hN : dst.view.dmaCredit = amt (some (ph, hf, k)))
    (l : List (Dev nD × CI)) (l' : List CI) (hl : l.map Prod.snd = l') (hlt : ∀ i ∈ l', lvC (some (ph, hf, k)) < lvC i)
    {h1 h2} {α : Type} {Q : α → sProp 𝕄} {kk : PUnit → Prog (TpuEff nD τ sig (Elt F) Λ₀ .tc) α} :
    iprop(recs X K c ∗ levAts L lv ∗ atPos ER (kcell (c, some (ph, hf, k))) 0 ∅ 0
        ∗ cred (tallyAt (kcell (c, some (ph, hf, k))) () (amt (some (ph, hf, k)))) ∗ owesE c l)
      ⊢ iprop(((pay X c (some (ph, hf, k)) 0 ∗ semVal (kcell (c, some (ph, hf, k))) 0 ∗ owesE c l) -∗ WP c (kk ⟨⟩) Q)
        -∗ WP c (.op (.waitDma2 sem src dst h1 h2) kk) Q) := by
  subst hS
  have hw := fun W => Rounds.wp_wait_rest_token (W := W) (defs := defs₀ (F := F)) 𝒱₀ ER (Rd X) (c : Thread nD τ) none (Γ := .empty) (Es := Set.univ)
    (Q := Q) (κ := K (c, some (ph, hf, k))) (w := .waitDma2 (dsem ph hf k) src dst h1 h2) (sm := .dma (dsem ph hf k)) (k' := amt (some (ph, hf, k)))
    (fun K => (wpE_waitDma2_eq (defs := defs₀ (F := F)) 𝒱₀ (c : Thread nD τ) none Set.univ K).trans (by rw [hN])) (Set.mem_univ _)
    (k := kk) () (O := tal l) (R := 0) (m := 0) (T := ∅)
    ((Nat.zero_add _).trans (expect_dma X c (ph, hf, k)).symm)
  have hm := mayWait_tal (F := F) c (.dma (dsem ph hf k)) l l' hl (fun i hi => (lv_cell (c, some (ph, hf, k))).symm ▸ hlt i hi)
  have hr : bigSep ((Rd X).duties ((c : Thread nD τ), .dma (dsem ph hf k)) 0 \ ∅) (fun d => (Rd X).payload ((c : Thread nD τ), .dma (dsem ph hf k)) 0 d)
      = pay X c (some (ph, hf, k)) 0 := rest_dma X c (ph, hf, k)
  unfold owesE
  iintro ⟨#HR, #Hlev, Hat, Hc, ⟨%W, HO⟩⟩ Hk
  ihave #HS := (recs_own X K c (some (ph, hf, k))) $$ HR
  icases HS with ⟨#HSi, #HSr⟩
  iapply (hw W) $$ [Hc HO Hat]
  · isplitr; · iexact HSi
    isplitl [Hc]; · iexact Hc
    isplitl [HO]; · iexact HO
    isplitr; · iapply hm; iexact Hlev
    iexact Hat
  iintro ⟨HO, Hat, -, Hpay⟩
  ihave Hpay2 := (Entails.of_eq hr) $$ Hpay
  imod (Rounds.cell_close ER (Rd X) (Es := Set.univ) (κ := K (c, some (ph, hf, k))) (g := kcell (c, some (ph, hf, k))) (Set.mem_univ _) (fun h => h)
    (R := 1) (duties_later X _)) $$ [Hat] with Hz
  · isplitr; · iexact HSi
    iexact Hat
  iapply Hk
  isplitl [Hpay2]; · iexact Hpay2
  isplitl [Hz]; · iexact Hz
  iexists _; iexact HO

/-- The reduce-scatter's receive of half `hf`, step `k`: the kept rows gain the partner's rounded rows. -/
theorem rs_recv {hf : Fin 2} {k : Fin 4} {c : Dev nD} {r : Nat} {mb : Memref sig .tc .vmem ⟨2, ![r, 1024]⟩ .bf16}
    (hbuf : ∀ Φ : (r : Nat) → Memref sig .tc .vmem ⟨2, ![r, 1024]⟩ .bf16 → sProp 𝕄, onBuf Φ hf k = Φ r mb)
    (hr : r = 64 * nu (k + 1)) (hN : mb.view.dmaCredit = N k)
    {off : Fin 2 → Nat} (ho : off = ![64 * act hf (k + 1) c, 0])
    {inb inbb} {sS sR : DmaSem sig} (hS : sS = dsem 0 hf k) (hR : sR = dsem 1 hf k)
    {gs : Memref sig .tc .vmem ⟨2, ![r, 1024]⟩ .bf16} (hNs : gs.view.dmaCredit = N k)
    {pv : Vec F ⟨2, ![r, 1024]⟩ .f32 → Vec F ⟨2, ![r, 1024]⟩ .bf16 → FVec F ⟨2, ![r, 1024]⟩ .f32}
    (hp : ∀ v w j, pv v w j = FloatOps.addf (v j) (ex (w j)))
    (l : List (Dev nD × CI)) (l' : List CI) (hl : l.map Prod.snd = l') (hlt : ∀ i ∈ l', 2 + k.val < lvC i)
    {h1 h2 h3 h4 h5 h6 h7 h8 h9} {α : Type} {Q : α → sProp 𝕄} {kk : PUnit → Prog (TpuEff nD τ sig (Elt F) Λ₀ .tc) α} :
    iprop(recs X K c ∗ levAts L lv ∗ oP c (half hf) (A X hf k c)
        ∗ atPos ER (kcell (c, some (0, hf, k))) 0 ∅ 0 ∗ atPos ER (kcell (c, some (1, hf, k))) 0 ∅ 0
        ∗ cred (tallyAt (kcell (c, some (0, hf, k))) () (N k)) ∗ cred (tallyAt (kcell (c, some (1, hf, k))) () (N k))
        ∗ owesE c l)
      ⊢ iprop(((oP c (half hf) (A X hf (k + 1) c) ∗ onBuf (lAny (F := F) c) hf k
            ∗ gAny (F := F) (P hf k c) (rowsU (act hf (k + 1) c) (nu (k + 1)))
            ∗ semVal (kcell (c, some (0, hf, k))) 0 ∗ semVal (kcell (c, some (1, hf, k))) 0 ∗ owesE c l) -∗ WP c (kk ⟨⟩) Q)
        -∗ WP c (.op (.waitDma2 sS mb gs h1 h2) fun _ => .op (.waitDma2 sR gs mb h3 h4) fun _ =>
            .op (.load oM (rct off r inb).toLoadRect h5) fun v =>
            .op (.load mb (Rect.unit (s := ⟨2, ![r, 1024]⟩) ![0, 0] ![r, 1024] inbb).toLoadRect h6) fun w =>
            .op (.load oM (rct off r inb).toLoadRect h7) fun _ =>
            .op (.store oM (rct off r inb) (pv v w) Finset.univ h8 h9) kk) Q) := by
  iintro ⟨#HR, #Hlev, Ho, HpS, HpR, HcS, HcR, HO⟩ Hk
  have w1 := fun kk' => wait_cell X K (ph := 0) (c := c) hS (src := mb) (dst := gs) (hNs.trans (amt_0 hf k).symm) l l' hl
    (fun i hi => Nat.lt_of_le_of_lt (Nat.zero_le _) (hlt i hi)) (h1 := h1) (h2 := h2) (Q := Q) (kk := kk')
  have w2 := fun kk' => wait_cell X K (ph := 1) (c := c) hR (src := gs) (dst := mb) (hN.trans (amt_1 hf k).symm) l l' hl
    (fun i hi => hlt i hi) (h1 := h3) (h2 := h4) (Q := Q) (kk := kk')
  rw [amt_0] at w1
  rw [amt_1] at w2
  iapply (w1 _) $$ [HpS HcS HO]
  · isplitr; · iexact HR
    isplitr; · iexact Hlev
    isplitl [HpS]; · iexact HpS
    isplitl [HcS]; · iexact HcS
    iexact HO
  iintro ⟨-, HzS, HO⟩
  iapply (w2 _) $$ [HpR HcR HO]
  · isplitr; · iexact HR
    isplitr; · iexact Hlev
    isplitl [HpR]; · iexact HpR
    isplitl [HcR]; · iexact HcR
    iexact HO
  iintro ⟨Hpay, HzR, HO⟩
  have hpay : pay X c (some (1, hf, k)) 0 = iprop(lAt c (act hf (k + 1) c) (fun i => tr (A X hf k (P hf k c) i)) r mb
      ∗ gAny (F := F) (P hf k c) (rowsU (act hf (k + 1) c) (nu (k + 1)))) := by
    show rsPay X hf k c = _; unfold rsPay; rw [hbuf]
  ihave Hpay2 := (Entails.of_eq hpay) $$ Hpay
  unfold lAt
  icases Hpay2 with ⟨⟨%f, %hf', Hb⟩, Hg⟩
  iapply (wp_load 𝒱₀ (c : Thread nD τ) none Set.univ (m := oM) (S := half hf) (o_setOn ho hr (keep_subset hf k c))) $$ Ho; iintro Ho
  iapply (wp_load 𝒱₀ (c : Thread nD τ) none Set.univ (m := mb) (S := mb.view.set) (View.setOn_subset_set _ _)) $$ Hb; iintro Hb
  iapply (wp_load 𝒱₀ (c : Thread nD τ) none Set.univ (m := oM) (S := half hf) (o_setOn ho hr (keep_subset hf k c))) $$ Ho; iintro Ho
  iapply (wp_store 𝒱₀ (c : Thread nD τ) none Set.univ (m := oM) (r := rct off r inb) (S := half hf) (Mk := Finset.univ)
    (by rw [View.setOn_univ, o_access ho hr]; exact keep_subset hf k c)) $$ Ho; iintro Ho
  have hA : (oM.access (rct off r inb)).write (Elt F) (A X hf k c) (pv (oM.view.readAt (Elt F) (rct off r inb).toLoadRect (A X hf k c))
      (mb.view.readAt (Elt F) (Rect.unit (s := ⟨2, ![r, 1024]⟩) ![0, 0] ![r, 1024] inbb).toLoadRect f)) Finset.univ = A X hf (k + 1) c := by
    funext i
    by_cases hi : i ∈ rowsU (act hf (k + 1) c) (nu (k + 1))
    · obtain ⟨j, rfl⟩ := emb_cover (inb := inb) ho hr hi
      rw [o_write, hp, o_read, b_read, hf' j ((rct off r inb).emb j) (emb_row ho j) (emb_col ho j)]
      simp only [A]
      rw [if_pos hi, ofNat_val]
    · rw [o_write_off ho hr _ _ hi]
      simp only [A]
      rw [if_neg hi]
  generalize (oM.access (rct off r inb)).write (Elt F) (A X hf k c) (pv (oM.view.readAt (Elt F) (rct off r inb).toLoadRect (A X hf k c))
      (mb.view.readAt (Elt F) (Rect.unit (s := ⟨2, ![r, 1024]⟩) ![0, 0] ![r, 1024] inbb).toLoadRect f)) Finset.univ = fo at hA
  subst hA
  iapply Hk
  isplitl [Ho]; · iexact Ho
  isplitl [Hb]; · rw [hbuf]; unfold lAny; iexists f; iexact Hb
  isplitl [Hg]; · iexact Hg
  isplitl [HzS]; · iexact HzS
  isplitl [HzR]; · iexact HzR
  iexact HO

theorem own_subset (hf : Fin 2) (k : Fin 4) (c : Dev nD) : rowsU (act hf 4 c) 1 ⊆ rowsU (act hf (k + 1) c) (nu (k + 1)) := by
  have h : act hf (k + 1) c ≤ act hf 4 c ∧ act hf 4 c + 1 ≤ act hf (k + 1) c + nu (k + 1) := by
    revert hf k c; decide +kernel
  intro i; rw [mem_rowsU, mem_rowsU]; omega

theorem B_four (hf : Fin 2) (c : Dev nD) : B X hf 4 c = A X hf 4 c := by
  funext i
  unfold B
  exact if_neg fun h => h.2 h.1

/-- The finished rows are rounded into the gather buffer. -/
theorem own_store {hf : Fin 2} {c : Dev nD} {off : Fin 2 → Nat} (ho : off = ![64 * act hf 4 c, 0]) {inb : ∀ x, off x + (![64, 1024] : Fin 2 → Nat) x ≤ SR.size x}
    {pv : Vec F ⟨2, ![64, 1024]⟩ .f32 → FVec F ⟨2, ![64, 1024]⟩ .bf16} (hp : ∀ v j, pv v j = tr (v j))
    {h1 h2 h3 h4} {α : Type} {Q : α → sProp 𝕄} {kk : PUnit → Prog (TpuEff nD τ sig (Elt F) Λ₀ .tc) α} :
    iprop(oP c (half hf) (A X hf 4 c) ∗ gAny (F := F) c (rowsU (act hf 4 c) 1))
      ⊢ iprop(((oP c (half hf) (B X hf 4 c) ∗ gP c (rowsU (act hf 4 c) 1) (T X hf)) -∗ WP c (kk ⟨⟩) Q)
        -∗ WP c (.op (.load oM (rct off 64 inb).toLoadRect h1) fun v => .op (.load gM (rct off 64 inb).toLoadRect h2) fun _ =>
            .op (.store gM (rct off 64 inb) (pv v) Finset.univ h3 h4) kk) Q) := by
  rw [B_four]
  unfold gAny
  iintro ⟨Ho, ⟨%fg, Hg⟩⟩ Hk
  iapply (wp_load 𝒱₀ (c : Thread nD τ) none Set.univ (m := oM) (S := half hf)
    (o_setOn (n := 1) ho rfl ((own_subset hf 3 c).trans (keep_subset hf 3 c)))) $$ Ho; iintro Ho
  iapply (wp_load 𝒱₀ (c : Thread nD τ) none Set.univ (m := gM) (S := rowsU (act hf 4 c) 1)
    (g_setOn (n := 1) ho rfl subset_rfl)) $$ Hg; iintro Hg
  iapply (wp_store 𝒱₀ (c : Thread nD τ) none Set.univ (m := gM) (r := rct off 64 inb) (S := rowsU (act hf 4 c) 1) (Mk := Finset.univ)
    (by rw [View.setOn_univ, g_slice_set (n := 1) ho rfl])) $$ Hg; iintro Hg
  have hT : ∀ i ∈ rowsU (act hf 4 c) 1, (gM.access (rct off 64 inb)).write (Elt F) fg (pv (oM.view.readAt (Elt F) (rct off 64 inb).toLoadRect (A X hf 4 c))) Finset.univ i
      = T X hf i := fun i hi => by
    have hq : (i 0).val / 64 = act hf 4 c := by rw [mem_rowsU] at hi; omega
    obtain ⟨j, hj⟩ := emb_cover (n := 1) (inb := inb) ho rfl hi
    rw [← hj, g_write, hp, o_read, hj]
    unfold T
    rw [hq, owner_act]
  generalize (gM.access (rct off 64 inb)).write (Elt F) fg (pv (oM.view.readAt (Elt F) (rct off 64 inb).toLoadRect (A X hf 4 c))) Finset.univ = fs at hT
  ihave Hg2 := (Entails.of_eq (pointsTo_congr (ℓ := (c : Thread nD τ).loc cc2_scratch0) (q := fullShare) hT)) $$ Hg
  iapply Hk
  isplitl [Ho]; · iexact Ho
  iexact Hg2

/-- What the copy of an all-gather send delivers. -/
theorem ag_land {hf : Fin 2} {k : Fin 4} {c : Dev nD} {r : Nat} (hr : r = 64 * nu (rv k + 1)) {off off' : Fin 2 → Nat}
    (ho : off = ![64 * act hf (rv k + 1) c, 0]) {inb} (fd : SR.Idx → F .bf16) :
    ((gM.view.slice (rct off r inb)).loc (P hf (rv k) c : Thread nD τ) ↦[(gM.view.slice (rct off r inb)).set]{fullShare}
          ((gM.view.slice (rct off r inb)).write (Elt F) fd ((gM.view.slice (rct off r inb)).read (Elt F) (T X hf)) Finset.univ))
      ⊢ (Rd X).payload (kcell (P hf (rv k) c, some (3, hf, k))) 0 0 := by
  rw [payload_cell]
  show _ ⊢ agPay X hf (rv k) (P hf (rv k) c)
  unfold agPay
  rw [snd_P, g_slice_pts (inb := inb) ho hr]
  refine Entails.of_eq (pointsTo_congr fun i hi => ?_)
  rw [g_slice_set ho hr] at hi
  obtain ⟨j, rfl⟩ := emb_cover (inb := inb) ho hr hi
  exact (View.write_emb_of_mem (v := gM.view.slice (rct off r inb)) (Val := Elt F) fd _ (Finset.mem_univ j)).trans (g_slice_read (T X hf) j)

/-- The all-gather's send of half `hf`, step `k`: the copy of the rows finished so far to the partner's gather buffer is started. -/
theorem ag_send {hf : Fin 2} {k : Fin 4} {c n : Dev nD} {r : Nat}
    (hr : r = 64 * nu (rv k + 1)) (hn : n = P hf (rv k) c)
    {off off' : Fin 2 → Nat} (ho : off = ![64 * act hf (rv k + 1) c, 0]) (ho' : off' = ![64 * act hf (rv k + 1) c, 0])
    {inb inb'} {sS sR : DmaSem sig} (hS : sS = dsem 2 hf k) (hR : sR = dsem 3 hf k)
    (l : List (Dev nD × CI)) {hs : ∀ x, (rct off r inb).stride x = 1} {hs' : ∀ x, (rct off' r inb').stride x = 1}
    (hN : (gM.slice (rct off' r inb') hs').view.dmaCredit = N (rv k)) {h5 h6 h7 h8}
    {α : Type} {Q : α → sProp 𝕄} {kk : PUnit → Prog (TpuEff nD τ sig (Elt F) Λ₀ .tc) α} :
    iprop(recs X K c ∗ gP c (rowsU (act hf (rv k + 1) c) (nu (rv k + 1))) (T X hf)
        ∗ gAny (F := F) (P hf (rv k) c) (rowsU (act hf (rv k + 1) c) (nu (rv k + 1)))
        ∗ dutyTok ER (kcell (c, some (2, hf, k))) 0 0 ∗ dutyTok ER (kcell (P hf (rv k) c, some (3, hf, k))) 0 0
        ∗ owesE c ((P hf (rv k) c, some (3, hf, k)) :: l))
      ⊢ iprop(((cred (tallyAt (kcell (c, some (2, hf, k))) () (N (rv k))) ∗ owesE c l) -∗ WP c (kk ⟨⟩) Q)
        -∗ WP c (.op (.enqueueDma (gM.slice (rct off r inb) hs) (.remote (Dev.tc n) (gM.slice (rct off' r inb') hs') (.dma sS) h5) (.dma sR) h6 h7 h8) kk) Q) := by
  obtain rfl : off = off' := ho.trans ho'.symm
  subst hn hS hR
  unfold owesE gAny WP
  iintro ⟨#HR, Hg, ⟨%fd, Hd⟩, HtS, HtR, ⟨%W, HO⟩⟩ Hk
  ihave #HS := (recs_own X K c (some (2, hf, k))) $$ HR
  ihave #HV := (recs_pt X K c hf (rv k) (some (3, hf, k))) $$ HR
  icases HS with ⟨#HSi, #HSr⟩
  icases HV with ⟨#HVi, #HVr⟩
  ihave Hsrc := (Entails.of_eq (g_slice_pts (inb := inb') ho hr c (T X hf))) $$ Hg
  ihave Hdst := (Entails.of_eq (g_slice_pts (inb := inb') ho hr (P hf (rv k) c) fd)) $$ Hd
  have hp1 : ((gM.view.slice (rct off r inb')).loc (c : Thread nD τ) ↦[(gM.view.slice (rct off r inb')).set]{fullShare} T X hf)
      ⊢ (Rd X).payload (kcell (c, some (2, hf, k))) 0 0 := by
    rw [payload_cell, ← g_slice_pts (inb := inb') ho hr c]; exact Entails.refl _
  have hsend := Rounds.wp_send_pointsTo (defs := defs₀ (F := F)) 𝒱₀ ER (Rd X) (c : Thread nD τ) none (Γ := .empty) (Es := Set.univ)
    (κ₁ := K (c, some (2, hf, k))) (κ₂ := K (P hf (rv k) c, some (3, hf, k)))
    (src := gM.slice (rct off r inb) hs) (dst := gM.slice (rct off r inb') hs') (hsc := h5) (sS := .dma (dsem 2 hf k)) (sem := .dma (dsem 3 hf k))
    (hsrc := h6) (hdst := h7) (hsem := h8) (k := kk) (Q := Q)
    (c' := (P hf (rv k) c : Thread nD τ)) (q := fullShare) (r₁ := 0) (r₂ := 0) (d₁ := 0) (d₂ := 0) (fd := fd) (fs := T X hf)
    (dut_dma X c (2, hf, k)) (dut_dma X (P hf (rv k) c) (3, hf, k)) () () (N (rv k)) hN
    ((amount_cell X c (some (2, hf, k)) 0).trans (amt_2 hf k)) ((amount_cell X (P hf (rv k) c) (some (3, hf, k)) 0).trans (amt_3 hf k))
    (O₀ := tal ((P hf (rv k) c, some (3, hf, k)) :: l)) (tal l)
    ((tal_cons (P hf (rv k) c, some (3, hf, k)) l).trans (by rw [amt_3]; rfl)) (W := W) hp1 (ag_land X (off' := off) hr ho fd)
  iapply hsend $$ [Hsrc Hdst HO HtS HtR]
  · isplitr; · iexact HSi
    isplitr; · iexact HVi
    isplitl [Hsrc]; · iexact Hsrc
    isplitl [Hdst]; · iexact Hdst
    isplitl [HO]; · iexact HO
    isplitl [HtS]; · iexact HtS
    isplitr; · iexact HSr
    isplitl [HtR]; · iexact HtR
    iexact HVr
  iintro ⟨Hc, HO⟩
  iapply Hk
  isplitl [Hc]; · iexact Hc
  iexists W; iexact HO

/-- The all-gather's receive of half `hf`, step `k`: the rows sent away at the matching reduce-scatter step come back finished. -/
theorem ag_recv {hf : Fin 2} {k : Fin 4} {c : Dev nD} {r : Nat}
    (hr : r = 64 * nu (rv k + 1))
    {off : Fin 2 → Nat} (ho : off = ![64 * snd hf (rv k) c, 0])
    {inb} {sS sR : DmaSem sig} (hS : sS = dsem 2 hf k) (hR : sR = dsem 3 hf k)
    {m1 m2 m3 m4 : Memref sig .tc .vmem ⟨2, ![r, 1024]⟩ .bf16} (hN2 : m2.view.dmaCredit = N (rv k)) (hN4 : m4.view.dmaCredit = N (rv k))
    {pv : Vec F ⟨2, ![r, 1024]⟩ .bf16 → FVec F ⟨2, ![r, 1024]⟩ .f32} (hp : ∀ v j, pv v j = ex (v j))
    (l : List (Dev nD × CI)) (l' : List CI) (hl : l.map Prod.snd = l') (hlt : ∀ i ∈ l', 6 + k.val < lvC i)
    {h1 h2 h3 h4 h5 h6 h7 h8} {α : Type} {Q : α → sProp 𝕄} {kk : PUnit → Prog (TpuEff nD τ sig (Elt F) Λ₀ .tc) α} :
    iprop(recs X K c ∗ levAts L lv ∗ oP c (half hf) (B X hf (rv k + 1) c)
        ∗ atPos ER (kcell (c, some (2, hf, k))) 0 ∅ 0 ∗ atPos ER (kcell (c, some (3, hf, k))) 0 ∅ 0
        ∗ cred (tallyAt (kcell (c, some (2, hf, k))) () (N (rv k))) ∗ cred (tallyAt (kcell (c, some (3, hf, k))) () (N (rv k)))
        ∗ owesE c l)
      ⊢ iprop(((oP c (half hf) (B X hf (rv k) c) ∗ gP c (rowsU (act hf (rv k) c) (nu (rv k))) (T X hf)
            ∗ semVal (kcell (c, some (2, hf, k))) 0 ∗ semVal (kcell (c, some (3, hf, k))) 0 ∗ owesE c l) -∗ WP c (kk ⟨⟩) Q)
        -∗ WP c (.op (.waitDma2 sS m1 m2 h1 h2) fun _ => .op (.waitDma2 sR m3 m4 h3 h4) fun _ =>
            .op (.load gM (rct off r inb).toLoadRect h5) fun v =>
            .op (.load oM (rct off r inb).toLoadRect h6) fun _ =>
            .op (.store oM (rct off r inb) (pv v) Finset.univ h7 h8) kk) Q) := by
  iintro ⟨#HR, #Hlev, Ho, HpS, HpR, HcS, HcR, HO⟩ Hk
  have w1 := fun kk' => wait_cell X K (ph := 2) (c := c) hS (src := m1) (dst := m2) (hN2.trans (amt_2 hf k).symm) l l' hl
    (fun i hi => Nat.lt_of_le_of_lt (Nat.zero_le _) (hlt i hi)) (h1 := h1) (h2 := h2) (Q := Q) (kk := kk')
  have w2 := fun kk' => wait_cell X K (ph := 3) (c := c) hR (src := m3) (dst := m4) (hN4.trans (amt_3 hf k).symm) l l' hl
    (fun i hi => hlt i hi) (h1 := h3) (h2 := h4) (Q := Q) (kk := kk')
  rw [amt_2] at w1
  rw [amt_3] at w2
  iapply (w1 _) $$ [HpS HcS HO]
  · isplitr; · iexact HR
    isplitr; · iexact Hlev
    isplitl [HpS]; · iexact HpS
    isplitl [HcS]; · iexact HcS
    iexact HO
  iintro ⟨Hback, HzS, HO⟩
  iapply (w2 _) $$ [HpR HcR HO]
  · isplitr; · iexact HR
    isplitr; · iexact Hlev
    isplitl [HpR]; · iexact HpR
    isplitl [HcR]; · iexact HcR
    iexact HO
  iintro ⟨Hpay, HzR, HO⟩
  ihave Hback2 := (show pay X c (some (2, hf, k)) 0 ⊢ gP c (rowsU (act hf (rv k + 1) c) (nu (rv k + 1))) (T X hf) from Entails.refl _) $$ Hback
  ihave Hpay2 := (show pay X c (some (3, hf, k)) 0 ⊢ gP c (rowsU (snd hf (rv k) c) (nu (rv k + 1))) (T X hf) from Entails.refl _) $$ Hpay
  ihave Hg := ((g_split hf (rv k) c (T X hf)).2) $$ [Hback2 Hpay2]
  · isplitl [Hback2]; · iexact Hback2
    iexact Hpay2
  iapply (wp_load 𝒱₀ (c : Thread nD τ) none Set.univ (m := gM) (S := rowsU (act hf (rv k) c) (nu (rv k)))
    (g_setOn ho hr (by rw [rows_union]; exact Finset.subset_union_right))) $$ Hg; iintro Hg
  iapply (wp_load 𝒱₀ (c : Thread nD τ) none Set.univ (m := oM) (S := half hf) (o_setOn ho hr (snd_subset hf (rv k) c))) $$ Ho; iintro Ho
  iapply (wp_store 𝒱₀ (c : Thread nD τ) none Set.univ (m := oM) (r := rct off r inb) (S := half hf) (Mk := Finset.univ)
    (by rw [View.setOn_univ, o_access ho hr]; exact snd_subset hf (rv k) c)) $$ Ho; iintro Ho
  have hB : (oM.access (rct off r inb)).write (Elt F) (B X hf (rv k + 1) c) (pv (gM.view.readAt (Elt F) (rct off r inb).toLoadRect (T X hf))) Finset.univ
      = B X hf (rv k) c := by
    funext i
    by_cases hi : i ∈ rowsU (snd hf (rv k) c) (nu (rv k + 1))
    · have h1 : i ∈ rowsU (act hf (rv k) c) (nu (rv k)) := by rw [rows_union]; exact Finset.mem_union_right _ hi
      have h2 : i ∉ rowsU (act hf 4 c) 1 := fun h => Finset.disjoint_left.mp (rows_disjoint hf (rv k) c) (own_subset hf (rv k) c h) hi
      obtain ⟨j, rfl⟩ := emb_cover (inb := inb) ho hr hi
      rw [o_write, hp, g_read]
      unfold B
      rw [if_pos ⟨h1, h2⟩]
    · rw [o_write_off ho hr _ _ hi]
      have h1 : i ∈ rowsU (act hf (rv k) c) (nu (rv k)) ↔ i ∈ rowsU (act hf (rv k + 1) c) (nu (rv k + 1)) := by
        rw [rows_union, Finset.mem_union]; exact ⟨fun h => h.resolve_right hi, Or.inl⟩
      unfold B
      simp only [h1]
  generalize (oM.access (rct off r inb)).write (Elt F) (B X hf (rv k + 1) c) (pv (gM.view.readAt (Elt F) (rct off r inb).toLoadRect (T X hf))) Finset.univ = fo at hB
  subst hB
  iapply Hk
  isplitl [Ho]; · iexact Ho
  isplitl [Hg]; · iexact Hg
  isplitl [HzS]; · iexact HzS
  isplitl [HzR]; · iexact HzR
  iexact HO

end Steps

end Cert.AllReduce
-- ==== Proof.Stage.lean ====
/-
# The stages of the exchange

A stage is both halves' sends followed by both halves' receives. `rs_stage` takes the reduce-scatter's state from step `k` to
step `k + 1`, `ag_stage` the all-gather's back.
-/
module

public import proofs.«01_k».proof.Proof.Steps

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## What a device holds -/

/-- The ghost state of one reduce-scatter exchange, and of one all-gather exchange. -/
def rsGh (c : Dev nD) (hf : Fin 2) (k : Fin 4) : sProp 𝕄 :=
  iprop(atPos ER (kcell (c, some (0, hf, k))) 0 ∅ 0 ∗ atPos ER (kcell (c, some (1, hf, k))) 0 ∅ 0
    ∗ dutyTok ER (kcell (c, some (0, hf, k))) 0 0 ∗ dutyTok ER (kcell (P hf k c, some (1, hf, k))) 0 0
    ∗ cred (tallyAt (kcell (c, some (1, hf, k))) () (N k)))
def agGh (c : Dev nD) (hf : Fin 2) (k : Fin 4) : sProp 𝕄 :=
  iprop(atPos ER (kcell (c, some (2, hf, k))) 0 ∅ 0 ∗ atPos ER (kcell (c, some (3, hf, k))) 0 ∅ 0
    ∗ dutyTok ER (kcell (c, some (2, hf, k))) 0 0 ∗ dutyTok ER (kcell (P hf (rv k) c, some (3, hf, k))) 0 0
    ∗ cred (tallyAt (kcell (c, some (3, hf, k))) () (N (rv k))))

/-- The two counters of an exchange, at zero. -/
def rsZ (c : Dev nD) (hf : Fin 2) (k : Fin 4) : sProp 𝕄 :=
  iprop(semVal (kcell (c, some (0, hf, k))) 0 ∗ semVal (kcell (c, some (1, hf, k))) 0)
def agZ (c : Dev nD) (hf : Fin 2) (k : Fin 4) : sProp 𝕄 :=
  iprop(semVal (kcell (c, some (2, hf, k))) 0 ∗ semVal (kcell (c, some (3, hf, k))) 0)

/-- The partner's rows that this device will write back into. -/
def back (c : Dev nD) (hf : Fin 2) (k : Fin 4) : sProp 𝕄 := gAny (F := F) (P hf k c) (rowsU (act hf (k + 1) c) (nu (k + 1)))

variable (X : Dev nD → SR.Idx → F .f32) (K : Dev nD × CI → ℕ)

/-- Before reduce-scatter step `n`; after all-gather has come back to step `n`. -/
def RSt (n : Nat) (c : Dev nD) : sProp 𝕄 :=
  iprop(oP c (half 0) (A X 0 n c) ∗ oP c (half 1) (A X 1 n c) ∗ gAny (F := F) c (rowsU (act 0 n c) (nu n)) ∗ gAny (F := F) c (rowsU (act 1 n c) (nu n)))
def ASt (n : Nat) (c : Dev nD) : sProp 𝕄 :=
  iprop(oP c (half 0) (B X 0 n c) ∗ oP c (half 1) (B X 1 n c) ∗ gP c (rowsU (act 0 n c) (nu n)) (T X 0) ∗ gP c (rowsU (act 1 n c) (nu n)) (T X 1))

theorem rs_stage (k : Fin 4) {c nA nB : Dev nD} {r : Nat} {ma mb : Memref sig .tc .vmem ⟨2, ![r, 1024]⟩ .bf16}
    (hbA : ∀ Φ : (r : Nat) → Memref sig .tc .vmem ⟨2, ![r, 1024]⟩ .bf16 → sProp 𝕄, onBuf Φ 0 k = Φ r ma)
    (hbB : ∀ Φ : (r : Nat) → Memref sig .tc .vmem ⟨2, ![r, 1024]⟩ .bf16 → sProp 𝕄, onBuf Φ 1 k = Φ r mb)
    (hr : r = 64 * nu (k + 1)) (hNA : ma.view.dmaCredit = N k) (hNB : mb.view.dmaCredit = N k) (hnA : nA = P 0 k c) (hnB : nB = P 1 k c)
    {o1 o2 o3 o4 o5 o6 : Fin 2 → Nat} (ho1 : o1 = ![64 * snd 0 k c, 0]) (ho2 : o2 = ![64 * snd 0 k c, 0])
    (ho3 : o3 = ![64 * snd 1 k c, 0]) (ho4 : o4 = ![64 * snd 1 k c, 0])
    (ho5 : o5 = ![64 * act 0 (k + 1) c, 0]) (ho6 : o6 = ![64 * act 1 (k + 1) c, 0])
    {i1 i2 i3 i4 i5 i6 ib} {sSA sRA sSB sRB : DmaSem sig}
    (hSA : sSA = dsem 0 0 k) (hRA : sRA = dsem 1 0 k) (hSB : sSB = dsem 0 1 k) (hRB : sRB = dsem 1 1 k)
    {pA pB : Vec F ⟨2, ![r, 1024]⟩ .f32 → FVec F ⟨2, ![r, 1024]⟩ .bf16} (hpA : ∀ v j, pA v j = tr (v j)) (hpB : ∀ v j, pB v j = tr (v j))
    {qA qB : Vec F ⟨2, ![r, 1024]⟩ .f32 → Vec F ⟨2, ![r, 1024]⟩ .bf16 → FVec F ⟨2, ![r, 1024]⟩ .f32}
    (hqA : ∀ v w j, qA v w j = FloatOps.addf (v j) (ex (w j))) (hqB : ∀ v w j, qB v w j = FloatOps.addf (v j) (ex (w j)))
    (l : List (Dev nD × CI)) (l' : List CI) (hl : l.map Prod.snd = l') (hlt : ∀ i ∈ l', 2 + k.val < lvC i)
    {s2 : ∀ x, (rct o2 r i2).stride x = 1} {s4 : ∀ x, (rct o4 r i4).stride x = 1}
    (hgA : (gM.slice (rct o2 r i2) s2).view.dmaCredit = N k) (hgB : (gM.slice (rct o4 r i4) s4).view.dmaCredit = N k)
    {a1 a2 a3 a4 a5 a6 a7 a8 b1 b2 b3 b4 b5 b6 b7 b8 c1 c2 c3 c4 c5 c6 c7 c8 c9 d1 d2 d3 d4 d5 d6 d7 d8 d9}
    {α : Type} {Q : α → sProp 𝕄} {kk : PUnit → Prog (TpuEff nD τ sig (Elt F) Λ₀ .tc) α} :
    iprop(recs X K c ∗ levAts L lv ∗ RSt X k c ∗ onBuf (lAny (F := F) (P 0 k c)) 0 k ∗ onBuf (lAny (F := F) (P 1 k c)) 1 k
        ∗ rsGh c 0 k ∗ rsGh c 1 k ∗ owesE c ((P 0 k c, some (1, 0, k)) :: (P 1 k c, some (1, 1, k)) :: l))
      ⊢ iprop(((RSt X (k + 1) c ∗ onBuf (lAny (F := F) c) 0 k ∗ onBuf (lAny (F := F) c) 1 k ∗ back (F := F) c 0 k ∗ back (F := F) c 1 k
            ∗ rsZ c 0 k ∗ rsZ c 1 k ∗ owesE c l) -∗ WP c (kk ⟨⟩) Q)
        -∗ WP c (.op (.load oM (rct o1 r i1).toLoadRect a1) fun v => .op (.load gM (rct o1 r i1).toLoadRect a2) fun _ =>
            .op (.store gM (rct o1 r i1) (pA v) Finset.univ a3 a4) fun _ =>
            .op (.enqueueDma (gM.slice (rct o2 r i2) s2) (.remote (Dev.tc nA) ma (.dma sSA) a5) (.dma sRA) a6 a7 a8) fun _ =>
            .op (.load oM (rct o3 r i3).toLoadRect b1) fun v => .op (.load gM (rct o3 r i3).toLoadRect b2) fun _ =>
            .op (.store gM (rct o3 r i3) (pB v) Finset.univ b3 b4) fun _ =>
            .op (.enqueueDma (gM.slice (rct o4 r i4) s4) (.remote (Dev.tc nB) mb (.dma sSB) b5) (.dma sRB) b6 b7 b8) fun _ =>
            .op (.waitDma2 sSA ma (gM.slice (rct o2 r i2) s2) c1 c2) fun _ => .op (.waitDma2 sRA (gM.slice (rct o2 r i2) s2) ma c3 c4) fun _ =>
            .op (.load oM (rct o5 r i5).toLoadRect c5) fun v =>
            .op (.load ma (Rect.unit (s := ⟨2, ![r, 1024]⟩) ![0, 0] ![r, 1024] ib).toLoadRect c6) fun w =>
            .op (.load oM (rct o5 r i5).toLoadRect c7) fun _ => .op (.store oM (rct o5 r i5) (qA v w) Finset.univ c8 c9) fun _ =>
            .op (.waitDma2 sSB mb (gM.slice (rct o4 r i4) s4) d1 d2) fun _ => .op (.waitDma2 sRB (gM.slice (rct o4 r i4) s4) mb d3 d4) fun _ =>
            .op (.load oM (rct o6 r i6).toLoadRect d5) fun v =>
            .op (.load mb (Rect.unit (s := ⟨2, ![r, 1024]⟩) ![0, 0] ![r, 1024] ib).toLoadRect d6) fun w =>
            .op (.load oM (rct o6 r i6).toLoadRect d7) fun _ => .op (.store oM (rct o6 r i6) (qB v w) Finset.univ d8 d9) kk) Q) := by
  unfold RSt rsGh rsZ back
  iintro ⟨#HR, #Hlev, ⟨HoA, HoB, HgA, HgB⟩, HbA, HbB, ⟨Hp0A, Hp1A, Ht0A, Ht1A, HcA⟩, ⟨Hp0B, Hp1B, Ht0B, Ht1B, HcB⟩, HO⟩ Hk
  iapply (rs_send X K (hf := 0) (k := k) (c := c) hbA hr hNA hnA ho1 ho2 hSA hRA hpA ((P 1 k c, some (1, 1, k)) :: l)) $$ [HoA HgA HbA Ht0A Ht1A HO]
  · isplitr; · iexact HR
    isplitl [HoA]; · iexact HoA
    isplitl [HgA]; · iexact HgA
    isplitl [HbA]; · rw [hnA]; iexact HbA
    isplitl [Ht0A]; · iexact Ht0A
    isplitl [Ht1A]; · iexact Ht1A
    iexact HO
  iintro ⟨HoA, HgA, Hs0A, HO⟩
  iapply (rs_send X K (hf := 1) (k := k) (c := c) hbB hr hNB hnB ho3 ho4 hSB hRB hpB l) $$ [HoB HgB HbB Ht0B Ht1B HO]
  · isplitr; · iexact HR
    isplitl [HoB]; · iexact HoB
    isplitl [HgB]; · iexact HgB
    isplitl [HbB]; · rw [hnB]; iexact HbB
    isplitl [Ht0B]; · iexact Ht0B
    isplitl [Ht1B]; · iexact Ht1B
    iexact HO
  iintro ⟨HoB, HgB, Hs0B, HO⟩
  iapply (rs_recv X K (hf := 0) (k := k) (c := c) hbA hr hNA ho5 hSA hRA hgA hqA l l' hl hlt) $$ [HoA Hp0A Hp1A Hs0A HcA HO]
  · isplitr; · iexact HR
    isplitr; · iexact Hlev
    isplitl [HoA]; · iexact HoA
    isplitl [Hp0A]; · iexact Hp0A
    isplitl [Hp1A]; · iexact Hp1A
    isplitl [Hs0A]; · iexact Hs0A
    isplitl [HcA]; · iexact HcA
    iexact HO
  iintro ⟨HoA, HbA, HkA, Hz0A, Hz1A, HO⟩
  iapply (rs_recv X K (hf := 1) (k := k) (c := c) hbB hr hNB ho6 hSB hRB hgB hqB l l' hl hlt) $$ [HoB Hp0B Hp1B Hs0B HcB HO]
  · isplitr; · iexact HR
    isplitr; · iexact Hlev
    isplitl [HoB]; · iexact HoB
    isplitl [Hp0B]; · iexact Hp0B
    isplitl [Hp1B]; · iexact Hp1B
    isplitl [Hs0B]; · iexact Hs0B
    isplitl [HcB]; · iexact HcB
    iexact HO
  iintro ⟨HoB, HbB, HkB, Hz0B, Hz1B, HO⟩
  iapply Hk
  isplitl [HoA HoB HgA HgB]
  · isplitl [HoA]; · iexact HoA
    isplitl [HoB]; · iexact HoB
    isplitl [HgA]; · iexact HgA
    iexact HgB
  isplitl [HbA]; · iexact HbA
  isplitl [HbB]; · iexact HbB
  isplitl [HkA]; · iexact HkA
  isplitl [HkB]; · iexact HkB
  isplitl [Hz0A Hz1A]
  · isplitl [Hz0A]; · iexact Hz0A
    iexact Hz1A
  isplitl [Hz0B Hz1B]
  · isplitl [Hz0B]; · iexact Hz0B
    iexact Hz1B
  iexact HO

theorem ag_stage (k : Fin 4) {c nA nB : Dev nD} {r : Nat}
    (hr : r = 64 * nu (rv k + 1)) (hnA : nA = P 0 (rv k) c) (hnB : nB = P 1 (rv k) c)
    {o1 o2 o3 o4 : Fin 2 → Nat} (ho1 : o1 = ![64 * act 0 (rv k + 1) c, 0]) (ho2 : o2 = ![64 * act 1 (rv k + 1) c, 0])
    (ho3 : o3 = ![64 * snd 0 (rv k) c, 0]) (ho4 : o4 = ![64 * snd 1 (rv k) c, 0])
    {i1 i2 i3 i4} {sSA sRA sSB sRB : DmaSem sig}
    (hSA : sSA = dsem 2 0 k) (hRA : sRA = dsem 3 0 k) (hSB : sSB = dsem 2 1 k) (hRB : sRB = dsem 3 1 k)
    {qA qB : Vec F ⟨2, ![r, 1024]⟩ .bf16 → FVec F ⟨2, ![r, 1024]⟩ .f32} (hqA : ∀ v j, qA v j = ex (v j)) (hqB : ∀ v j, qB v j = ex (v j))
    (l : List (Dev nD × CI)) (l' : List CI) (hl : l.map Prod.snd = l') (hlt : ∀ i ∈ l', 6 + k.val < lvC i)
    {s1 : ∀ x, (rct o1 r i1).stride x = 1} {s2 : ∀ x, (rct o2 r i2).stride x = 1}
    (hgA : (gM.slice (rct o1 r i1) s1).view.dmaCredit = N (rv k)) (hgB : (gM.slice (rct o2 r i2) s2).view.dmaCredit = N (rv k))
    {a5 a6 a7 a8 b5 b6 b7 b8 c1 c2 c3 c4 c5 c6 c7 c8 d1 d2 d3 d4 d5 d6 d7 d8}
    {α : Type} {Q : α → sProp 𝕄} {kk : PUnit → Prog (TpuEff nD τ sig (Elt F) Λ₀ .tc) α} :
    iprop(recs X K c ∗ levAts L lv ∗ ASt X (rv k + 1) c ∗ back (F := F) c 0 (rv k) ∗ back (F := F) c 1 (rv k)
        ∗ agGh c 0 k ∗ agGh c 1 k ∗ owesE c ((P 0 (rv k) c, some (3, 0, k)) :: (P 1 (rv k) c, some (3, 1, k)) :: l))
      ⊢ iprop(((ASt X (rv k) c ∗ agZ c 0 k ∗ agZ c 1 k ∗ owesE c l) -∗ WP c (kk ⟨⟩) Q)
        -∗ WP c (.op (.enqueueDma (gM.slice (rct o1 r i1) s1) (.remote (Dev.tc nA) (gM.slice (rct o1 r i1) s1) (.dma sSA) a5) (.dma sRA) a6 a7 a8) fun _ =>
            .op (.enqueueDma (gM.slice (rct o2 r i2) s2) (.remote (Dev.tc nB) (gM.slice (rct o2 r i2) s2) (.dma sSB) b5) (.dma sRB) b6 b7 b8) fun _ =>
            .op (.waitDma2 sSA (gM.slice (rct o1 r i1) s1) (gM.slice (rct o1 r i1) s1) c1 c2) fun _ =>
            .op (.waitDma2 sRA (gM.slice (rct o1 r i1) s1) (gM.slice (rct o1 r i1) s1) c3 c4) fun _ =>
            .op (.load gM (rct o3 r i3).toLoadRect c5) fun v =>
            .op (.load oM (rct o3 r i3).toLoadRect c6) fun _ => .op (.store oM (rct o3 r i3) (qA v) Finset.univ c7 c8) fun _ =>
            .op (.waitDma2 sSB (gM.slice (rct o2 r i2) s2) (gM.slice (rct o2 r i2) s2) d1 d2) fun _ =>
            .op (.waitDma2 sRB (gM.slice (rct o2 r i2) s2) (gM.slice (rct o2 r i2) s2) d3 d4) fun _ =>
            .op (.load gM (rct o4 r i4).toLoadRect d5) fun v =>
            .op (.load oM (rct o4 r i4).toLoadRect d6) fun _ => .op (.store oM (rct o4 r i4) (qB v) Finset.univ d7 d8) kk) Q) := by
  unfold ASt agGh agZ back
  iintro ⟨#HR, #Hlev, ⟨HoA, HoB, HgA, HgB⟩, HbA, HbB, ⟨Hp0A, Hp1A, Ht0A, Ht1A, HcA⟩, ⟨Hp0B, Hp1B, Ht0B, Ht1B, HcB⟩, HO⟩ Hk
  iapply (ag_send X K (hf := 0) (k := k) (c := c) hr hnA ho1 ho1 hSA hRA ((P 1 (rv k) c, some (3, 1, k)) :: l) hgA) $$ [HgA HbA Ht0A Ht1A HO]
  · isplitr; · iexact HR
    isplitl [HgA]; · iexact HgA
    isplitl [HbA]; · iexact HbA
    isplitl [Ht0A]; · iexact Ht0A
    isplitl [Ht1A]; · iexact Ht1A
    iexact HO
  iintro ⟨Hs0A, HO⟩
  iapply (ag_send X K (hf := 1) (k := k) (c := c) hr hnB ho2 ho2 hSB hRB l hgB) $$ [HgB HbB Ht0B Ht1B HO]
  · isplitr; · iexact HR
    isplitl [HgB]; · iexact HgB
    isplitl [HbB]; · iexact HbB
    isplitl [Ht0B]; · iexact Ht0B
    isplitl [Ht1B]; · iexact Ht1B
    iexact HO
  iintro ⟨Hs0B, HO⟩
  iapply (ag_recv X K (hf := 0) (k := k) (c := c) hr ho3 hSA hRA hgA hgA hqA l l' hl hlt) $$ [HoA Hp0A Hp1A Hs0A HcA HO]
  · isplitr; · iexact HR
    isplitr; · iexact Hlev
    isplitl [HoA]; · iexact HoA
    isplitl [Hp0A]; · iexact Hp0A
    isplitl [Hp1A]; · iexact Hp1A
    isplitl [Hs0A]; · iexact Hs0A
    isplitl [HcA]; · iexact HcA
    iexact HO
  iintro ⟨HoA, HgA, Hz0A, Hz1A, HO⟩
  iapply (ag_recv X K (hf := 1) (k := k) (c := c) hr ho4 hSB hRB hgB hgB hqB l l' hl hlt) $$ [HoB Hp0B Hp1B Hs0B HcB HO]
  · isplitr; · iexact HR
    isplitr; · iexact Hlev
    isplitl [HoB]; · iexact HoB
    isplitl [Hp0B]; · iexact Hp0B
    isplitl [Hp1B]; · iexact Hp1B
    isplitl [Hs0B]; · iexact Hs0B
    isplitl [HcB]; · iexact HcB
    iexact HO
  iintro ⟨HoB, HgB, Hz0B, Hz1B, HO⟩
  iapply Hk
  isplitl [HoA HoB HgA HgB]
  · isplitl [HoA]; · iexact HoA
    isplitl [HoB]; · iexact HoB
    isplitl [HgA]; · iexact HgA
    iexact HgB
  isplitl [Hz0A Hz1A]
  · isplitl [Hz0A]; · iexact Hz0A
    iexact Hz1A
  isplitl [Hz0B Hz1B]
  · isplitl [Hz0B]; · iexact Hz0B
    iexact Hz1B
  iexact HO

end Cert.AllReduce
-- ==== Proof.Entry.lean ====
/-
# The printed numbers, and the entry of the kernel

The printed offsets, device numbers, semaphores and elementwise values, as the exchange pattern names them; the handshake at
the entry; the copy of the two inputs into the result.
-/
module

public import proofs.«01_k».proof.Proof.Stage

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Offsets -/

/-- The offset of unit `u`. -/
abbrev at64 (u : Nat) : Fin 2 → Nat := ![64 * u, 0]

theorem offs_rs0 (c : Dev nD) : k2_off1 c = at64 (snd 0 0 c) ∧ k2_off2 c = at64 (snd 0 0 c) ∧ k2_off3 c = at64 (snd 1 0 c)
    ∧ k2_off4 c = at64 (snd 1 0 c) ∧ k2_off5 c = at64 (act 0 1 c) ∧ k2_off6 c = at64 (act 1 1 c) := by
  revert c; decide +kernel
theorem offs_rs1 (c : Dev nD) : k2_off7 c = at64 (snd 0 1 c) ∧ k2_off8 c = at64 (snd 0 1 c) ∧ k2_off9 c = at64 (snd 1 1 c)
    ∧ k2_off10 c = at64 (snd 1 1 c) ∧ k2_off11 c = at64 (act 0 2 c) ∧ k2_off12 c = at64 (act 1 2 c) := by
  revert c; decide +kernel
theorem offs_rs2 (c : Dev nD) : k2_off13 c = at64 (snd 0 2 c) ∧ k2_off14 c = at64 (snd 0 2 c) ∧ k2_off15 c = at64 (snd 1 2 c)
    ∧ k2_off16 c = at64 (snd 1 2 c) ∧ k2_off17 c = at64 (act 0 3 c) ∧ k2_off18 c = at64 (act 1 3 c) := by
  revert c; decide +kernel
theorem offs_rs3 (c : Dev nD) : k2_off19 c = at64 (snd 0 3 c) ∧ k2_off20 c = at64 (snd 0 3 c) ∧ k2_off21 c = at64 (snd 1 3 c)
    ∧ k2_off22 c = at64 (snd 1 3 c) ∧ k2_off23 c = at64 (act 0 4 c) ∧ k2_off24 c = at64 (act 1 4 c) := by
  revert c; decide +kernel
theorem offs_ag0 (c : Dev nD) : k2_off25 c = at64 (act 0 4 c) ∧ k2_off26 c = at64 (act 1 4 c) ∧ k2_off27 c = at64 (snd 0 3 c)
    ∧ k2_off28 c = at64 (snd 1 3 c) := by
  revert c; decide +kernel
theorem offs_ag1 (c : Dev nD) : k2_off29 c = at64 (act 0 3 c) ∧ k2_off30 c = at64 (act 1 3 c) ∧ k2_off31 c = at64 (snd 0 2 c)
    ∧ k2_off32 c = at64 (snd 1 2 c) := by
  revert c; decide +kernel
theorem offs_ag2 (c : Dev nD) : k2_off33 c = at64 (act 0 2 c) ∧ k2_off34 c = at64 (act 1 2 c) ∧ k2_off35 c = at64 (snd 0 1 c)
    ∧ k2_off36 c = at64 (snd 1 1 c) := by
  revert c; decide +kernel
theorem offs_ag3 (c : Dev nD) : k2_off37 c = at64 (act 0 1 c) ∧ k2_off38 c = at64 (act 1 1 c) ∧ k2_off39 c = at64 (snd 0 0 c)
    ∧ k2_off40 c = at64 (snd 1 0 c) := by
  revert c; decide +kernel

/-! ## Partners -/

abbrev dv (n : Nat) (h : n < nD) : Dev nD := ⟨n, h⟩

theorem devs_bar (c : Dev nD) : dv _ (k2_dev1_lt c) = pt 0 c ∧ dv _ (k2_dev2_lt c) = pt 1 c ∧ dv _ (k2_dev3_lt c) = pt 2 c
    ∧ dv _ (k2_dev4_lt c) = pt 3 c := by
  revert c; decide +kernel
theorem devs_rs (c : Dev nD) : (dv _ (k2_dev5_lt c) = P 0 0 c ∧ dv _ (k2_dev6_lt c) = P 1 0 c)
    ∧ (dv _ (k2_dev7_lt c) = P 0 1 c ∧ dv _ (k2_dev8_lt c) = P 1 1 c)
    ∧ (dv _ (k2_dev9_lt c) = P 0 2 c ∧ dv _ (k2_dev10_lt c) = P 1 2 c)
    ∧ (dv _ (k2_dev11_lt c) = P 0 3 c ∧ dv _ (k2_dev12_lt c) = P 1 3 c) := by
  revert c; decide +kernel
theorem devs_ag (c : Dev nD) : (dv _ (k2_dev13_lt c) = P 0 3 c ∧ dv _ (k2_dev14_lt c) = P 1 3 c)
    ∧ (dv _ (k2_dev15_lt c) = P 0 2 c ∧ dv _ (k2_dev16_lt c) = P 1 2 c)
    ∧ (dv _ (k2_dev17_lt c) = P 0 1 c ∧ dv _ (k2_dev18_lt c) = P 1 1 c)
    ∧ (dv _ (k2_dev19_lt c) = P 0 0 c ∧ dv _ (k2_dev20_lt c) = P 1 0 c) := by
  revert c; decide +kernel

/-! ## Elementwise values -/

theorem send_pays :
    (∀ (v : Vec F S512x1024 .f32) j, k2_pay5 (k2_pay4 v) j = tr (v j)) ∧ (∀ (v : Vec F S512x1024 .f32) j, k2_pay6 v j = tr (v j))
    ∧ (∀ (v : Vec F S256x1024 .f32) j, k2_pay10 v j = tr (v j)) ∧ (∀ (v : Vec F S256x1024 .f32) j, k2_pay12 (k2_pay11 v) j = tr (v j))
    ∧ (∀ (v : Vec F S128x1024 .f32) j, k2_pay15 v j = tr (v j)) ∧ (∀ (v : Vec F S128x1024 .f32) j, k2_pay16 v j = tr (v j))
    ∧ (∀ (v : Vec F S64x1024 .f32) j, k2_pay19 v j = tr (v j)) ∧ (∀ (v : Vec F S64x1024 .f32) j, k2_pay20 v j = tr (v j))
    ∧ (∀ (v : Vec F S64x1024 .f32) j, k2_pay23 v j = tr (v j)) ∧ (∀ (v : Vec F S64x1024 .f32) j, k2_pay24 v j = tr (v j)) := by
  simp only [k2_pay4, k2_pay5, k2_pay6, k2_pay10, k2_pay11, k2_pay12, k2_pay15, k2_pay16, k2_pay19, k2_pay20, k2_pay23, k2_pay24, shapeCast_self]
  exact ⟨fun _ _ => rfl, fun _ _ => rfl, fun _ _ => rfl, fun _ _ => rfl, fun _ _ => rfl, fun _ _ => rfl, fun _ _ => rfl, fun _ _ => rfl, fun _ _ => rfl, fun _ _ => rfl⟩

theorem recv_pays :
    (∀ (v : Vec F S512x1024 .f32) (w : Vec F S512x1024 .bf16) j, k2_pay7 v w j = FloatOps.addf (v j) (ex (w j)))
    ∧ (∀ (v : Vec F S512x1024 .f32) (w : Vec F S512x1024 .bf16) j, k2_pay9 (k2_pay8 v) w j = FloatOps.addf (v j) (ex (w j)))
    ∧ (∀ (v : Vec F S256x1024 .f32) (w : Vec F S256x1024 .bf16) j, k2_pay13 v w j = FloatOps.addf (v j) (ex (w j)))
    ∧ (∀ (v : Vec F S256x1024 .f32) (w : Vec F S256x1024 .bf16) j, k2_pay14 v w j = FloatOps.addf (v j) (ex (w j)))
    ∧ (∀ (v : Vec F S128x1024 .f32) (w : Vec F S128x1024 .bf16) j, k2_pay17 v w j = FloatOps.addf (v j) (ex (w j)))
    ∧ (∀ (v : Vec F S128x1024 .f32) (w : Vec F S128x1024 .bf16) j, k2_pay18 v w j = FloatOps.addf (v j) (ex (w j)))
    ∧ (∀ (v : Vec F S64x1024 .f32) (w : Vec F S64x1024 .bf16) j, k2_pay21 v w j = FloatOps.addf (v j) (ex (w j)))
    ∧ (∀ (v : Vec F S64x1024 .f32) (w : Vec F S64x1024 .bf16) j, k2_pay22 v w j = FloatOps.addf (v j) (ex (w j))) := by
  simp only [k2_pay7, k2_pay8, k2_pay9, k2_pay13, k2_pay14, k2_pay17, k2_pay18, k2_pay21, k2_pay22, shapeCast_self]
  exact ⟨fun _ _ _ => rfl, fun _ _ _ => rfl, fun _ _ _ => rfl, fun _ _ _ => rfl, fun _ _ _ => rfl, fun _ _ _ => rfl, fun _ _ _ => rfl, fun _ _ _ => rfl⟩

/-! ## The handshake -/

section Bar

variable (X : Dev nD → SR.Idx → F .f32) (K : Dev nD × CI → ℕ)

/-- One signal of the handshake hands the two landing buffers of its direction to the partner. -/
theorem sig_bar {d : Fin 4} {c n : Dev nD} (hn : n = pt d c) (l : List (Dev nD × CI)) {z : Int} (hz : z = ((1 : ℕ) : Int))
    {α : Type} {Q : α → sProp 𝕄} {kk : PUnit → Prog (TpuEff nD τ sig (Elt F) Λ₀ .tc) α} :
    iprop(pre X K c ∗ dutyTok ER (kcell (pt d c, none)) 0 d ∗ onBuf (lAny (F := F) c) 0 (dm 0 d) ∗ onBuf (lAny (F := F) c) 1 (dm 1 d)
        ∗ owesE c ((pt d c, none) :: l))
      ⊢ iprop((owesE c l -∗ WP c (kk ⟨⟩) Q) -∗ WP c (.op (.semSignal (n : Thread nD τ) barS z) kk) Q) := by
  subst hn hz
  have hs := fun W => Rounds.wp_signal (defs := defs₀ (F := F)) 𝒱₀ ER (Rd X) (c : Thread nD τ) none (Γ := .empty) (Es := Set.univ)
    (dst := (pt d c : Thread nD τ)) (sem := barS) (r := 0) (d := d) (k' := 1) (k := kk) (Q := Q) (κ := K (pt d c, none))
    (by show d ∈ (Rd X).duties (kcell (pt d c, none)) 0; rw [duties_cell]; exact Finset.mem_univ _) (amount_cell X (pt d c) none d) ()
    (O₀ := tal ((pt d c, none) :: l)) (tal l) (tal_cons (pt d c, none) l) (W := W)
  have hpay : iprop((onBuf (lAny (F := F) c) 0 (dm 0 d) ∗ onBuf (lAny (F := F) c) 1 (dm 1 d)) ∗ near (F := F) c) = (Rd X).payload ((pt d c : Thread nD τ), .reg barS) 0 d := by
    refine Eq.trans ?_ (payload_cell X (pt d c) none d).symm
    show _ = barPay d (pt d c)
    unfold barPay; rw [pt_pt]
  unfold owesE
  iintro ⟨#HR, Ht, Hb0, Hb1, ⟨%W, HO⟩⟩ Hk
  have hbar : (bigSep Finset.univ fun n : Dev nD => (reached ER (kcell (n, none)) 0 : sProp 𝕄)) ⊢ reached ER (kcell (pt d c, none)) 0 :=
    (Entails.of_eq (bigSep_erase (Finset.mem_univ (pt d c)))).trans sep_elim_left
  unfold pre
  icases HR with ⟨#HI, #HB, #HN⟩
  ihave #HSi := (invs_at X K (pt d c, none)) $$ HI
  ihave #HSr := hbar $$ HB
  ihave Hp := (Entails.of_eq hpay) $$ [Hb0 Hb1]
  · isplitl [Hb0 Hb1]
    · isplitl [Hb0]; · iexact Hb0
      iexact Hb1
    iexact HN
  iapply (hs W) $$ [Ht Hp HO]
  · isplitr; · iexact HSi
    isplitl [HO]; · iexact HO
    isplitl [Ht]; · iexact Ht
    isplitl [Hp]; · iexact Hp
    iexact HSr
  iintro HO
  iapply Hk
  iexists W; iexact HO

/-- The wait for the four partners' signals: their landing buffers for this device's copies. -/
theorem wait_bar {c : Dev nD} (l : List (Dev nD × CI)) (l' : List CI) (hl : l.map Prod.snd = l') (hlt : ∀ i ∈ l', 1 < lvC i)
    {z : Int} (hz : z = ((4 : ℕ) : Int))
    {α : Type} {Q : α → sProp 𝕄} {kk : PUnit → Prog (TpuEff nD τ sig (Elt F) Λ₀ .tc) α} :
    iprop(pre X K c ∗ levAts L lv ∗ atPos ER (kcell (c, none)) 0 ∅ 0 ∗ cred (tallyAt (kcell (c, none)) () 4) ∗ owesE c l)
      ⊢ iprop(((barPay (F := F) 0 c ∗ barPay (F := F) 1 c ∗ barPay (F := F) 2 c ∗ barPay (F := F) 3 c ∗ semVal (kcell (c, none)) 0 ∗ owesE c l)
          -∗ WP c (kk ⟨⟩) Q) -∗ WP c (.op (.semWait barS z) kk) Q) := by
  subst hz
  have hw := fun W => Rounds.wp_wait_rest_token (W := W) (defs := defs₀ (F := F)) 𝒱₀ ER (Rd X) (c : Thread nD τ) none (Γ := .empty) (Es := Set.univ)
    (Q := Q) (κ := K (c, none)) (w := .semWait barS ((4 : ℕ) : Int)) (sm := .reg barS) (k' := 4)
    (wpE_semWait_eq (defs := defs₀ (F := F)) 𝒱₀ (c : Thread nD τ) none Set.univ) (Set.mem_univ _)
    (k := kk) () (O := tal l) (R := 0) (m := 0) (T := ∅) ((Nat.zero_add _).trans (expect_bar X c).symm)
  have hm := mayWait_tal (F := F) c (.reg barS) l l' hl (fun i hi => (lv_cell (c, none)).symm ▸ hlt i hi)
  have hr : bigSep ((Rd X).duties ((c : Thread nD τ), .reg barS) 0 \ ∅) (fun d => (Rd X).payload ((c : Thread nD τ), .reg barS) 0 d)
      = iprop(barPay (F := F) 0 c ∗ barPay (F := F) 1 c ∗ barPay (F := F) 2 c ∗ barPay (F := F) 3 c) := rest_bar X c
  unfold owesE
  iintro ⟨#HR, #Hlev, Hat, Hc, ⟨%W, HO⟩⟩ Hk
  unfold pre
  icases HR with ⟨#HI, -, -⟩
  ihave #HSi := (invs_at X K (c, none)) $$ HI
  iapply (hw W) $$ [Hc HO Hat]
  · isplitr; · iexact HSi
    isplitl [Hc]; · iexact Hc
    isplitl [HO]; · iexact HO
    isplitr; · iapply hm; iexact Hlev
    iexact Hat
  iintro ⟨HO, Hat, -, Hpay⟩
  ihave Hpay2 := (Entails.of_eq hr) $$ Hpay
  icases Hpay2 with ⟨H0, H1, H2, H3⟩
  imod (Rounds.cell_close ER (Rd X) (Es := Set.univ) (κ := K (c, none)) (g := kcell (c, none)) (Set.mem_univ _) (fun h => h)
    (R := 1) (duties_later X _)) $$ [Hat] with Hz
  · isplitr; · iexact HSi
    iexact Hat
  iapply Hk
  isplitl [H0]; · iexact H0
  isplitl [H1]; · iexact H1
  isplitl [H2]; · iexact H2
  isplitl [H3]; · iexact H3
  isplitl [Hz]; · iexact Hz
  iexists _; iexact HO

/-- The handshake: what the partners of each half and step hand over, in the order of use. -/
def partnerBufs (c : Dev nD) : sProp 𝕄 :=
  iprop((onBuf (lAny (F := F) (P 0 0 c)) 0 0 ∗ onBuf (lAny (F := F) (P 1 0 c)) 1 0)
    ∗ (onBuf (lAny (F := F) (P 0 1 c)) 0 1 ∗ onBuf (lAny (F := F) (P 1 1 c)) 1 1)
    ∗ (onBuf (lAny (F := F) (P 0 2 c)) 0 2 ∗ onBuf (lAny (F := F) (P 1 2 c)) 1 2)
    ∗ (onBuf (lAny (F := F) (P 0 3 c)) 0 3 ∗ onBuf (lAny (F := F) (P 1 3 c)) 1 3))
def ownBufs (c : Dev nD) : sProp 𝕄 :=
  iprop((onBuf (lAny (F := F) c) 0 0 ∗ onBuf (lAny (F := F) c) 1 0)
    ∗ (onBuf (lAny (F := F) c) 0 1 ∗ onBuf (lAny (F := F) c) 1 1)
    ∗ (onBuf (lAny (F := F) c) 0 2 ∗ onBuf (lAny (F := F) c) 1 2)
    ∗ (onBuf (lAny (F := F) c) 0 3 ∗ onBuf (lAny (F := F) c) 1 3))

/-- The handshake's ghost state. -/
def barGh (c : Dev nD) : sProp 𝕄 :=
  iprop(atPos ER (kcell (c, none)) 0 ∅ 0 ∗ cred (tallyAt (kcell (c, none)) () 4)
    ∗ dutyTok ER (kcell (pt 0 c, none)) 0 0 ∗ dutyTok ER (kcell (pt 1 c, none)) 0 1
    ∗ dutyTok ER (kcell (pt 2 c, none)) 0 2 ∗ dutyTok ER (kcell (pt 3 c, none)) 0 3)

theorem handshake {c n0 n1 n2 n3 : Dev nD} (h0 : n0 = pt 0 c) (h1 : n1 = pt 1 c) (h2 : n2 = pt 2 c) (h3 : n3 = pt 3 c)
    (l : List (Dev nD × CI)) (l' : List CI) (hl : l.map Prod.snd = l') (hlt : ∀ i ∈ l', 1 < lvC i)
    {z w : Int} (hz : z = ((1 : ℕ) : Int)) (hw : w = ((4 : ℕ) : Int))
    {α : Type} {Q : α → sProp 𝕄} {kk : PUnit → Prog (TpuEff nD τ sig (Elt F) Λ₀ .tc) α} :
    iprop(pre X K c ∗ levAts L lv ∗ barGh c ∗ ownBufs (F := F) c
        ∗ owesE c ((pt 0 c, none) :: (pt 1 c, none) :: (pt 2 c, none) :: (pt 3 c, none) :: l))
      ⊢ iprop(((partnerBufs (F := F) c ∗ recs X K c ∗ semVal (kcell (c, none)) 0 ∗ owesE c l) -∗ WP c (kk ⟨⟩) Q)
        -∗ WP c (.op (.semSignal (n0 : Thread nD τ) barS z) fun _ => .op (.semSignal (n1 : Thread nD τ) barS z) fun _ =>
            .op (.semSignal (n2 : Thread nD τ) barS z) fun _ => .op (.semSignal (n3 : Thread nD τ) barS z) fun _ => .op (.semWait barS w) kk) Q) := by
  unfold barGh ownBufs partnerBufs
  iintro ⟨#HR, #Hlev, ⟨Hat, Hc, Ht0, Ht1, Ht2, Ht3⟩, ⟨⟨Ha0, Hb0⟩, ⟨Ha1, Hb1⟩, ⟨Ha2, Hb2⟩, ⟨Ha3, Hb3⟩⟩, HO⟩ Hk
  iapply (sig_bar X K (d := 0) h0 _ hz) $$ [Ht0 Ha0 Hb1 HO]
  · isplitr; · iexact HR
    isplitl [Ht0]; · iexact Ht0
    isplitl [Ha0]; · iexact Ha0
    isplitl [Hb1]; · iexact Hb1
    iexact HO
  iintro HO
  iapply (sig_bar X K (d := 1) h1 _ hz) $$ [Ht1 Ha1 Hb0 HO]
  · isplitr; · iexact HR
    isplitl [Ht1]; · iexact Ht1
    isplitl [Ha1]; · iexact Ha1
    isplitl [Hb0]; · iexact Hb0
    iexact HO
  iintro HO
  iapply (sig_bar X K (d := 2) h2 _ hz) $$ [Ht2 Ha2 Hb3 HO]
  · isplitr; · iexact HR
    isplitl [Ht2]; · iexact Ht2
    isplitl [Ha2]; · iexact Ha2
    isplitl [Hb3]; · iexact Hb3
    iexact HO
  iintro HO
  iapply (sig_bar X K (d := 3) h3 _ hz) $$ [Ht3 Ha3 Hb2 HO]
  · isplitr; · iexact HR
    isplitl [Ht3]; · iexact Ht3
    isplitl [Ha3]; · iexact Ha3
    isplitl [Hb2]; · iexact Hb2
    iexact HO
  iintro HO
  iapply (wait_bar X K l l' hl hlt hw) $$ [Hat Hc HO]
  · isplitr; · iexact HR
    isplitr; · iexact Hlev
    isplitl [Hat]; · iexact Hat
    isplitl [Hc]; · iexact Hc
    iexact HO
  unfold barPay
  iintro ⟨⟨⟨Ha0, Hb1⟩, Hn0⟩, ⟨⟨Ha1, Hb0⟩, Hn1⟩, ⟨⟨Ha2, Hb3⟩, Hn2⟩, ⟨⟨Ha3, Hb2⟩, Hn3⟩, Hz, HO⟩
  iapply Hk
  isplitl [Ha0 Hb0 Ha1 Hb1 Ha2 Hb2 Ha3 Hb3]
  · isplitl [Ha0 Hb0]
    · isplitl [Ha0]; · iexact Ha0
      iexact Hb0
    isplitl [Ha1 Hb1]
    · isplitl [Ha1]; · iexact Ha1
      iexact Hb1
    isplitl [Ha2 Hb2]
    · isplitl [Ha2]; · iexact Ha2
      iexact Hb2
    isplitl [Ha3]; · iexact Ha3
    iexact Hb3
  isplitl [Hn0 Hn1 Hn2 Hn3]
  · unfold recs pre
    icases HR with ⟨#HI, -, #HN⟩
    isplitr; · iexact HI
    isplitr; · iexact HN
    have h4 : (bigSep Finset.univ fun d : Fin 4 => near (F := F) (pt d c))
        = iprop(near (F := F) (pt 0 c) ∗ near (F := F) (pt 1 c) ∗ near (F := F) (pt 2 c) ∗ near (F := F) (pt 3 c)) :=
      bigSep_univ_eq_bigSepL [0, 1, 2, 3] (by decide) (by decide) _
    rw [h4]
    isplitl [Hn0]; · iexact Hn0
    isplitl [Hn1]; · iexact Hn1
    isplitl [Hn2]; · iexact Hn2
    iexact Hn3
  isplitl [Hz]; · iexact Hz
  iexact HO

end Bar

/-! ## The inputs -/

/-- Row `r` below 1024, column `q`. -/
def ix (r q : Nat) : S1024x1024.Idx := fun x => ⟨(![r, q] : Fin 2 → Nat) x % 1024, by
  have h : S1024x1024.size x = 1024 := by revert x; exact Fin.forall_fin_two.mpr ⟨rfl, rfl⟩
  rw [h]; exact Nat.mod_lt _ (by decide)⟩

/-- The two inputs, one above the other. -/
def jn {α : Type} (x y : S1024x1024.Idx → α) (i : SR.Idx) : α :=
  if (i 0).val < 1024 then x (ix (i 0).val (i 1).val) else y (ix (i 0).val (i 1).val)

theorem ix_eq (j : S1024x1024.Idx) (r q : Nat) (h0 : r % 1024 = (j 0).val) (h1 : q = (j 1).val) : ix r q = j :=
  funext fun x => Fin.ext (by
    revert x
    have h : (j 1).val < 1024 := (j 1).isLt
    exact Fin.forall_fin_two.mpr ⟨h0, by show q % 1024 = _; omega⟩)

theorem zero_off : (![0, 0] : Fin 2 → Nat) = fun _ => 0 := funext fun a => by fin_cases a <;> rfl

theorem halves : (Finset.univ : Finset SR.Idx) = half 0 ∪ half 1 := by
  ext i
  have h : (i 0).val < 2048 := (i 0).isLt
  rw [Finset.mem_union, half, half, mem_rowsU, mem_rowsU]
  simp only [Finset.mem_univ, true_iff]
  show (64 * (16 * 0) ≤ _ ∧ _ < 64 * (16 * 0 + 16)) ∨ (64 * (16 * 1) ≤ _ ∧ _ < 64 * (16 * 1 + 16))
  omega

theorem halves_disjoint : Disjoint (half 0) (half 1) := by
  rw [Finset.disjoint_left]
  intro i
  rw [half, half, mem_rowsU, mem_rowsU]
  show 64 * (16 * 0) ≤ _ ∧ _ < 64 * (16 * 0 + 16) → ¬ (64 * (16 * 1) ≤ _ ∧ _ < 64 * (16 * 1 + 16))
  omega

/-- The kernel copies its two blocks into the result. -/
theorem copy_in {c : Dev nD} (x y : S1024x1024.Idx → F .f32) {o0 o1 : Fin 2 → Nat} {i0 i1 ia} (ho0 : o0 = ![64 * 0, 0]) (ho1 : o1 = ![64 * 16, 0])
    {p q : Vec F S1024x1024 .f32 → FVec F S1024x1024 .f32} (hp : ∀ v, p v = v) (hq : ∀ v, q v = v)
    {h1 h2 h3 h4 h5 h6 h7 h8} {α : Type} {Q : α → sProp 𝕄} {kk : PUnit → Prog (TpuEff nD τ sig (Elt F) Λ₀ .tc) α} :
    iprop(((c : Thread nD τ).loc cc2_stg0_0 ↦{fullShare} x) ∗ ((c : Thread nD τ).loc cc2_stg1_0 ↦{fullShare} y)
        ∗ ∃ f : SR.Idx → F .f32, ((c : Thread nD τ).loc cc2_stg2_0 ↦{fullShare} f))
      ⊢ iprop(((((c : Thread nD τ).loc cc2_stg0_0 ↦{fullShare} x) ∗ ((c : Thread nD τ).loc cc2_stg1_0 ↦{fullShare} y)
            ∗ oP c (half 0) (jn x y) ∗ oP c (half 1) (jn x y)) -∗ WP c (kk ⟨⟩) Q)
        -∗ WP c (.op (.load (Memref.whole cc2_stg0_0) (Rect.unit (s := S1024x1024) ![0, 0] S1024x1024.size ia).toLoadRect h1) fun v =>
            .op (.load oM (rct o0 1024 i0).toLoadRect h2) fun _ => .op (.store oM (rct o0 1024 i0) (p v) Finset.univ h3 h4) fun _ =>
            .op (.load (Memref.whole cc2_stg1_0) (Rect.unit (s := S1024x1024) ![0, 0] S1024x1024.size ia).toLoadRect h5) fun v =>
            .op (.load oM (rct o1 1024 i1).toLoadRect h6) fun _ => .op (.store oM (rct o1 1024 i1) (q v) Finset.univ h7 h8) kk) Q) := by
  have hx : (Memref.whole cc2_stg0_0 : Memref sig .tc .vmem S1024x1024 .f32).view.readAt (Elt F) (Rect.unit (s := S1024x1024) ![0, 0] S1024x1024.size ia).toLoadRect x = x :=
    Memref.readAt_unit_zero (Elt F) cc2_stg0_0 zero_off _ x
  have hy : (Memref.whole cc2_stg1_0 : Memref sig .tc .vmem S1024x1024 .f32).view.readAt (Elt F) (Rect.unit (s := S1024x1024) ![0, 0] S1024x1024.size ia).toLoadRect y = y :=
    Memref.readAt_unit_zero (Elt F) cc2_stg1_0 zero_off _ y
  iintro ⟨Hx, Hy, ⟨%f, Ho⟩⟩ Hk
  iapply (wp_load 𝒱₀ (c : Thread nD τ) none Set.univ (m := Memref.whole cc2_stg0_0) (S := Finset.univ) (Finset.subset_univ _)) $$ Hx; iintro Hx
  rw [hx, hp]
  iapply (wp_load 𝒱₀ (c : Thread nD τ) none Set.univ (m := oM) (S := Finset.univ) (Finset.subset_univ _)) $$ Ho; iintro Ho
  iapply (wp_store 𝒱₀ (c : Thread nD τ) none Set.univ (m := oM) (r := rct o0 1024 i0) (S := Finset.univ) (Mk := Finset.univ) (Finset.subset_univ _)) $$ Ho; iintro Ho
  iapply (wp_load 𝒱₀ (c : Thread nD τ) none Set.univ (m := Memref.whole cc2_stg1_0) (S := Finset.univ) (Finset.subset_univ _)) $$ Hy; iintro Hy
  rw [hy, hq]
  iapply (wp_load 𝒱₀ (c : Thread nD τ) none Set.univ (m := oM) (S := Finset.univ) (Finset.subset_univ _)) $$ Ho; iintro Ho
  iapply (wp_store 𝒱₀ (c : Thread nD τ) none Set.univ (m := oM) (r := rct o1 1024 i1) (S := Finset.univ) (Mk := Finset.univ) (Finset.subset_univ _)) $$ Ho; iintro Ho
  have hX : (oM.access (rct o1 1024 i1)).write (Elt F) ((oM.access (rct o0 1024 i0)).write (Elt F) f x Finset.univ) y Finset.univ = jn x y := by
    funext i
    have hi : (i 0).val < 2048 := (i 0).isLt
    unfold jn
    by_cases h : (i 0).val < 1024
    · rw [if_pos h, o_write_off (n := 16) ho1 rfl _ _ (by rw [mem_rowsU]; omega)]
      obtain ⟨j, hj⟩ := emb_cover (a := 0) (n := 16) (inb := i0) ho0 rfl (i := i) (by rw [mem_rowsU]; omega)
      have e0 := emb_row (inb := i0) ho0 j
      have e1 := emb_col (inb := i0) ho0 j
      rw [hj] at e0 e1
      rw [ix_eq j _ _ (by omega) e1, ← hj, o_write]
    · rw [if_neg h]
      obtain ⟨j, hj⟩ := emb_cover (a := 16) (n := 16) (inb := i1) ho1 rfl (i := i) (by rw [mem_rowsU]; omega)
      have e0 := emb_row (inb := i1) ho1 j
      have e1 := emb_col (inb := i1) ho1 j
      rw [hj] at e0 e1
      rw [ix_eq j _ _ (by omega) e1, ← hj, o_write]
  generalize (oM.access (rct o1 1024 i1)).write (Elt F) ((oM.access (rct o0 1024 i0)).write (Elt F) f x Finset.univ) y Finset.univ = fo at hX
  subst hX
  have hs : ((c : Thread nD τ).loc cc2_stg2_0 ↦{fullShare} jn x y : sProp 𝕄) ⊢ iprop(oP c (half 0) (jn x y) ∗ oP c (half 1) (jn x y)) := by
    refine Entails.trans (Entails.of_eq ?_) (pointsTo_union (ℓ := (c : Thread nD τ).loc cc2_stg2_0) halves_disjoint).1
    rw [← halves]
  ihave Ho2 := hs $$ Ho
  iapply Hk
  isplitl [Hx]; · iexact Hx
  isplitl [Hy]; · iexact Hy
  iexact Ho2

end Cert.AllReduce
-- ==== Proof.Body.lean ====
/-
# The body of the kernel

The whole body at a symbolic device: the handshake, the copy of the inputs, four reduce-scatter stages, the rounding of the
finished rows, four all-gather stages.
-/
module

public import proofs.«01_k».proof.Proof.Entry

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The cells of the reduce-scatter steps and of the all-gather steps listed, in the order of the copies. -/
def rss (c : Dev nD) (l : List (Dev nD × CI)) : List (Fin 4) → List (Dev nD × CI)
  | [] => l
  | k :: ks => (P 0 k c, some (1, 0, k)) :: (P 1 k c, some (1, 1, k)) :: rss c l ks
def ags (c : Dev nD) : List (Fin 4) → List (Dev nD × CI)
  | [] => []
  | k :: ks => (P 0 (rv k) c, some (3, 0, k)) :: (P 1 (rv k) c, some (3, 1, k)) :: ags c ks
def rsI (l : List CI) : List (Fin 4) → List CI
  | [] => l
  | k :: ks => some (1, 0, k) :: some (1, 1, k) :: rsI l ks
def agI : List (Fin 4) → List CI
  | [] => []
  | k :: ks => some (3, 0, k) :: some (3, 1, k) :: agI ks

theorem ags_snd (c : Dev nD) (ks : List (Fin 4)) : (ags c ks).map Prod.snd = agI ks := by
  induction ks with
  | nil => rfl
  | cons k ks ih => simp only [ags, agI, List.map_cons, ih]
theorem rss_snd (c : Dev nD) {l : List (Dev nD × CI)} {l' : List CI} (h : l.map Prod.snd = l') (ks : List (Fin 4)) :
    (rss c l ks).map Prod.snd = rsI l' ks := by
  induction ks with
  | nil => exact h
  | cons k ks ih => simp only [rss, rsI, List.map_cons, ih]

/-- What device `c` owes at the launch. -/
def owedL (c : Dev nD) : List (Dev nD × CI) :=
  (pt 0 c, none) :: (pt 1 c, none) :: (pt 2 c, none) :: (pt 3 c, none) :: rss c (ags c [0, 1, 2, 3]) [0, 1, 2, 3]

/-- A transfer's credit depends on its shape only. -/
theorem credit_shape {s : Shape} {v : View sig .tc .vmem s .bf16} (w : View sig .tc .vmem s .bf16) : v.dmaCredit = w.dmaCredit := rfl

theorem credit_slice {off : Fin 2 → Nat} {r : Nat} {inb} {hs : ∀ x, (rct off r inb).stride x = 1} (k : Fin 4) (hr : r = 64 * nu (k + 1)) :
    (gM.slice (rct off r inb) hs).view.dmaCredit = N k := by
  match k, hr with
  | 0, hr => obtain rfl : r = 512 := hr; exact credit_shape (Memref.whole cc2_scratch1 : Memref sig .tc .vmem S512x1024 .bf16).view
  | 1, hr => obtain rfl : r = 256 := hr; exact credit_shape (Memref.whole cc2_scratch2 : Memref sig .tc .vmem S256x1024 .bf16).view
  | 2, hr => obtain rfl : r = 128 := hr; exact credit_shape (Memref.whole cc2_scratch3 : Memref sig .tc .vmem S128x1024 .bf16).view
  | 3, hr => obtain rfl : r = 64 := hr; exact credit_shape (Memref.whole cc2_scratch4 : Memref sig .tc .vmem S64x1024 .bf16).view

/-- The ghost state of the body, and its counters afterwards. -/
def bodyGh (c : Dev nD) : sProp 𝕄 :=
  iprop(barGh c ∗ ((rsGh c 0 0 ∗ rsGh c 1 0) ∗ (rsGh c 0 1 ∗ rsGh c 1 1) ∗ (rsGh c 0 2 ∗ rsGh c 1 2) ∗ (rsGh c 0 3 ∗ rsGh c 1 3))
    ∗ ((agGh c 0 0 ∗ agGh c 1 0) ∗ (agGh c 0 1 ∗ agGh c 1 1) ∗ (agGh c 0 2 ∗ agGh c 1 2) ∗ (agGh c 0 3 ∗ agGh c 1 3)))
def zeros (c : Dev nD) : sProp 𝕄 :=
  iprop(semVal (kcell (c, none)) 0 ∗ ((rsZ c 0 0 ∗ rsZ c 1 0) ∗ (rsZ c 0 1 ∗ rsZ c 1 1) ∗ (rsZ c 0 2 ∗ rsZ c 1 2) ∗ (rsZ c 0 3 ∗ rsZ c 1 3))
    ∗ ((agZ c 0 0 ∗ agZ c 1 0) ∗ (agZ c 0 1 ∗ agZ c 1 1) ∗ (agZ c 0 2 ∗ agZ c 1 2) ∗ (agZ c 0 3 ∗ agZ c 1 3)))

/-- The printed semaphore `n` of an array of eight. -/
abbrev sm8 (S : DmaSems sig S8) (n : Nat) (h : ∀ x, (![n] : Fin 1 → Nat) x + (![1] : Fin 1 → Nat) x ≤ S8.size x) : DmaSem sig :=
  ((SemArray.slice S (Rect.unit (s := S8) ![n] ![1] h)).squeeze S_ squeezes_S1_S_).sem

variable (X : Dev nD → SR.Idx → F .f32) (K : Dev nD × CI → ℕ)

set_option maxHeartbeats 8000000 in
set_option maxRecDepth 20000 in
/-- The body of the kernel on device `c`. -/
theorem body_run {c : Dev nD} (x y : S1024x1024.Idx → F .f32) (hX : X c = jn x y) (Q : PUnit → sProp 𝕄) :
    iprop(pre X K c ∗ levAts L lv ∗ bodyGh c ∗ ownBufs (F := F) c ∗ gAny (F := F) c (half 0) ∗ gAny (F := F) c (half 1)
        ∗ ((c : Thread nD τ).loc cc2_stg0_0 ↦{fullShare} x) ∗ ((c : Thread nD τ).loc cc2_stg1_0 ↦{fullShare} y)
        ∗ (∃ f : SR.Idx → F .f32, ((c : Thread nD τ).loc cc2_stg2_0 ↦{fullShare} f)) ∗ owesE c (owedL c)
        ∗ ((((c : Thread nD τ).loc cc2_stg0_0 ↦{fullShare} x) ∗ ((c : Thread nD τ).loc cc2_stg1_0 ↦{fullShare} y)
            ∗ ASt X 0 c ∗ ownBufs (F := F) c ∗ zeros c ∗ owesE c []) -∗ Q ⟨⟩))
      ⊢ WP c (cc2__allreduce_body (Memref.whole cc2_stg0_0) (Memref.isWhole_whole _) (Memref.whole cc2_stg1_0) (Memref.isWhole_whole _)
          oM (Memref.isWhole_whole _) gM (Memref.isWhole_whole _) (Memref.whole cc2_scratch1) (Memref.isWhole_whole _)
          (Memref.whole cc2_scratch2) (Memref.isWhole_whole _) (Memref.whole cc2_scratch3) (Memref.isWhole_whole _)
          (Memref.whole cc2_scratch4) (Memref.isWhole_whole _) (Memref.whole cc2_scratch5) (Memref.isWhole_whole _)
          (Memref.whole cc2_scratch6) (Memref.isWhole_whole _) (Memref.whole cc2_scratch7) (Memref.isWhole_whole _)
          (Memref.whole cc2_scratch8) (Memref.isWhole_whole _) cc2_scratch9 cc2_scratch10 cc2_scratch11 cc2_scratch12) Q := by
  unfold WP
  simp only [cc2__allreduce_body_eq_skeleton]; unfold cc2__allreduce_body_skel
  simp only [k2_part1_eq_skeleton]; unfold k2_part1_skel
  simp only [semSignalWord, semWaitWord, Prog.lift, Prog.bind_op, Prog.bind_ret, Prog.pure_eq_ret, Prog.bind_assoc, wp_deviceId]
  simp only [k2_part2_eq_skeleton]; unfold k2_part2_skel
  simp only [semSignalWord, semWaitWord, Prog.lift, Prog.bind_op, Prog.bind_ret, Prog.pure_eq_ret, Prog.bind_assoc, wp_deviceId]
  simp only [k2_part3_eq_skeleton]; unfold k2_part3_skel
  simp only [semSignalWord, semWaitWord, Prog.lift, Prog.bind_op, Prog.bind_ret, Prog.pure_eq_ret, Prog.bind_assoc, wp_deviceId]
  simp only [k2_part4_eq_skeleton]; unfold k2_part4_skel
  simp only [semSignalWord, semWaitWord, Prog.lift, Prog.bind_op, Prog.bind_ret, Prog.pure_eq_ret, Prog.bind_assoc, wp_deviceId]
  simp only [k2_part5_eq_skeleton]; unfold k2_part5_skel
  simp only [semSignalWord, semWaitWord, Prog.lift, Prog.bind_op, Prog.bind_ret, Prog.pure_eq_ret, Prog.bind_assoc, wp_deviceId]
  simp only [k2_part6_eq_skeleton]; unfold k2_part6_skel
  simp only [semSignalWord, semWaitWord, Prog.lift, Prog.bind_op, Prog.bind_ret, Prog.pure_eq_ret, Prog.bind_assoc, wp_deviceId]
  simp only [k2_part7_eq_skeleton]; unfold k2_part7_skel
  simp only [semSignalWord, semWaitWord, Prog.lift, Prog.bind_op, Prog.bind_ret, Prog.pure_eq_ret, Prog.bind_assoc, wp_deviceId]
  simp only [k2_part8_eq_skeleton]; unfold k2_part8_skel
  simp only [semSignalWord, semWaitWord, Prog.lift, Prog.bind_op, Prog.bind_ret, Prog.pure_eq_ret, Prog.bind_assoc, wp_deviceId]
  simp only [k2_part9_eq_skeleton]; unfold k2_part9_skel
  simp only [semSignalWord, semWaitWord, Prog.lift, Prog.bind_op, Prog.bind_ret, Prog.pure_eq_ret, Prog.bind_assoc, wp_deviceId]
  simp only [k2_part10_eq_skeleton]; unfold k2_part10_skel
  simp only [semSignalWord, semWaitWord, Prog.lift, Prog.bind_op, Prog.bind_ret, Prog.pure_eq_ret, Prog.bind_assoc, wp_deviceId]
  simp only [k2_part11_eq_skeleton]; unfold k2_part11_skel
  simp only [semSignalWord, semWaitWord, Prog.lift, Prog.bind_op, Prog.bind_ret, Prog.pure_eq_ret, Prog.bind_assoc, wp_deviceId]
  simp only [k2_part12_eq_skeleton]; unfold k2_part12_skel
  simp only [semSignalWord, semWaitWord, Prog.lift, Prog.bind_op, Prog.bind_ret, Prog.pure_eq_ret, Prog.bind_assoc, wp_deviceId]
  simp only [k2_part13_eq_skeleton]; unfold k2_part13_skel
  simp only [semSignalWord, semWaitWord, Prog.lift, Prog.bind_op, Prog.bind_ret, Prog.pure_eq_ret, Prog.bind_assoc, wp_deviceId]
  simp only [k2_part14_eq_skeleton]; unfold k2_part14_skel
  simp only [semSignalWord, semWaitWord, Prog.lift, Prog.bind_op, Prog.bind_ret, Prog.pure_eq_ret, Prog.bind_assoc, wp_deviceId]
  simp only [k2_part15_eq_skeleton]; unfold k2_part15_skel
  simp only [semSignalWord, semWaitWord, Prog.lift, Prog.bind_op, Prog.bind_ret, Prog.pure_eq_ret, Prog.bind_assoc, wp_deviceId]
  simp only [k2_part16_eq_skeleton]; unfold k2_part16_skel
  simp only [semSignalWord, semWaitWord, Prog.lift, Prog.bind_op, Prog.bind_ret, Prog.pure_eq_ret, Prog.bind_assoc, wp_deviceId]
  simp only [k2_part17_eq_skeleton]; unfold k2_part17_skel
  simp only [semSignalWord, semWaitWord, Prog.lift, Prog.bind_op, Prog.bind_ret, Prog.pure_eq_ret, Prog.bind_assoc, wp_deviceId]
  simp only [k2_part18_eq_skeleton]; unfold k2_part18_skel
  simp only [semSignalWord, semWaitWord, Prog.lift, Prog.bind_op, Prog.bind_ret, Prog.pure_eq_ret, Prog.bind_assoc, wp_deviceId]
  simp only [k2_part19_eq_skeleton]; unfold k2_part19_skel
  simp only [semSignalWord, semWaitWord, Prog.lift, Prog.bind_op, Prog.bind_ret, Prog.pure_eq_ret, Prog.bind_assoc, wp_deviceId]
  simp only [k2_part20_eq_skeleton]; unfold k2_part20_skel
  simp only [semSignalWord, semWaitWord, Prog.lift, Prog.bind_op, Prog.bind_ret, Prog.pure_eq_ret, Prog.bind_assoc, wp_deviceId]
  simp only [k2_part21_eq_skeleton]; unfold k2_part21_skel
  simp only [semSignalWord, semWaitWord, Prog.lift, Prog.bind_op, Prog.bind_ret, Prog.pure_eq_ret, Prog.bind_assoc, wp_deviceId]
  obtain ⟨d0, d1, d2, d3⟩ := devs_bar c
  obtain ⟨⟨r0a, r0b⟩, ⟨r1a, r1b⟩, ⟨r2a, r2b⟩, ⟨r3a, r3b⟩⟩ := devs_rs c
  obtain ⟨⟨g0a, g0b⟩, ⟨g1a, g1b⟩, ⟨g2a, g2b⟩, ⟨g3a, g3b⟩⟩ := devs_ag c
  obtain ⟨s0a, s0b, s1a, s1b, s2a, s2b, s3a, s3b, s4a, s4b⟩ := send_pays (F := F)
  obtain ⟨v0a, v0b, v1a, v1b, v2a, v2b, v3a, v3b⟩ := recv_pays (F := F)
  unfold bodyGh ownBufs
  iintro ⟨#HP, #Hlev, ⟨Hbar, ⟨⟨Hr0a, Hr0b⟩, ⟨Hr1a, Hr1b⟩, ⟨Hr2a, Hr2b⟩, ⟨Hr3a, Hr3b⟩⟩, ⟨Hg0a, Hg0b⟩, ⟨Hg1a, Hg1b⟩, ⟨Hg2a, Hg2b⟩, ⟨Hg3a, Hg3b⟩⟩, Hbufs, HgA, HgB, Hx, Hy, Hout, HO, Hk⟩
  iapply (handshake X K (c := c) d0 d1 d2 d3 (rss c (ags c [0, 1, 2, 3]) [0, 1, 2, 3]) (rsI (agI [0, 1, 2, 3]) [0, 1, 2, 3])
    (rss_snd c (ags_snd c _) _) (by decide) (z := BitVec.toInt 1#32) (w := BitVec.toInt 4#32) (by decide) (by decide)) $$ [Hbar Hbufs HO]
  · isplitr; · iexact HP
    isplitr; · iexact Hlev
    isplitl [Hbar]; · iexact Hbar
    isplitl [Hbufs]; · unfold ownBufs; iexact Hbufs
    iexact HO
  unfold partnerBufs
  iintro ⟨⟨⟨Hb0a, Hb0b⟩, ⟨Hb1a, Hb1b⟩, ⟨Hb2a, Hb2b⟩, ⟨Hb3a, Hb3b⟩⟩, #HR, Hz, HO⟩
  iapply (copy_in (c := c) x y (o0 := ![0, 0]) (o1 := ![1024, 0]) rfl rfl (p := k2_pay2) (q := k2_pay3)
    (fun v => by simp only [k2_pay2, shapeCast_self]) (fun v => by simp only [k2_pay3, shapeCast_self])) $$ [Hx Hy Hout]
  · isplitl [Hx]; · iexact Hx
    isplitl [Hy]; · iexact Hy
    iexact Hout
  iintro ⟨Hx, Hy, HoA, HoB⟩
  rw [← hX]
  ihave HS := (show iprop(oP c (half 0) (X c) ∗ oP c (half 1) (X c) ∗ gAny (F := F) c (half 0) ∗ gAny (F := F) c (half 1)) ⊢ RSt X (0 : Fin 4).val c from Entails.refl _) $$ [HoA HoB HgA HgB]
  · isplitl [HoA]; · iexact HoA
    isplitl [HoB]; · iexact HoB
    isplitl [HgA]; · iexact HgA
    iexact HgB
  obtain ⟨o1, o2, o3, o4, o5, o6⟩ := offs_rs0 c
  iapply (rs_stage X K 0 (c := c) (ma := Memref.whole cc2_scratch1) (mb := Memref.whole cc2_scratch5) (fun _ => rfl) (fun _ => rfl) rfl rfl rfl r0a r0b
    o1 o2 o3 o4 o5 o6 (sSA := sm8 cc2_scratch9 0 inb_S8_S1_0) (sRA := sm8 cc2_scratch10 0 inb_S8_S1_0)
    (sSB := sm8 cc2_scratch9 4 inb_S8_S1_4) (sRB := sm8 cc2_scratch10 4 inb_S8_S1_4) rfl rfl rfl rfl
    (pA := fun v => k2_pay5 (k2_pay4 v)) (pB := k2_pay6) s0a s0b (qA := k2_pay7) (qB := fun v w => k2_pay9 (k2_pay8 v) w) v0a v0b
    (rss c (ags c [0, 1, 2, 3]) [1, 2, 3]) (rsI (agI [0, 1, 2, 3]) [1, 2, 3]) (rss_snd c (ags_snd c _) _) (by decide)
    (credit_slice 0 rfl) (credit_slice 0 rfl)) $$ [HS Hb0a Hb0b Hr0a Hr0b HO]
  · isplitr; · iexact HR
    isplitr; · iexact Hlev
    isplitl [HS]; · iexact HS
    isplitl [Hb0a]; · iexact Hb0a
    isplitl [Hb0b]; · iexact Hb0b
    isplitl [Hr0a]; · iexact Hr0a
    isplitl [Hr0b]; · iexact Hr0b
    iexact HO
  clear o1 o2 o3 o4 o5 o6
  iintro ⟨HS, Hb0a, Hb0b, Hk0a, Hk0b, Hr0a, Hr0b, HO⟩
  obtain ⟨o1, o2, o3, o4, o5, o6⟩ := offs_rs1 c
  iapply (rs_stage X K 1 (c := c) (ma := Memref.whole cc2_scratch2) (mb := Memref.whole cc2_scratch6) (fun _ => rfl) (fun _ => rfl) rfl rfl rfl r1a r1b
    o1 o2 o3 o4 o5 o6 (sSA := sm8 cc2_scratch9 1 inb_S8_S1_1) (sRA := sm8 cc2_scratch10 1 inb_S8_S1_1)
    (sSB := sm8 cc2_scratch9 5 inb_S8_S1_5) (sRB := sm8 cc2_scratch10 5 inb_S8_S1_5) rfl rfl rfl rfl
    (pA := k2_pay10) (pB := fun v => k2_pay12 (k2_pay11 v)) s1a s1b (qA := k2_pay13) (qB := k2_pay14) v1a v1b
    (rss c (ags c [0, 1, 2, 3]) [2, 3]) (rsI (agI [0, 1, 2, 3]) [2, 3]) (rss_snd c (ags_snd c _) _) (by decide)
    (credit_slice 1 rfl) (credit_slice 1 rfl)) $$ [HS Hb1a Hb1b Hr1a Hr1b HO]
  · isplitr; · iexact HR
    isplitr; · iexact Hlev
    isplitl [HS]; · iexact HS
    isplitl [Hb1a]; · iexact Hb1a
    isplitl [Hb1b]; · iexact Hb1b
    isplitl [Hr1a]; · iexact Hr1a
    isplitl [Hr1b]; · iexact Hr1b
    iexact HO
  clear o1 o2 o3 o4 o5 o6
  iintro ⟨HS, Hb1a, Hb1b, Hk1a, Hk1b, Hr1a, Hr1b, HO⟩
  obtain ⟨o1, o2, o3, o4, o5, o6⟩ := offs_rs2 c
  iapply (rs_stage X K 2 (c := c) (ma := Memref.whole cc2_scratch3) (mb := Memref.whole cc2_scratch7) (fun _ => rfl) (fun _ => rfl) rfl rfl rfl r2a r2b
    o1 o2 o3 o4 o5 o6 (sSA := sm8 cc2_scratch9 2 inb_S8_S1_2) (sRA := sm8 cc2_scratch10 2 inb_S8_S1_2)
    (sSB := sm8 cc2_scratch9 6 inb_S8_S1_6) (sRB := sm8 cc2_scratch10 6 inb_S8_S1_6) rfl rfl rfl rfl
    (pA := k2_pay15) (pB := k2_pay16) s2a s2b (qA := k2_pay17) (qB := k2_pay18) v2a v2b
    (rss c (ags c [0, 1, 2, 3]) [3]) (rsI (agI [0, 1, 2, 3]) [3]) (rss_snd c (ags_snd c _) _) (by decide)
    (credit_slice 2 rfl) (credit_slice 2 rfl)) $$ [HS Hb2a Hb2b Hr2a Hr2b HO]
  · isplitr; · iexact HR
    isplitr; · iexact Hlev
    isplitl [HS]; · iexact HS
    isplitl [Hb2a]; · iexact Hb2a
    isplitl [Hb2b]; · iexact Hb2b
    isplitl [Hr2a]; · iexact Hr2a
    isplitl [Hr2b]; · iexact Hr2b
    iexact HO
  clear o1 o2 o3 o4 o5 o6
  iintro ⟨HS, Hb2a, Hb2b, Hk2a, Hk2b, Hr2a, Hr2b, HO⟩
  obtain ⟨o1, o2, o3, o4, o5, o6⟩ := offs_rs3 c
  iapply (rs_stage X K 3 (c := c) (ma := Memref.whole cc2_scratch4) (mb := Memref.whole cc2_scratch8) (fun _ => rfl) (fun _ => rfl) rfl rfl rfl r3a r3b
    o1 o2 o3 o4 o5 o6 (sSA := sm8 cc2_scratch9 3 inb_S8_S1_3) (sRA := sm8 cc2_scratch10 3 inb_S8_S1_3)
    (sSB := sm8 cc2_scratch9 7 inb_S8_S1_7) (sRB := sm8 cc2_scratch10 7 inb_S8_S1_7) rfl rfl rfl rfl
    (pA := k2_pay19) (pB := k2_pay20) s3a s3b (qA := k2_pay21) (qB := k2_pay22) v3a v3b
    (rss c (ags c [0, 1, 2, 3]) []) (rsI (agI [0, 1, 2, 3]) []) (rss_snd c (ags_snd c _) _) (by decide)
    (credit_slice 3 rfl) (credit_slice 3 rfl)) $$ [HS Hb3a Hb3b Hr3a Hr3b HO]
  · isplitr; · iexact HR
    isplitr; · iexact Hlev
    isplitl [HS]; · iexact HS
    isplitl [Hb3a]; · iexact Hb3a
    isplitl [Hb3b]; · iexact Hb3b
    isplitl [Hr3a]; · iexact Hr3a
    isplitl [Hr3b]; · iexact Hr3b
    iexact HO
  clear o1 o2 o3 o4 o5 o6
  iintro ⟨HS, Hb3a, Hb3b, Hk3a, Hk3b, Hr3a, Hr3b, HO⟩
  ihave HS2 := (show RSt X ((3 : Fin 4).val + 1) c ⊢ iprop(oP c (half 0) (A X 0 4 c) ∗ oP c (half 1) (A X 1 4 c)
    ∗ gAny (F := F) c (rowsU (act 0 4 c) 1) ∗ gAny (F := F) c (rowsU (act 1 4 c) 1)) from Entails.refl _) $$ HS
  icases HS2 with ⟨HoA, HoB, HgA, HgB⟩
  obtain ⟨-, -, -, -, o5, o6⟩ := offs_rs3 c
  iapply (own_store X (hf := 0) (c := c) o5 (pv := k2_pay23) s4a) $$ [HoA HgA]
  · isplitl [HoA]; · iexact HoA
    iexact HgA
  iintro ⟨HoA, HgA⟩
  iapply (own_store X (hf := 1) (c := c) o6 (pv := k2_pay24) s4b) $$ [HoB HgB]
  · isplitl [HoB]; · iexact HoB
    iexact HgB
  iintro ⟨HoB, HgB⟩
  clear o5 o6
  ihave HS := (show iprop(oP c (half 0) (B X 0 4 c) ∗ oP c (half 1) (B X 1 4 c) ∗ gP c (rowsU (act 0 4 c) 1) (T X 0) ∗ gP c (rowsU (act 1 4 c) 1) (T X 1))
    ⊢ ASt X ((rv 0).val + 1) c from Entails.refl _) $$ [HoA HoB HgA HgB]
  · isplitl [HoA]; · iexact HoA
    isplitl [HoB]; · iexact HoB
    isplitl [HgA]; · iexact HgA
    iexact HgB
  obtain ⟨o1, o2, o3, o4⟩ := offs_ag0 c
  iapply (ag_stage X K 0 (c := c) rfl g0a g0b o1 o2 o3 o4
    (sSA := sm8 cc2_scratch11 0 inb_S8_S1_0) (sRA := sm8 cc2_scratch12 0 inb_S8_S1_0)
    (sSB := sm8 cc2_scratch11 4 inb_S8_S1_4) (sRB := sm8 cc2_scratch12 4 inb_S8_S1_4) rfl rfl rfl rfl
    (qA := k2_pay25) (qB := k2_pay26) (fun _ _ => rfl) (fun _ _ => rfl) (ags c [1, 2, 3]) (agI [1, 2, 3]) (ags_snd c _) (by decide)
    (credit_slice 3 rfl) (credit_slice 3 rfl)) $$ [HS Hk3a Hk3b Hg0a Hg0b HO]
  · isplitr; · iexact HR
    isplitr; · iexact Hlev
    isplitl [HS]; · iexact HS
    isplitl [Hk3a]; · iexact Hk3a
    isplitl [Hk3b]; · iexact Hk3b
    isplitl [Hg0a]; · iexact Hg0a
    isplitl [Hg0b]; · iexact Hg0b
    iexact HO
  clear o1 o2 o3 o4
  iintro ⟨HS, Hg0a, Hg0b, HO⟩
  obtain ⟨o1, o2, o3, o4⟩ := offs_ag1 c
  iapply (ag_stage X K 1 (c := c) rfl g1a g1b o1 o2 o3 o4
    (sSA := sm8 cc2_scratch11 1 inb_S8_S1_1) (sRA := sm8 cc2_scratch12 1 inb_S8_S1_1)
    (sSB := sm8 cc2_scratch11 5 inb_S8_S1_5) (sRB := sm8 cc2_scratch12 5 inb_S8_S1_5) rfl rfl rfl rfl
    (qA := k2_pay27) (qB := k2_pay28) (fun _ _ => rfl) (fun _ _ => rfl) (ags c [2, 3]) (agI [2, 3]) (ags_snd c _) (by decide)
    (credit_slice 2 rfl) (credit_slice 2 rfl)) $$ [HS Hk2a Hk2b Hg1a Hg1b HO]
  · isplitr; · iexact HR
    isplitr; · iexact Hlev
    isplitl [HS]; · iexact HS
    isplitl [Hk2a]; · iexact Hk2a
    isplitl [Hk2b]; · iexact Hk2b
    isplitl [Hg1a]; · iexact Hg1a
    isplitl [Hg1b]; · iexact Hg1b
    iexact HO
  clear o1 o2 o3 o4
  iintro ⟨HS, Hg1a, Hg1b, HO⟩
  obtain ⟨o1, o2, o3, o4⟩ := offs_ag2 c
  iapply (ag_stage X K 2 (c := c) rfl g2a g2b o1 o2 o3 o4
    (sSA := sm8 cc2_scratch11 2 inb_S8_S1_2) (sRA := sm8 cc2_scratch12 2 inb_S8_S1_2)
    (sSB := sm8 cc2_scratch11 6 inb_S8_S1_6) (sRB := sm8 cc2_scratch12 6 inb_S8_S1_6) rfl rfl rfl rfl
    (qA := k2_pay29) (qB := k2_pay30) (fun _ _ => rfl) (fun _ _ => rfl) (ags c [3]) (agI [3]) (ags_snd c _) (by decide)
    (credit_slice 1 rfl) (credit_slice 1 rfl)) $$ [HS Hk1a Hk1b Hg2a Hg2b HO]
  · isplitr; · iexact HR
    isplitr; · iexact Hlev
    isplitl [HS]; · iexact HS
    isplitl [Hk1a]; · iexact Hk1a
    isplitl [Hk1b]; · iexact Hk1b
    isplitl [Hg2a]; · iexact Hg2a
    isplitl [Hg2b]; · iexact Hg2b
    iexact HO
  clear o1 o2 o3 o4
  iintro ⟨HS, Hg2a, Hg2b, HO⟩
  obtain ⟨o1, o2, o3, o4⟩ := offs_ag3 c
  iapply (ag_stage X K 3 (c := c) rfl g3a g3b o1 o2 o3 o4
    (sSA := sm8 cc2_scratch11 3 inb_S8_S1_3) (sRA := sm8 cc2_scratch12 3 inb_S8_S1_3)
    (sSB := sm8 cc2_scratch11 7 inb_S8_S1_7) (sRB := sm8 cc2_scratch12 7 inb_S8_S1_7) rfl rfl rfl rfl
    (qA := k2_pay31) (qB := k2_pay1) (fun _ _ => rfl) (fun _ _ => rfl) (ags c []) (agI []) (ags_snd c _) (by decide)
    (credit_slice 0 rfl) (credit_slice 0 rfl)) $$ [HS Hk0a Hk0b Hg3a Hg3b HO]
  · isplitr; · iexact HR
    isplitr; · iexact Hlev
    isplitl [HS]; · iexact HS
    isplitl [Hk0a]; · iexact Hk0a
    isplitl [Hk0b]; · iexact Hk0b
    isplitl [Hg3a]; · iexact Hg3a
    isplitl [Hg3b]; · iexact Hg3b
    iexact HO
  clear o1 o2 o3 o4
  iintro ⟨HS, Hg3a, Hg3b, HO⟩
  unfold WP
  rw [wp_ret]; imodintro
  iapply Hk
  isplitl [Hx]; · iexact Hx
  isplitl [Hy]; · iexact Hy
  isplitl [HS]; · iexact HS
  isplitl [Hb0a Hb0b Hb1a Hb1b Hb2a Hb2b Hb3a Hb3b]
  · isplitl [Hb0a Hb0b]
    · isplitl [Hb0a]; · iexact Hb0a
      iexact Hb0b
    isplitl [Hb1a Hb1b]
    · isplitl [Hb1a]; · iexact Hb1a
      iexact Hb1b
    isplitl [Hb2a Hb2b]
    · isplitl [Hb2a]; · iexact Hb2a
      iexact Hb2b
    isplitl [Hb3a]; · iexact Hb3a
    iexact Hb3b
  isplitr [HO]
  · unfold zeros
    isplitl [Hz]; · iexact Hz
    isplitl [Hr0a Hr0b Hr1a Hr1b Hr2a Hr2b Hr3a Hr3b]
    · isplitl [Hr0a Hr0b]
      · isplitl [Hr0a]; · iexact Hr0a
        iexact Hr0b
      isplitl [Hr1a Hr1b]
      · isplitl [Hr1a]; · iexact Hr1a
        iexact Hr1b
      isplitl [Hr2a Hr2b]
      · isplitl [Hr2a]; · iexact Hr2a
        iexact Hr2b
      isplitl [Hr3a]; · iexact Hr3a
      iexact Hr3b
    isplitl [Hg0a Hg0b]
    · isplitl [Hg0a]; · iexact Hg0a
      iexact Hg0b
    isplitl [Hg1a Hg1b]
    · isplitl [Hg1a]; · iexact Hg1a
      iexact Hg1b
    isplitl [Hg2a Hg2b]
    · isplitl [Hg2a]; · iexact Hg2a
      iexact Hg2b
    isplitl [Hg3a]; · iexact Hg3a
    iexact Hg3b
  iexact HO

end Cert.AllReduce
-- ==== Proof.Ghost.lean ====
/-
# Founding the protocol

The cells' invariants, positions and tokens from the launch, and how they and the launch's credit are dealt to the devices:
each duty's token goes to the device that pays it, the partner for a barrier or receive cell.
-/
module

public import proofs.«01_k».proof.Proof.Body

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## One assertion per half and step -/

abbrev CQ : Type := Fin 4 × Fin 2 × Fin 4

def steps (Φ : Fin 2 → Fin 4 → sProp 𝕄) : sProp 𝕄 :=
  iprop((Φ 0 0 ∗ Φ 1 0) ∗ (Φ 0 1 ∗ Φ 1 1) ∗ (Φ 0 2 ∗ Φ 1 2) ∗ (Φ 0 3 ∗ Φ 1 3))

omit [FloatOps F] [Named F] in
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] [Named F] in
theorem steps_eq (Φ : Fin 2 → Fin 4 → sProp 𝕄) :
    steps Φ = bigSep Finset.univ fun k : Fin 4 => bigSep Finset.univ fun hf : Fin 2 => Φ hf k := by
  rw [four]; simp only [bigSep_univ_two]; rfl

omit [FloatOps F] [Named F] in
theorem steps_sep (Φ Ψ : Fin 2 → Fin 4 → sProp 𝕄) :
    steps (fun hf k => iprop(Φ hf k ∗ Ψ hf k)) = iprop(steps Φ ∗ steps Ψ) := by
  simp only [steps_eq, bigSep_sep']

omit [FloatOps F] [Named F] in
theorem over_cq (Φ : CQ → sProp 𝕄) : bigSep Finset.univ Φ
    = iprop(steps (fun hf k => Φ (0, hf, k)) ∗ steps (fun hf k => Φ (1, hf, k)) ∗ steps (fun hf k => Φ (2, hf, k)) ∗ steps (fun hf k => Φ (3, hf, k))) := by
  have h (ph : Fin 4) : bigSep Finset.univ (fun p : Fin 2 × Fin 4 => Φ (ph, p)) = steps fun hf k => Φ (ph, hf, k) := by
    rw [bigSep_univ_prod, bigSep_univ_comm, steps_eq]
  rw [bigSep_univ_prod, four, h, h, h, h]

omit [FloatOps F] [Named F] in
theorem over_ci (Φ : CI → sProp 𝕄) : bigSep Finset.univ Φ = iprop(Φ none ∗ bigSep Finset.univ fun q : CQ => Φ (some q)) := by
  rw [bigSep_univ_equiv (Equiv.optionEquivSumPUnit.{0} CQ).symm Φ, bigSep_univ_sum]
  have hu : (bigSep Finset.univ fun b : PUnit => Φ ((Equiv.optionEquivSumPUnit CQ).symm (Sum.inr b))) = Φ none :=
    bigSep_univ_of_subsingleton PUnit.unit
  rw [hu]
  have h (A B : sProp 𝕄) : iprop(A ∗ B) ⊢ iprop(B ∗ A) := by
    iintro ⟨HA, HB⟩
    isplitl [HB]; · iexact HB
    iexact HA
  exact BI.Entails.antisymm (h _ _) (h _ _)

/-! ## Tokens -/

abbrev TI : Type := Fin 4 ⊕ CQ

def tokOf : Dev nD × TI → GSem nD τ sig × ℕ × Fin 4
  | (c, .inl d) => (kcell (c, none), 0, d)
  | (c, .inr q) => (kcell (c, some q), 0, 0)

theorem tokOf_inj : Function.Injective tokOf := by
  rintro ⟨c, t⟩ ⟨c', t'⟩ h
  rcases t with d | q <;> rcases t' with d' | q'
  · have h1 := kcell_inj (congrArg Prod.fst h)
    have h2 : d = d' := congrArg (fun x : GSem nD τ sig × ℕ × Fin 4 => x.2.2) h
    rw [(Prod.mk.inj h1).1, h2]
  · exact absurd (Prod.mk.inj (kcell_inj (congrArg Prod.fst h))).2 (by simp)
  · exact absurd (Prod.mk.inj (kcell_inj (congrArg Prod.fst h))).2 (by simp)
  · have h1 := Prod.mk.inj (kcell_inj (congrArg Prod.fst h))
    rw [h1.1, Option.some.inj h1.2]

def cells : Finset (GSem nD τ sig) := Finset.univ.map ⟨kcell, kcell_inj⟩
def toks : Finset (GSem nD τ sig × ℕ × Fin 4) := Finset.univ.map ⟨tokOf, tokOf_inj⟩

/-- The device whose cell the token `t` of device `c` pays into. -/
def payee (c : Dev nD) : TI → Dev nD
  | .inl d => pt d c
  | .inr (ph, hf, k) => if ph = 1 then P hf k c else if ph = 3 then P hf (rv k) c else c

theorem payee_payee (c : Dev nD) (t : TI) : payee (payee c t) t = c := by
  rcases t with d | ⟨ph, hf, k⟩
  · exact pt_pt d c
  · simp only [payee]; split
    · exact P_P hf k c
    · split
      · exact P_P hf (rv k) c
      · rfl

def tok (c : Dev nD) (t : TI) : sProp 𝕄 := dutyTok ER (tokOf (c, t)).1 (tokOf (c, t)).2.1 (tokOf (c, t)).2.2

/-- Every token to the device that pays with it. -/
theorem toks_dealt : (bigSep Finset.univ fun c : Dev nD => bigSep Finset.univ fun t : TI => (tok (F := F) c t))
    = bigSep Finset.univ fun c : Dev nD => bigSep Finset.univ fun t : TI => (tok (F := F) (payee c t) t) := by
  rw [← bigSep_univ_prod (fun p : Dev nD × TI => tok (F := F) p.1 p.2), ← bigSep_univ_prod (fun p : Dev nD × TI => tok (F := F) (payee p.1 p.2) p.2),
    bigSep_univ_equiv (⟨fun p => (payee p.1 p.2, p.2), fun p => (payee p.1 p.2, p.2), fun p => by simp only [payee_payee], fun p => by simp only [payee_payee]⟩ :
      Dev nD × TI ≃ Dev nD × TI) (fun p : Dev nD × TI => tok (F := F) p.1 p.2)]
  rfl

/-! ## Credit -/

def rsC (c : Dev nD) (hf : Fin 2) (k : Fin 4) : sProp 𝕄 := cred (tallyAt (kcell (c, some (1, hf, k))) () (N k))
def agC (c : Dev nD) (hf : Fin 2) (k : Fin 4) : sProp 𝕄 := cred (tallyAt (kcell (c, some (3, hf, k))) () (N (rv k)))
def creds (c : Dev nD) : sProp 𝕄 := iprop(cred (tallyAt (kcell (c, none)) () 4) ∗ steps (rsC (F := F) c) ∗ steps (agC (F := F) c))

theorem peel (c : Dev nD) (i : CI) (f : Dev nD → Dev nD) (hf : ∀ d, f (f d) = d) (l : Dev nD → List (Dev nD × CI)) :
    (Pipeline.launchCred (fun d => tal ((f d, i) :: l d)) c : sProp 𝕄)
      ⊢ iprop(Pipeline.launchCred (fun d => tal (l d)) c ∗ cred (tallyAt (kcell (c, i)) () (amt i))) := by
  show (Pipeline.launchCred (fun d => tal (l d) + tallyAt (kcell (f d, i)) () (amt i)) c : sProp 𝕄) ⊢ _
  rw [Pipeline.launchCred_add]
  exact sep_mono_right (Pipeline.launchCred_tallyAt (csem i) f f hf hf () (amt i) c)

theorem peel_rs (c : Dev nD) (k : Fin 4) (ks : List (Fin 4)) (l : Dev nD → List (Dev nD × CI)) :
    (Pipeline.launchCred (fun d => tal (rss d (l d) (k :: ks))) c : sProp 𝕄)
      ⊢ iprop(Pipeline.launchCred (fun d => tal (rss d (l d) ks)) c ∗ rsC c 0 k ∗ rsC c 1 k) := by
  show (Pipeline.launchCred (fun d => tal ((P 0 k d, some (1, 0, k)) :: (P 1 k d, some (1, 1, k)) :: rss d (l d) ks)) c : sProp 𝕄) ⊢ _
  iintro H
  ihave H := (peel c (some (1, 0, k)) (P 0 k) (P_P 0 k) fun d => (P 1 k d, some (1, 1, k)) :: rss d (l d) ks) $$ H
  icases H with ⟨H, H0⟩
  ihave H := (peel c (some (1, 1, k)) (P 1 k) (P_P 1 k) fun d => rss d (l d) ks) $$ H
  icases H with ⟨H, H1⟩
  rw [amt_1, amt_1]; unfold rsC
  isplitl [H]; · iexact H
  isplitl [H0]; · iexact H0
  iexact H1

theorem peel_ag (c : Dev nD) (k : Fin 4) (ks : List (Fin 4)) :
    (Pipeline.launchCred (fun d => tal (ags d (k :: ks))) c : sProp 𝕄)
      ⊢ iprop(Pipeline.launchCred (fun d => tal (ags d ks)) c ∗ agC c 0 k ∗ agC c 1 k) := by
  show (Pipeline.launchCred (fun d => tal ((P 0 (rv k) d, some (3, 0, k)) :: (P 1 (rv k) d, some (3, 1, k)) :: ags d ks)) c : sProp 𝕄) ⊢ _
  iintro H
  ihave H := (peel c (some (3, 0, k)) (P 0 (rv k)) (P_P 0 (rv k)) fun d => (P 1 (rv k) d, some (3, 1, k)) :: ags d ks) $$ H
  icases H with ⟨H, H0⟩
  ihave H := (peel c (some (3, 1, k)) (P 1 (rv k)) (P_P 1 (rv k)) fun d => ags d ks) $$ H
  icases H with ⟨H, H1⟩
  rw [amt_3, amt_3]; unfold agC
  isplitl [H]; · iexact H
  isplitl [H0]; · iexact H0
  iexact H1

/-- The launch's credit of device `c`. -/
theorem creds_intro (c : Dev nD) : (Pipeline.launchCred (fun d => tal (owedL d)) c : sProp 𝕄) ⊢ creds c := by
  unfold owedL creds steps
  iintro H
  ihave H := (peel c none (pt 0) (pt_pt 0) fun d => (pt 1 d, none) :: (pt 2 d, none) :: (pt 3 d, none) :: rss d (ags d [0, 1, 2, 3]) [0, 1, 2, 3]) $$ H
  icases H with ⟨H, H0⟩
  ihave H := (peel c none (pt 1) (pt_pt 1) fun d => (pt 2 d, none) :: (pt 3 d, none) :: rss d (ags d [0, 1, 2, 3]) [0, 1, 2, 3]) $$ H
  icases H with ⟨H, H1⟩
  ihave H := (peel c none (pt 2) (pt_pt 2) fun d => (pt 3 d, none) :: rss d (ags d [0, 1, 2, 3]) [0, 1, 2, 3]) $$ H
  icases H with ⟨H, H2⟩
  ihave H := (peel c none (pt 3) (pt_pt 3) fun d => rss d (ags d [0, 1, 2, 3]) [0, 1, 2, 3]) $$ H
  icases H with ⟨H, H3⟩
  ihave H := (peel_rs c 0 [1, 2, 3] fun d => ags d [0, 1, 2, 3]) $$ H; icases H with ⟨H, R0⟩
  ihave H := (peel_rs c 1 [2, 3] fun d => ags d [0, 1, 2, 3]) $$ H; icases H with ⟨H, R1⟩
  ihave H := (peel_rs c 2 [3] fun d => ags d [0, 1, 2, 3]) $$ H; icases H with ⟨H, R2⟩
  ihave H := (peel_rs c 3 [] fun d => ags d [0, 1, 2, 3]) $$ H; icases H with ⟨H, R3⟩
  ihave H := (show (Pipeline.launchCred (fun d => tal (rss d (ags d [0, 1, 2, 3]) [])) c : sProp 𝕄)
    ⊢ Pipeline.launchCred (fun d => tal (ags d [0, 1, 2, 3])) c from Entails.refl _) $$ H
  ihave H := (peel_ag c 0 [1, 2, 3]) $$ H; icases H with ⟨H, G0⟩
  ihave H := (peel_ag c 1 [2, 3]) $$ H; icases H with ⟨H, G1⟩
  ihave H := (peel_ag c 2 [3]) $$ H; icases H with ⟨H, G2⟩
  ihave H := (peel_ag c 3 []) $$ H; icases H with ⟨-, G3⟩
  have h4 : (tallyAt (kcell (c, none)) () 4 : CellTallies nD τ sig Unit)
      = tallyAt (kcell (c, none)) () 1 + (tallyAt (kcell (c, none)) () 1 + (tallyAt (kcell (c, none)) () 1 + tallyAt (kcell (c, none)) () 1)) := by
    rw [tallyAt_add, tallyAt_add, tallyAt_add]
  rw [h4]
  isplitl [H0 H1 H2 H3]
  · iapply (cred_add _ _).2; isplitl [H0]; · iexact H0
    iapply (cred_add _ _).2; isplitl [H1]; · iexact H1
    iapply (cred_add _ _).2; isplitl [H2]; · iexact H2
    iexact H3
  isplitl [R0 R1 R2 R3]
  · isplitl [R0]; · iexact R0
    isplitl [R1]; · iexact R1
    isplitl [R2]; · iexact R2
    iexact R3
  isplitl [G0]; · iexact G0
  isplitl [G1]; · iexact G1
  isplitl [G2]; · iexact G2
  iexact G3

/-! ## What each device is dealt -/

variable (X : Dev nD → SR.Idx → F .f32)

/-- A device's positions and the tokens it pays with. -/
def lin (c : Dev nD) : sProp 𝕄 :=
  iprop((bigSep Finset.univ fun i : CI => atPos ER (kcell (c, i)) 0 ∅ 0) ∗ bigSep Finset.univ fun t : TI => tok (F := F) (payee c t) t)

theorem bodyGh_eq (c : Dev nD) : (bodyGh (F := F) c) = iprop(barGh (F := F) c ∗ steps (rsGh (F := F) c) ∗ steps (agGh (F := F) c)) := rfl

/-- They are the ghost state of its body. -/
theorem lin_body (c : Dev nD) : iprop(lin (F := F) c ∗ creds (F := F) c) ⊢ bodyGh (F := F) c := by
  unfold lin creds
  have ht : (bigSep Finset.univ fun t : TI => tok (F := F) (payee c t) t)
      = iprop((bigSep Finset.univ fun d : Fin 4 => tok (F := F) (payee c (.inl d)) (.inl d)) ∗ bigSep Finset.univ fun q : CQ => tok (F := F) (payee c (.inr q)) (.inr q)) :=
    bigSep_univ_sum _
  rw [bodyGh_eq, over_ci, over_cq, ht, over_cq, four]
  have hr : steps (rsGh (F := F) c) = iprop(steps (fun hf k => atPos ER (kcell (c, some (0, hf, k))) 0 ∅ 0)
      ∗ steps (fun hf k => atPos ER (kcell (c, some (1, hf, k))) 0 ∅ 0)
      ∗ steps (fun hf k => tok (F := F) (payee c (.inr (0, hf, k))) (.inr (0, hf, k)))
      ∗ steps (fun hf k => tok (F := F) (payee c (.inr (1, hf, k))) (.inr (1, hf, k))) ∗ steps (rsC (F := F) c)) := by
    simp only [← steps_sep]; rfl
  have hg : steps (agGh (F := F) c) = iprop(steps (fun hf k => atPos ER (kcell (c, some (2, hf, k))) 0 ∅ 0)
      ∗ steps (fun hf k => atPos ER (kcell (c, some (3, hf, k))) 0 ∅ 0)
      ∗ steps (fun hf k => tok (F := F) (payee c (.inr (2, hf, k))) (.inr (2, hf, k)))
      ∗ steps (fun hf k => tok (F := F) (payee c (.inr (3, hf, k))) (.inr (3, hf, k))) ∗ steps (agC (F := F) c)) := by
    simp only [← steps_sep]; rfl
  have hb : barGh (F := F) c = iprop(atPos ER (kcell (c, none)) 0 ∅ 0 ∗ cred (tallyAt (kcell (c, none)) () 4)
      ∗ tok (F := F) (payee c (.inl 0)) (.inl 0) ∗ tok (F := F) (payee c (.inl 1)) (.inl 1)
      ∗ tok (F := F) (payee c (.inl 2)) (.inl 2) ∗ tok (F := F) (payee c (.inl 3)) (.inl 3)) := rfl
  rw [hr, hg, hb]
  iintro ⟨⟨⟨HA, A0, A1, A2, A3⟩, ⟨B0, B1, B2, B3⟩, T0, T1, T2, T3⟩, HC, R, G⟩
  isplitl [HA B0 B1 B2 B3 HC]
  · isplitl [HA]; · iexact HA
    isplitl [HC]; · iexact HC
    isplitl [B0]; · iexact B0
    isplitl [B1]; · iexact B1
    isplitl [B2]; · iexact B2
    iexact B3
  isplitl [A0 A1 T0 T1 R]
  · isplitl [A0]; · iexact A0
    isplitl [A1]; · iexact A1
    isplitl [T0]; · iexact T0
    isplitl [T1]; · iexact T1
    iexact R
  isplitl [A2]; · iexact A2
  isplitl [A3]; · iexact A3
  isplitl [T2]; · iexact T2
  isplitl [T3]; · iexact T3
  iexact G

/-! ## Counters -/

abbrev osem : CQ → SemLoc sig := fun q => csem (some q)

theorem ownSemFacts : Pipeline.OwnSemFacts cfg2.spec osem := by decide +kernel

abbrev own0 (c : Dev nD) : sProp 𝕄 := Pipeline.ownSems0 (Ix := Unit) (Name := ℕ) (U := UU) (Lvl := ℕ) (Val := Elt F) (τ := τ) osem c

omit [FloatOps F] [Named F] in
theorem unscoped_eq (c : Dev nD) : (unscopedSems0 c : sProp 𝕄) = semVal (kcell (c, none)) 0 := by
  unfold unscopedSems0; rw [bigSep_eq_bigSepL_of_eq [SemLoc.reg barS] (by decide) (by decide)]; rfl

theorem zeros_exit (c : Dev nD) : zeros (F := F) c ⊢ iprop(unscopedSems0 c ∗ own0 (F := F) c) := by
  have hz : zeros (F := F) c = iprop(semVal (kcell (c, none)) 0 ∗ steps (rsZ (F := F) c) ∗ steps (agZ (F := F) c)) := rfl
  have ho : own0 (F := F) c = bigSep Finset.univ fun q : CQ => (semVal (kcell (c, some q)) 0 : sProp 𝕄) := rfl
  have hr : steps (rsZ (F := F) c) = iprop(steps (fun hf k => semVal (kcell (c, some (0, hf, k))) 0) ∗ steps (fun hf k => semVal (kcell (c, some (1, hf, k))) 0)) := by
    rw [← steps_sep]; rfl
  have hg : steps (agZ (F := F) c) = iprop(steps (fun hf k => semVal (kcell (c, some (2, hf, k))) 0) ∗ steps (fun hf k => semVal (kcell (c, some (3, hf, k))) 0)) := by
    rw [← steps_sep]; rfl
  rw [hz, ho, unscoped_eq, over_cq, hr, hg]
  iintro ⟨HB, ⟨Z0, Z1⟩, Z2, Z3⟩
  isplitl [HB]; · iexact HB
  isplitl [Z0]; · iexact Z0
  isplitl [Z1]; · iexact Z1
  isplitl [Z2]; · iexact Z2
  iexact Z3

/-! ## From the launch element -/

def bars : Finset (GSem nD τ sig) := Finset.univ.map ⟨fun c : Dev nD => kcell (c, none), fun c c' h => (Prod.mk.inj (kcell_inj h)).1⟩
def sleeping : Finset (GSem nD τ sig) :=
  Finset.univ.map ⟨fun p : Dev nD × CQ => kcell (p.1, some p.2), fun p p' h => by
    have h' := Prod.mk.inj (kcell_inj h)
    exact Prod.ext h'.1 (Option.some.inj h'.2)⟩

theorem bars_sleeping : Disjoint bars sleeping := by
  rw [Finset.disjoint_left]
  intro g hg hg'
  obtain ⟨c, -, rfl⟩ := Finset.mem_map.mp hg
  obtain ⟨p, -, hp⟩ := Finset.mem_map.mp hg'
  exact absurd (Prod.mk.inj (kcell_inj hp)).2 (by simp)

theorem kcell_mem (p : Dev nD × CI) : kcell p ∈ bars ∪ sleeping := by
  rcases p with ⟨c, _ | q⟩
  · exact Finset.mem_union_left _ (Finset.mem_map.mpr ⟨c, Finset.mem_univ _, rfl⟩)
  · exact Finset.mem_union_right _ (Finset.mem_map.mpr ⟨(c, q), Finset.mem_univ _, rfl⟩)

theorem cells_eq : bars ∪ sleeping = cells := by
  ext g
  constructor
  · intro hg
    rcases Finset.mem_union.mp hg with h | h
    · obtain ⟨c, -, rfl⟩ := Finset.mem_map.mp h
      exact Finset.mem_map.mpr ⟨(c, none), Finset.mem_univ _, rfl⟩
    · obtain ⟨p, -, rfl⟩ := Finset.mem_map.mp h
      exact Finset.mem_map.mpr ⟨(p.1, some p.2), Finset.mem_univ _, rfl⟩
  · intro hg
    obtain ⟨p, -, rfl⟩ := Finset.mem_map.mp hg
    exact kcell_mem p

def u₀ : UU := (initOf (Pipeline.cells cfgs cellOf_inj) (Pipeline.launchToks cfgs cellOf_inj), launchOf bars sleeping toks)

/-- The protocol's share of the launch element, in the hands of device 0. -/
def parked (c : Dev nD) : sProp 𝕄 := if c = 0 then BI.own (ER (F := F) (launchOf bars sleeping toks)) else BI.emp

theorem parked_all : bigSep Finset.univ (parked (F := F)) = BI.own (ER (F := F) (launchOf bars sleeping toks)) := by
  rw [bigSep_erase (Finset.mem_univ (0 : Dev nD)), bigSep_congr (s := Finset.univ.erase (0 : Dev nD)) (Φ := parked (F := F)) (Ψ := fun _ => (BI.emp : sProp 𝕄))
    (fun c hc => (if_neg (Finset.ne_of_mem_erase hc) : parked (F := F) c = BI.emp)), bigSep_emp_const]
  have h0 : parked (F := F) 0 = BI.own (ER (F := F) (launchOf bars sleeping toks)) := if_pos rfl
  rw [h0]
  exact BI.Entails.antisymm (sep_elim_left (P := BI.own (ER (F := F) (launchOf bars sleeping toks))) (Q := iprop(emp))) (by
    show BI.own (ER (F := F) (launchOf bars sleeping toks)) ⊢ iprop(BI.own (ER (F := F) (launchOf bars sleeping toks)) ∗ emp)
    iintro H
    isplitl [H]; · iexact H
    iempintro)

/-- What a device keeps until its region of the exchange: the invariants, that the barrier cells are open, its position on its
    own, the right to open its other cells, the tokens it pays with and its credit. -/
def kept (c : Dev nD) : sProp 𝕄 :=
  iprop((∃ K, invs X K) ∗ (bigSep Finset.univ fun n : Dev nD => reached ER (kcell (n, none)) 0)
    ∗ (atPos ER (kcell (c, none)) 0 ∅ 0 ∗ (bigSep Finset.univ fun q : CQ => openTok ER (kcell (c, some q)))
      ∗ bigSep Finset.univ fun t : TI => tok (F := F) (payee c t) t) ∗ creds (F := F) c)

/-- The protocol running, and a device's share. -/
def running (c : Dev nD) : sProp 𝕄 := iprop(∃ K, pre X K c ∗ lin (F := F) c)

theorem deal : iprop((bigSep Finset.univ fun c : Dev nD => iprop(unscopedSems0 c ∗ Pipeline.launchCred (fun d => tal (owedL d)) c)) ∗ bigSep Finset.univ (parked (F := F)))
    ⊢ |={Set.univ}=> bigSep Finset.univ (kept X) := by
  have hS (Φ : GSem nD τ sig → sProp 𝕄) : bigSep bars Φ = bigSep Finset.univ fun c : Dev nD => Φ (kcell (c, none)) := by
    unfold bars; rw [bigSep_map]; rfl
  have hD (Φ : GSem nD τ sig → sProp 𝕄) : bigSep sleeping Φ = bigSep Finset.univ fun c : Dev nD => bigSep Finset.univ fun q : CQ => Φ (kcell (c, some q)) := by
    unfold sleeping; rw [bigSep_map, bigSep_univ_prod]; rfl
  have hT : bigSep toks (fun x => (dutyTok ER x.1 x.2.1 x.2.2 : sProp 𝕄))
      = bigSep Finset.univ fun c : Dev nD => bigSep Finset.univ fun t : TI => tok (F := F) (payee c t) t := by
    rw [← toks_dealt]; unfold toks; rw [bigSep_map, bigSep_univ_prod]; rfl
  have hI (κ : GSem nD τ sig → ℕ) : bigSep (bars ∪ sleeping) (fun g => (cellInv ER (Rd X) (κ g) g : sProp 𝕄)) = invs X (fun p => κ (kcell p)) := by
    rw [cells_eq]; unfold cells invs; rw [bigSep_map]; rfl
  have hper (c : Dev nD) : iprop((iprop((∃ K, invs X K) ∗ bigSep Finset.univ fun n : Dev nD => (reached ER (kcell (n, none)) 0 : sProp 𝕄)))
      ∗ ((atPos ER (kcell (c, none)) 0 ∅ 0 ∗ (bigSep Finset.univ fun q : CQ => openTok ER (kcell (c, some q)))
        ∗ bigSep Finset.univ fun t : TI => tok (F := F) (payee c t) t) ∗ creds (F := F) c)) ⊢ kept X c := by
    unfold kept
    iintro ⟨⟨HI, HB⟩, HL, HC⟩
    isplitl [HI]; · iexact HI
    isplitl [HB]; · iexact HB
    isplitl [HL]; · iexact HL
    iexact HC
  have hall : iprop(iprop((∃ K, invs X K) ∗ bigSep Finset.univ fun n : Dev nD => (reached ER (kcell (n, none)) 0 : sProp 𝕄))
      ∗ bigSep Finset.univ fun c : Dev nD => iprop((atPos ER (kcell (c, none)) 0 ∅ 0 ∗ (bigSep Finset.univ fun q : CQ => openTok ER (kcell (c, some q)))
        ∗ bigSep Finset.univ fun t : TI => tok (F := F) (payee c t) t) ∗ creds (F := F) c)) ⊢ bigSep Finset.univ (kept X) :=
    (sep_mono_left (BI.bigSep_of_persistent (Finset.univ : Finset (Dev nD)) _)).trans (by rw [← bigSep_sep']; exact bigSep_mono fun c _ => hper c)
  rw [parked_all, bigSep_sep']
  iintro ⟨⟨Hu, Hc⟩, HX⟩
  ihave Hv := (show (bigSep Finset.univ fun c : Dev nD => (unscopedSems0 c : sProp 𝕄)) ⊢ bigSep bars (fun g => (semVal g 0 : sProp 𝕄)) from by
    rw [hS]; exact bigSep_mono fun c _ => Entails.of_eq (unscoped_eq c)) $$ Hu
  ihave Hc := (show (bigSep Finset.univ fun c : Dev nD => (Pipeline.launchCred (fun d => tal (owedL d)) c : sProp 𝕄)) ⊢ bigSep Finset.univ (creds (F := F)) from
    bigSep_mono fun c _ => creds_intro c) $$ Hc
  imod (Rounds.fund_launch ER (Rd X) bars_sleeping (fun g _ h => h) toks) $$ [Hv HX] with ⟨%κ, -, HI, Hr, Hat, Hop, Htok⟩
  · isplitl [Hv]; · iexact Hv
    iexact HX
  imodintro
  ihave HI := (Entails.of_eq (hI κ)) $$ HI
  ihave Hr := (Entails.of_eq (hS fun g => reached ER g 0)) $$ Hr
  ihave Hat := (Entails.of_eq (hS fun g => atPos ER g 0 ∅ 0)) $$ Hat
  ihave Hop := (Entails.of_eq (hD fun g => openTok ER g)) $$ Hop
  ihave Htok := (Entails.of_eq hT) $$ Htok
  iapply hall
  isplitl [HI Hr]
  · isplitl [HI]; · iexists _; iexact HI
    iexact Hr
  rw [bigSep_sep', bigSep_sep', bigSep_sep']
  isplitr [Hc]
  · isplitl [Hat]; · iexact Hat
    isplitl [Hop]; · iexact Hop
    iexact Htok
  iexact Hc

/-- One scoped cell opened. -/
theorem open_one (K : Dev nD × CI → ℕ) (c : Dev nD) (q : CQ) :
    iprop(invs X K ∗ openTok ER (kcell (c, some q)) ∗ semVal (kcell (c, some q)) 0)
      ⊢ |={Set.univ}=> iprop(atPos ER (kcell (c, some q)) 0 ∅ 0 ∗ reached ER (kcell (c, some q)) 0) := by
  iintro ⟨HI, Ht, Hv⟩
  ihave HI := (invs_at X K (c, some q)) $$ HI
  iapply (Rounds.cell_open ER (Rd X) (Set.mem_univ (K (c, some q))))
  isplitl [HI]; · iexact HI
  isplitl [Ht]; · iexact Ht
  iexact Hv

/-- A device opens all its scoped cells. -/
theorem open_all (K : Dev nD × CI → ℕ) (c : Dev nD) :
    iprop(invs X K ∗ (bigSep Finset.univ fun q : CQ => openTok ER (kcell (c, some q))) ∗ own0 (F := F) c)
      ⊢ |={Set.univ}=> iprop((bigSep Finset.univ fun q : CQ => atPos ER (kcell (c, some q)) 0 ∅ 0)
        ∗ bigSep Finset.univ fun q : CQ => reached ER (kcell (c, some q)) 0) := by
  have ho : own0 (F := F) c = bigSep Finset.univ fun q : CQ => (semVal (kcell (c, some q)) 0 : sProp 𝕄) := rfl
  rw [ho, ← bigSep_sep', ← bigSep_sep']
  refine (sep_mono_left (BI.bigSep_of_persistent (Finset.univ : Finset CQ) (invs X K))).trans ?_
  rw [← bigSep_sep']
  exact (bigSep_mono fun q _ => open_one X K c q).trans (bigSep_fupd _ _)

/-- At its region of the exchange a device opens its cells, and the protocol runs. -/
theorem start_running (c : Dev nD) : iprop(kept X c ∗ own0 (F := F) c)
    ⊢ |={Set.univ}=> iprop(running X c ∗ creds (F := F) c) := by
  unfold kept running
  iintro ⟨⟨⟨%K, #HI⟩, #HB, ⟨Hat, Hop, Htok⟩, HC⟩, Ho⟩
  imod (open_all X K c) $$ [Hop Ho] with ⟨Has, #Hrs⟩
  · isplitr; · iexact HI
    isplitl [Hop]; · iexact Hop
    iexact Ho
  imodintro
  isplitr [HC]
  · iexists K
    isplitr
    · unfold pre near
      isplitr; · iexact HI
      isplitr; · iexact HB
      rw [over_ci]
      isplitr
      · have hb : (bigSep Finset.univ fun n : Dev nD => (reached ER (kcell (n, none)) 0 : sProp 𝕄)) ⊢ reached ER (kcell (c, none)) 0 :=
          (Entails.of_eq (bigSep_erase (Finset.mem_univ c))).trans sep_elim_left
        iapply hb; iexact HB
      iexact Hrs
    unfold lin
    rw [over_ci]
    isplitr [Htok]
    · isplitl [Hat]; · iexact Hat
      iexact Has
    iexact Htok
  iexact HC

end Cert.AllReduce
-- ==== Proof.Attn.lean ====
/-
# The attention calls

One tile of either call: the kernel reads a block of queries, the keys and the values of one head, and stores the tile. Over
the grid the tiles cover the call's result.
-/
module

public import proofs.«01_k».proof.Proof.Body
public import proofs.«01_k».proof.Proof.Gen.KernelIdeal.Points
public import Idealize.ShloMosaic.Lib.Pipeline.FrameBody
public import Idealize.ShloMosaic.Lib.Pipeline.RegionArrays

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Whole buffers -/

omit [FloatOps F] [Named F] in
theorem read_all {sp : Space} {s : Shape} {e : EltTy} {M : Memref sig .tc sp s e} (hM : M.IsWhole) {off : Fin s.rank → Nat}
    (h0 : off = fun _ => 0) (inb : ∀ a, off a + s.size a ≤ s.size a) (f : M.view.ty.Contents (Elt F)) :
    M.view.readAt (Elt F) (Rect.unit off s.size inb).toLoadRect f = M.view.read (Elt F) f := by
  obtain ⟨b, rfl, rfl, rfl, h⟩ := hM
  cases eq_of_heq h
  exact (Memref.readAt_unit_zero (Elt F) b h0 inb f)

omit [FloatOps F] [Named F] in
theorem write_all {sp : Space} {s : Shape} {e : EltTy} {M : Memref sig .tc sp s e} (hM : M.IsWhole) {off : Fin s.rank → Nat}
    (h0 : off = fun _ => 0) (inb : ∀ a, off a + s.size a ≤ s.size a) (f : M.view.ty.Contents (Elt F)) (w : s.Idx → Elt F e) :
    M.view.read (Elt F) ((M.access (Rect.unit off s.size inb)).write (Elt F) f w Finset.univ) = w := by
  obtain ⟨b, rfl, rfl, rfl, h⟩ := hM
  cases eq_of_heq h
  exact (Memref.write_access_unit_zero_univ (Elt F) b h0 inb f w)

abbrev ow (c : Dev nD) {sp : Space} {s : Shape} {e : EltTy} (M : Memref sig .tc sp s e) (Y : s.Idx → Elt F e) : sProp 𝕄 :=
  owns (Ix := Unit) (Name := ℕ) (U := UU) (Lvl := ℕ) (c : Thread nD τ) M fullShare Y

/-- The loads and the store of one tile, whatever is computed from what is read. -/
theorem tile_run {c : Dev nD} {S : Shape} (hS : S.rank = 2) {Mq Mo : Memref sig .tc .vmem S256x128 .bf16} {Mk Mv : Memref sig .tc .vmem S .bf16}
    (hq : Mq.IsWhole) (hk : Mk.IsWhole) (hv : Mv.IsWhole) (ho : Mo.IsWhole)
    (q : S256x128.Idx → F .bf16) (k v : S.Idx → F .bf16) (d : S256x128.Idx → F .bf16)
    {off : Fin S.rank → Nat} (h0 : off = fun _ => 0) {iq} {ik : ∀ a, off a + S.size a ≤ S.size a}
    (pay : Vec F S256x128 .bf16 → Vec F S .bf16 → Vec F S .bf16 → FVec F S256x128 .bf16)
    {h1 h2 h3 h4 h5 h6} {Q : PUnit → sProp 𝕄} :
    iprop(ow c Mq q ∗ ow c Mk k ∗ ow c Mv v ∗ ow c Mo d)
      ⊢ iprop(((ow c Mq q ∗ ow c Mk k ∗ ow c Mv v ∗ ow c Mo (pay q k v)) -∗ Q ⟨⟩)
        -∗ WP c (.op (.load Mq (Rect.unit (s := S256x128) ![0, 0] S256x128.size iq).toLoadRect h1) fun v1 =>
            .op (.load Mk (Rect.unit (s := S) off S.size ik).toLoadRect h2) fun v3 =>
            .op (.load Mv (Rect.unit (s := S) off S.size ik).toLoadRect h3) fun v24 =>
            .op (.load Mo (Rect.unit (s := S256x128) ![0, 0] S256x128.size iq).toLoadRect h4) fun _ =>
            .op (.store Mo (Rect.unit (s := S256x128) ![0, 0] S256x128.size iq) (pay v1 v3 v24) Finset.univ h5 h6) fun _ => .ret ⟨⟩) Q) := by
  unfold ow owns
  iintro ⟨⟨%fq, %eq, Hq⟩, ⟨%fk, %ek, Hk⟩, ⟨%fv, %ev, Hv⟩, ⟨%fo, %eo, Ho⟩⟩ HQ
  iapply (wp_load 𝒱₀ (c : Thread nD τ) none Set.univ (m := Mq) (S := Mq.view.set) (View.setOn_subset_set _ _)) $$ Hq; iintro Hq
  iapply (wp_load 𝒱₀ (c : Thread nD τ) none Set.univ (m := Mk) (S := Mk.view.set) (View.setOn_subset_set _ _)) $$ Hk; iintro Hk
  iapply (wp_load 𝒱₀ (c : Thread nD τ) none Set.univ (m := Mv) (S := Mv.view.set) (View.setOn_subset_set _ _)) $$ Hv; iintro Hv
  iapply (wp_load 𝒱₀ (c : Thread nD τ) none Set.univ (m := Mo) (S := Mo.view.set) (View.setOn_subset_set _ _)) $$ Ho; iintro Ho
  rw [read_all hq zero_off, read_all hk h0, read_all hv h0, eq, ek, ev]
  iapply (wp_store 𝒱₀ (c : Thread nD τ) none Set.univ (m := Mo) (r := Rect.unit (s := S256x128) ![0, 0] S256x128.size iq) (S := Mo.view.set) (Mk := Finset.univ)
    (by rw [ho.set_eq_univ]; exact Finset.subset_univ _)) $$ Ho; iintro Ho
  rw [wp_ret]; imodintro
  iapply HQ
  isplitl [Hq]; · iexists fq; isplitr; · (ipureintro; exact eq)
                  iexact Hq
  isplitl [Hk]; · iexists fk; isplitr; · (ipureintro; exact ek)
                  iexact Hk
  isplitl [Hv]; · iexists fv; isplitr; · (ipureintro; exact ev)
                  iexact Hv
  iexists _; isplitr; swap; · iexact Ho
  ipureintro
  exact write_all ho zero_off _ _ _

/-! ## The calls' data -/

variable (V : Dev nD → Valuation τ sig (Elt F))

section Top

def q0 (c : Dev nD) (t : Fin cfg0.N) : S256x128.Idx → F .bf16 := (win0_0.blk t).view.read (Elt F) (V c main_v29)
def k0 (c : Dev nD) (t : Fin cfg0.N) : S1024x128.Idx → F .bf16 := (win0_1.blk t).view.read (Elt F) (V c main_v21)
def v0 (c : Dev nD) (t : Fin cfg0.N) : S1024x128.Idx → F .bf16 := (win0_2.blk t).view.read (Elt F) (V c main_v24)

def dat0 (c : Dev nD) : Dat τ (Elt F) Unit ℕ UU ℕ cfg0 c where
  A w := V c (Pipeline.arrRef spec0 w)
  after w t := match w with
    | ⟨0, _⟩ => q0 V c t
    | ⟨1, _⟩ => k0 V c t
    | ⟨2, _⟩ => v0 V c t
    | ⟨3, _⟩ => k0_pay1 (grid0.coords t) (q0 V c t) (k0 V c t) (v0 V c t)
  Φ _ := Pipeline.scopedRest (Ix := Unit) (Name := ℕ) (U := UU) (Lvl := ℕ) (Val := Elt F) spec0 c
  q _ := fullShare
  owed _ := tal (owedL c)

theorem before0_0 (c : Dev nD) (t : Fin cfg0.N) (d) : (dat0 V c).before (0 : Fin 4) t d = q0 V c t :=
  (dat0 V c).before_in_eq_fetched (0 : Fin 4) rfl (fun _ => rfl) (fun _ _ _ => rfl) (fun _ => rfl) t d
theorem before0_1 (c : Dev nD) (t : Fin cfg0.N) (d) : (dat0 V c).before (1 : Fin 4) t d = k0 V c t :=
  (dat0 V c).before_in_eq_fetched (1 : Fin 4) rfl (fun _ => rfl) (fun _ _ _ => rfl) (fun _ => rfl) t d
theorem before0_2 (c : Dev nD) (t : Fin cfg0.N) (d) : (dat0 V c).before (2 : Fin 4) t d = v0 V c t :=
  (dat0 V c).before_in_eq_fetched (2 : Fin 4) rfl (fun _ => rfl) (fun _ _ _ => rfl) (fun _ => rfl) t d

def pre0 (c : Dev nD) (t : Fin cfg0.N) : sProp 𝕄 :=
  iprop((dat0 V c).Φ t.castSucc ∗ (dat0 V c).owesAt () t.castSucc
    ∗ (∃ d, ow c (st0_0 t) ((dat0 V c).before (0 : Fin 4) t d)) ∗ (∃ d, ow c (st0_1 t) ((dat0 V c).before (1 : Fin 4) t d))
    ∗ (∃ d, ow c (st0_2 t) ((dat0 V c).before (2 : Fin 4) t d)) ∗ (∃ d, ow c (st0_3 t) ((dat0 V c).before (3 : Fin 4) t d)))
def post0 (c : Dev nD) (t : Fin cfg0.N) : sProp 𝕄 :=
  iprop((dat0 V c).Φ t.castSucc ∗ (dat0 V c).owesAt () t.castSucc
    ∗ ow c (st0_0 t) (q0 V c t) ∗ ow c (st0_1 t) (k0 V c t) ∗ ow c (st0_2 t) (v0 V c t)
    ∗ ow c (st0_3 t) (k0_pay1 (grid0.coords t) (q0 V c t) (k0 V c t) (v0 V c t)))

set_option maxRecDepth 40000 in
theorem body0 (c : Dev nD) : BodyObligation (dat0 V c) (defs₀ (F := F)) 𝒱₀ () Set.univ := fun t => by
  rw [bigSep_W0, bigSep_W0]
  show pre0 V c t ⊢ WP c (bodyAt0 t) (fun _ => post0 V c t)
  unfold pre0 post0
  iintro ⟨HΦ, Ho, ⟨%d0, H0⟩, ⟨%d1, H1⟩, ⟨%d2, H2⟩, ⟨%d3, H3⟩⟩
  rw [before0_0, before0_1, before0_2]
  iapply (tile_run (S := S1024x128) rfl (hstage0_0 ((cfg0.slots t 0).cast nbuf0_0)) (hstage0_1 ((cfg0.slots t 1).cast nbuf0_1))
    (hstage0_2 ((cfg0.slots t 2).cast nbuf0_2)) (hstage0_3 ((cfg0.slots t 3).cast nbuf0_3)) (q0 V c t) (k0 V c t) (v0 V c t) _
    zero_off (k0_pay1 (grid0.coords t))) $$ [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Top

section Bottom

def q1 (c : Dev nD) (t : Fin cfg1.N) : S256x128.Idx → F .bf16 := (win1_0.blk t).view.read (Elt F) (V c main_v31)
def k1 (c : Dev nD) (t : Fin cfg1.N) : S2048x128.Idx → F .bf16 := (win1_1.blk t).view.read (Elt F) (V c main_v21)
def v1 (c : Dev nD) (t : Fin cfg1.N) : S2048x128.Idx → F .bf16 := (win1_2.blk t).view.read (Elt F) (V c main_v24)

def dat1 (c : Dev nD) : Dat τ (Elt F) Unit ℕ UU ℕ cfg1 c where
  A w := V c (Pipeline.arrRef spec1 w)
  after w t := match w with
    | ⟨0, _⟩ => q1 V c t
    | ⟨1, _⟩ => k1 V c t
    | ⟨2, _⟩ => v1 V c t
    | ⟨3, _⟩ => k1_pay1 (grid1.coords t) (q1 V c t) (k1 V c t) (v1 V c t)
  Φ _ := Pipeline.scopedRest (Ix := Unit) (Name := ℕ) (U := UU) (Lvl := ℕ) (Val := Elt F) spec1 c
  q _ := fullShare
  owed _ := tal (owedL c)

theorem before1_0 (c : Dev nD) (t : Fin cfg1.N) (d) : (dat1 V c).before (0 : Fin 4) t d = q1 V c t :=
  (dat1 V c).before_in_eq_fetched (0 : Fin 4) rfl (fun _ => rfl) (fun _ _ _ => rfl) (fun _ => rfl) t d
theorem before1_1 (c : Dev nD) (t : Fin cfg1.N) (d) : (dat1 V c).before (1 : Fin 4) t d = k1 V c t :=
  (dat1 V c).before_in_eq_fetched (1 : Fin 4) rfl (fun _ => rfl) (fun _ _ _ => rfl) (fun _ => rfl) t d
theorem before1_2 (c : Dev nD) (t : Fin cfg1.N) (d) : (dat1 V c).before (2 : Fin 4) t d = v1 V c t :=
  (dat1 V c).before_in_eq_fetched (2 : Fin 4) rfl (fun _ => rfl) (fun _ _ _ => rfl) (fun _ => rfl) t d

def pre1 (c : Dev nD) (t : Fin cfg1.N) : sProp 𝕄 :=
  iprop((dat1 V c).Φ t.castSucc ∗ (dat1 V c).owesAt () t.castSucc
    ∗ (∃ d, ow c (st1_0 t) ((dat1 V c).before (0 : Fin 4) t d)) ∗ (∃ d, ow c (st1_1 t) ((dat1 V c).before (1 : Fin 4) t d))
    ∗ (∃ d, ow c (st1_2 t) ((dat1 V c).before (2 : Fin 4) t d)) ∗ (∃ d, ow c (st1_3 t) ((dat1 V c).before (3 : Fin 4) t d)))
def post1 (c : Dev nD) (t : Fin cfg1.N) : sProp 𝕄 :=
  iprop((dat1 V c).Φ t.castSucc ∗ (dat1 V c).owesAt () t.castSucc
    ∗ ow c (st1_0 t) (q1 V c t) ∗ ow c (st1_1 t) (k1 V c t) ∗ ow c (st1_2 t) (v1 V c t)
    ∗ ow c (st1_3 t) (k1_pay1 (grid1.coords t) (q1 V c t) (k1 V c t) (v1 V c t)))

set_option maxRecDepth 40000 in
theorem body1 (c : Dev nD) : BodyObligation (dat1 V c) (defs₀ (F := F)) 𝒱₀ () Set.univ := fun t => by
  rw [bigSep_W1, bigSep_W1]
  show pre1 V c t ⊢ WP c (bodyAt1 t) (fun _ => post1 V c t)
  unfold pre1 post1
  iintro ⟨HΦ, Ho, ⟨%d0, H0⟩, ⟨%d1, H1⟩, ⟨%d2, H2⟩, ⟨%d3, H3⟩⟩
  rw [before1_0, before1_1, before1_2]
  iapply (tile_run (S := S2048x128) rfl (hstage1_0 ((cfg1.slots t 0).cast nbuf1_0)) (hstage1_1 ((cfg1.slots t 1).cast nbuf1_1))
    (hstage1_2 ((cfg1.slots t 2).cast nbuf1_2)) (hstage1_3 ((cfg1.slots t 3).cast nbuf1_3)) (q1 V c t) (k1 V c t) (v1 V c t) _
    zero_off (k1_pay1 (grid1.coords t))) $$ [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Bottom

end Cert.AllReduce
-- ==== Proof.Run.lean ====
/-
# The run on the mesh

The body obligation of the exchange, the three regions and the run: every device's result holds the finished rows of both halves.
-/
module

public import proofs.«01_k».proof.Proof.Ghost
public import proofs.«01_k».proof.Proof.Attn
public import proofs.«01_k».proof.Proof.Gen.KernelIdeal.Regions
public import Idealize.ShloMosaic.Lib.Pipeline.RegionTalk
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Buffers at the entry and the exit -/

/-- Both halves of a buffer of the result's shape, joined. -/
def both {α : Type} (f g : SR.Idx → α) (i : SR.Idx) : α := if i ∈ half 0 then f i else g i

omit [FloatOps F] [Named F] in
theorem o_join (c : Dev nD) (f g : SR.Idx → F .f32) :
    iprop(oP c (half 0) f ∗ oP c (half 1) g) ⊢ ((c : Thread nD τ).loc cc2_stg2_0 ↦{fullShare} both f g : sProp 𝕄) := by
  have h0 : (oP c (half 0) f : sProp 𝕄) = oP c (half 0) (both f g) :=
    pointsTo_congr fun i hi => (if_pos hi).symm
  have h1 : (oP c (half 1) g : sProp 𝕄) = oP c (half 1) (both f g) :=
    pointsTo_congr fun i hi => (if_neg fun h => Finset.disjoint_left.mp halves_disjoint h hi).symm
  rw [h0, h1, halves]
  exact (pointsTo_union (ℓ := (c : Thread nD τ).loc cc2_stg2_0) halves_disjoint).2

omit [FloatOps F] [Named F] in
theorem g_join (c : Dev nD) (f g : SR.Idx → F .bf16) :
    iprop(gP c (half 0) f ∗ gP c (half 1) g) ⊢ ((c : Thread nD τ).loc cc2_scratch0 ↦{fullShare} both f g : sProp 𝕄) := by
  have h0 : (gP c (half 0) f : sProp 𝕄) = gP c (half 0) (both f g) :=
    pointsTo_congr fun i hi => (if_pos hi).symm
  have h1 : (gP c (half 1) g : sProp 𝕄) = gP c (half 1) (both f g) :=
    pointsTo_congr fun i hi => (if_neg fun h => Finset.disjoint_left.mp halves_disjoint h hi).symm
  rw [h0, h1, halves]
  exact (pointsTo_union (ℓ := (c : Thread nD τ).loc cc2_scratch0) halves_disjoint).2

omit [FloatOps F] [Named F] in
theorem g_split_halves (c : Dev nD) (f : SR.Idx → F .bf16) :
    ((c : Thread nD τ).loc cc2_scratch0 ↦{fullShare} f : sProp 𝕄) ⊢ iprop(gAny (F := F) c (half 0) ∗ gAny (F := F) c (half 1)) := by
  rw [halves]
  iintro H
  ihave H := (pointsTo_union (ℓ := (c : Thread nD τ).loc cc2_scratch0) halves_disjoint).1 $$ H
  icases H with ⟨H0, H1⟩
  unfold gAny
  isplitl [H0]
  · iexists f; iexact H0
  iexists f; iexact H1

/-- The scoped buffers the windows do not stage, by name. -/
def scratch (c : Dev nD) : sProp 𝕄 :=
  iprop(gAny (F := F) c (half 0) ∗ gAny (F := F) c (half 1) ∗ ownBufs (F := F) c)

abbrev lBuf (c : Dev nD) (r : Nat) (m : Memref sig .tc .vmem ⟨2, ![r, 1024]⟩ .bf16) : sProp 𝕄 :=
  iprop(∃ f : Buf (Elt F) (m.view.loc (c : Thread nD τ)), (m.view.loc (c : Thread nD τ) ↦{fullShare} f))

omit [FloatOps F] [Named F] in
theorem lAny_eq (c : Dev nD) (r : Nat) (m : Memref sig .tc .vmem ⟨2, ![r, 1024]⟩ .bf16) (hm : m.view.set = Finset.univ) :
    lAny (F := F) c r m = lBuf (F := F) c r m := by unfold lAny; rw [hm]

theorem ownBufs_eq (c : Dev nD) : ownBufs (F := F) c
    = iprop((lBuf c 512 (Memref.whole cc2_scratch1) ∗ lBuf c 512 (Memref.whole cc2_scratch5))
      ∗ (lBuf c 256 (Memref.whole cc2_scratch2) ∗ lBuf c 256 (Memref.whole cc2_scratch6))
      ∗ (lBuf c 128 (Memref.whole cc2_scratch3) ∗ lBuf c 128 (Memref.whole cc2_scratch7))
      ∗ (lBuf c 64 (Memref.whole cc2_scratch4) ∗ lBuf c 64 (Memref.whole cc2_scratch8))) := by
  unfold ownBufs
  simp only [onBuf]
  rw [lAny_eq c 512 (Memref.whole cc2_scratch1) (View.set_whole _), lAny_eq c 512 (Memref.whole cc2_scratch5) (View.set_whole _),
    lAny_eq c 256 (Memref.whole cc2_scratch2) (View.set_whole _), lAny_eq c 256 (Memref.whole cc2_scratch6) (View.set_whole _),
    lAny_eq c 128 (Memref.whole cc2_scratch3) (View.set_whole _), lAny_eq c 128 (Memref.whole cc2_scratch7) (View.set_whole _),
    lAny_eq c 64 (Memref.whole cc2_scratch4) (View.set_whole _), lAny_eq c 64 (Memref.whole cc2_scratch8) (View.set_whole _)]

abbrev rest2 (c : Dev nD) : sProp 𝕄 := Pipeline.scopedRest (Ix := Unit) (Name := ℕ) (U := UU) (Lvl := ℕ) (Val := Elt F) spec2 c

/-- The scoped buffers of the other calls, which the exchange does not touch. -/
def others (c : Dev nD) : sProp 𝕄 := Pipeline.scopedRestBut (Ix := Unit) (Name := ℕ) (U := UU) (Lvl := ℕ) (Val := Elt F) spec2 c
  [cc2_scratch0, cc2_scratch1, cc2_scratch2, cc2_scratch3, cc2_scratch4, cc2_scratch5, cc2_scratch6, cc2_scratch7, cc2_scratch8]

theorem scratch_in (c : Dev nD) : rest2 (F := F) c ⊢ iprop(scratch (F := F) c ∗ others (F := F) c) := by
  unfold rest2 scratch others; rw [scopedRest2_split, ownBufs_eq]
  iintro ⟨⟨⟨%f, H0⟩, H1, H2, H3, H4, H5, H6, H7, H8⟩, Hx⟩
  isplitr [Hx]; swap; · iexact Hx
  ihave Hg := (g_split_halves c f) $$ H0
  icases Hg with ⟨HA, HB⟩
  isplitl [HA]; · iexact HA
  isplitl [HB]; · iexact HB
  isplitl [H1 H5]
  · isplitl [H1]; · iexact H1
    iexact H5
  isplitl [H2 H6]
  · isplitl [H2]; · iexact H2
    iexact H6
  isplitl [H3 H7]
  · isplitl [H3]; · iexact H3
    iexact H7
  isplitl [H4]; · iexact H4
  iexact H8

/-- The gather buffer filled, with the landing buffers: the scoped buffers again. -/
theorem scratch_out (c : Dev nD) (f g : SR.Idx → F .bf16) :
    iprop((gP c (half 0) f ∗ gP c (half 1) g ∗ ownBufs (F := F) c) ∗ others (F := F) c) ⊢ rest2 (F := F) c := by
  unfold rest2 others; rw [scopedRest2_split, ownBufs_eq]
  iintro ⟨⟨HA, HB, ⟨H1, H5⟩, ⟨H2, H6⟩, ⟨H3, H7⟩, H4, H8⟩, Hx⟩
  isplitr [Hx]; swap; · iexact Hx
  isplitl [HA HB]
  · iexists both f g
    iapply (g_join c f g)
    isplitl [HA]; · iexact HA
    iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The pipeline's data -/

variable (V : Dev nD → Valuation τ sig (Elt F))

/-- The staged blocks of a device's two inputs. -/
def xin (c : Dev nD) : S1024x1024.Idx → F .f32 := (win2_0.blk (0 : Fin 1)).view.read (Elt F) (V c main_v33)
def yin (c : Dev nD) : S1024x1024.Idx → F .f32 := (win2_1.blk (0 : Fin 1)).view.read (Elt F) (V c main_v34)

/-- A device's partial results: its first input above its second. -/
def part (c : Dev nD) : SR.Idx → F .f32 := jn (xin V c) (yin V c)

/-- A device's result. -/
def res (c : Dev nD) : SR.Idx → F .f32 := both (B (part V) 0 0 c) (B (part V) 1 0 c)

def Φin (c : Dev nD) : sProp 𝕄 := iprop((running (part V) c ∗ creds (F := F) c ∗ levAts L lv) ∗ scratch (F := F) c ∗ others (F := F) c ∗ ∃ r, prngReg c r)
def Φout (c : Dev nD) : sProp 𝕄 := iprop(zeros (F := F) c ∗ rest2 (F := F) c ∗ ∃ r, prngReg c r)

def dat2 (c : Dev nD) : Dat τ (Elt F) Unit ℕ UU ℕ cfg2 c where
  A w := V c (Pipeline.arrRef spec2 w)
  after w _ := match w with
    | ⟨0, _⟩ => xin V c
    | ⟨1, _⟩ => yin V c
    | ⟨2, _⟩ => res V c
  Φ t := match t with
    | ⟨0, _⟩ => Φin V c
    | ⟨_ + 1, _⟩ => Φout c
  q _ := fullShare
  owed t := match t with
    | ⟨0, _⟩ => tal (owedL c)
    | ⟨_ + 1, _⟩ => 0

omit [FloatOps F] [Named F] in
theorem windows (Φ : Fin cfg2.W → sProp 𝕄) : bigSep Finset.univ Φ = iprop(Φ (0 : Fin 3) ∗ Φ (1 : Fin 3) ∗ Φ (2 : Fin 3)) := bigSep_W2 Φ

theorem fetched0 (t : Fin cfg2.N) : (cfg2.win (0 : Fin 3)).fetch t = true := by rw [fin_N2 t]; rfl
theorem fetched1 (t : Fin cfg2.N) : (cfg2.win (1 : Fin 3)).fetch t = true := by rw [fin_N2 t]; rfl

abbrev stg (c : Dev nD) (b : Ref sig .tc) (Y : b.ty.Contents (Elt F)) : sProp 𝕄 :=
  iprop(∃ f : Buf (Elt F) ((c : Thread nD τ).loc b), ⌜f = Y⌝ ∗ ((c : Thread nD τ).loc b ↦{fullShare} f))

omit [FloatOps F] [Named F] in
theorem owns_whole (c : Dev nD) (b : Ref sig .tc) (Y : b.ty.Contents (Elt F)) :
    (owns (Ix := Unit) (Name := ℕ) (U := UU) (Lvl := ℕ) (c : Thread nD τ) (Memref.whole b) fullShare Y : sProp 𝕄) = stg c b Y := by
  unfold owns; simp only [Memref.view_whole, View.read_whole, View.set_whole]

def before (c : Dev nD) : sProp 𝕄 :=
  iprop(Φin V c ∗ (dat2 V c).owesAt () t2_0.castSucc
    ∗ (∃ d, stg c cc2_stg0_0 ((dat2 V c).before (0 : Fin 3) t2_0 d))
    ∗ (∃ d, stg c cc2_stg1_0 ((dat2 V c).before (1 : Fin 3) t2_0 d))
    ∗ (∃ d, stg c cc2_stg2_0 ((dat2 V c).before (2 : Fin 3) t2_0 d)))
def after (c : Dev nD) : sProp 𝕄 :=
  iprop(Φout (F := F) c ∗ (dat2 V c).owesAt () t2_0.succ ∗ stg c cc2_stg0_0 (xin V c) ∗ stg c cc2_stg1_0 (yin V c) ∗ stg c cc2_stg2_0 (res V c))

set_option maxRecDepth 40000 in
theorem obligation (c : Dev nD) : BodyObligation (dat2 V c) (defs₀ (F := F)) 𝒱₀ () Set.univ := fun t => by
  rw [fin_N2 t]
  rw [windows, windows]
  simp only [owns_whole]
  show before V c ⊢ WP c
    (cc2__allreduce_body (Memref.whole cc2_stg0_0) (Memref.isWhole_whole _) (Memref.whole cc2_stg1_0) (Memref.isWhole_whole _)
      oM (Memref.isWhole_whole _) gM (Memref.isWhole_whole _) (Memref.whole cc2_scratch1) (Memref.isWhole_whole _)
      (Memref.whole cc2_scratch2) (Memref.isWhole_whole _) (Memref.whole cc2_scratch3) (Memref.isWhole_whole _)
      (Memref.whole cc2_scratch4) (Memref.isWhole_whole _) (Memref.whole cc2_scratch5) (Memref.isWhole_whole _)
      (Memref.whole cc2_scratch6) (Memref.isWhole_whole _) (Memref.whole cc2_scratch7) (Memref.isWhole_whole _)
      (Memref.whole cc2_scratch8) (Memref.isWhole_whole _) cc2_scratch9 cc2_scratch10 cc2_scratch11 cc2_scratch12) (fun _ => after V c)
  unfold before Φin running scratch
  iintro ⟨⟨⟨⟨%K, #HR, Hl⟩, Hc, #Hlev⟩, ⟨HgA, HgB, Hbufs⟩, Hoth, Hprng⟩, Ho, ⟨%d0, %g0, %hg0, Hx⟩, ⟨%d1, %g1, %hg1, Hy⟩, ⟨%d2, %g2, %hg2, Hout⟩⟩
  have hx : g0 = xin V c := by rw [hg0]; unfold Dat.before; rw [if_pos (fetched0 t2_0)]; rfl
  have hy : g1 = yin V c := by rw [hg1]; unfold Dat.before; rw [if_pos (fetched1 t2_0)]; rfl
  subst hx hy
  unfold Dat.owesAt Pipeline.owesWithin
  icases Ho with ⟨%W, %hW, HO⟩
  rw [show (dat2 V c).owed t2_0.castSucc = tal (owedL c) from rfl]
  iapply (body_run (part V) K (c := c) (xin V c) (yin V c) rfl fun _ => after V c)
  isplitr; · iexact HR
  isplitr; · iexact Hlev
  isplitl [Hl Hc]
  · iapply (lin_body (F := F) c)
    isplitl [Hl]; · iexact Hl
    iexact Hc
  isplitl [Hbufs]; · iexact Hbufs
  isplitl [HgA]; · iexact HgA
  isplitl [HgB]; · iexact HgB
  isplitl [Hx]; · iexact Hx
  isplitl [Hy]; · iexact Hy
  isplitl [Hout]; · iexists g2; iexact Hout
  isplitl [HO]; · unfold owesE; iexists W; iexact HO
  unfold owesE ASt after Φout Dat.owesAt Pipeline.owesWithin
  rw [show (dat2 V c).owed t2_0.succ = 0 from rfl]
  iintro ⟨Hx, Hy, ⟨HoA, HoB, HgA, HgB⟩, Hbufs, Hz, ⟨%W', HO⟩⟩
  isplitl [Hz HgA HgB Hbufs Hoth Hprng]
  · isplitl [Hz]; · iexact Hz
    isplitr [Hprng]; swap; · iexact Hprng
    iapply (scratch_out c (T (part V) 0) (T (part V) 1))
    isplitr [Hoth]; swap; · iexact Hoth
    isplitl [HgA]; · iexact HgA
    isplitl [HgB]; · iexact HgB
    iexact Hbufs
  isplitl [HO]
  · iexists W'
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists (res V c); isplitr; · (ipureintro; rfl)
  unfold res
  iapply (o_join c)
  isplitl [HoA]; · iexact HoA
  iexact HoB

/-! ## The regions

Each over any contents before and after; the run fixes them. -/

variable (VA VB VC V' : Dev nD → Valuation τ sig (Elt F))

def pdats : (p : Fin 3) → (c : Dev nD) → Dat τ (Elt F) Unit ℕ UU ℕ (cfgs p) c
  | ⟨0, _⟩ => dat0 VA
  | ⟨1, _⟩ => dat1 VB
  | ⟨2, _⟩ => dat2 VC

/-- What rides along until the exchange. -/
def carry (c : Dev nD) : sProp 𝕄 := iprop((∃ r, prngReg c r) ∗ kept (part VC) c)

theorem owed_above (c : Dev nD) (g : GSem nD τ sig) (i : Unit) (h : 0 < tal (owedL c) g i) : i ∈ L g ∧ 0 < lv g i := by
  obtain ⟨p, hp, rfl⟩ := tal_pos h
  refine ⟨by rw [show L (kcell p) = {()} from L_tc _ _]; exact Finset.mem_singleton_self _, ?_⟩
  rw [show lv (kcell p) i = lvC p.2 from lv_cell p]
  have hl : (owedL c).map Prod.snd = none :: none :: none :: none :: rsI (agI [0, 1, 2, 3]) [0, 1, 2, 3] := by
    simp only [owedL, List.map_cons, rss_snd c (ags_snd c _)]
  have hm : p.2 ∈ none :: none :: none :: none :: rsI (agI [0, 1, 2, 3]) [0, 1, 2, 3] := hl ▸ List.mem_map_of_mem hp
  have ha : ∀ i ∈ (none :: none :: none :: none :: rsI (agI [0, 1, 2, 3]) [0, 1, 2, 3] : List CI), 0 < lvC i := by decide
  exact ha _ hm

omit [FloatOps F] [Named F] in
theorem stage_lv (p : Fin 3) (w : Fin (cfgs p).W) (s : Fin ((cfgs p).win w).nbuf) (c : Dev nD) : lv ((c : Thread nD τ), .dma (((cfgs p).win w).sem s)) () = 0 := by
  have h : ∀ (p : Fin 3) (w : Fin (cfgs p).W) (s : Fin ((cfgs p).win w).nbuf), ciOf (.dma (((cfgs p).win w).sem s)) = none := by decide +kernel
  unfold lv; rw [h p w s]; rfl

theorem cut0 : Pipeline.LevelCut (pcfgs (F := F)) adm () L lv 0 (fun c => tal (owedL c)) fun _ => 0 where
  hι c w s := by rw [L_tc]; exact Finset.mem_singleton_self _
  hιb c w s := Nat.le_of_eq (stage_lv 0 w s c)
  hD c g i h := owed_above c g i h
theorem cut1 : Pipeline.LevelCut (pcfgs (F := F)) adm () L lv 1 (fun c => tal (owedL c)) fun _ => 0 where
  hι c w s := by rw [L_tc]; exact Finset.mem_singleton_self _
  hιb c w s := Nat.le_of_eq (stage_lv 1 w s c)
  hD c g i h := owed_above c g i h
theorem cut2 : Pipeline.LevelCutOwed (pcfgs (F := F)) adm (pdats VA VB VC) () L lv 2 fun _ => 0 where
  hι c w s := by rw [L_tc]; exact Finset.mem_singleton_self _
  hιb c w s := Nat.le_of_eq (stage_lv 2 w s c)
  hD c t g i h := by
    rcases t with ⟨_ | _, ht⟩
    · exact owed_above c g i h
    · exact absurd h (Nat.lt_irrefl 0)

variable {V V'} in
theorem ends0 (c : Dev nD) (h : ∀ r ∉ ([main_v30] : List (Ref sig .tc)), V' c r = V c r) (h3 : V' c main_v30 = (dat0 V c).arrAt (3 : Fin 4) cfg0.N) :
    ∀ w : Fin 4, (dat0 V c).arrAt w cfg0.N = V' c (Pipeline.arrRef spec0 w)
  | ⟨0, _⟩ => ((dat0 V c).arrAt_in (0 : Fin 4) rfl _).trans (h main_v29 (by decide)).symm
  | ⟨1, _⟩ => ((dat0 V c).arrAt_in (1 : Fin 4) rfl _).trans (h main_v21 (by decide)).symm
  | ⟨2, _⟩ => ((dat0 V c).arrAt_in (2 : Fin 4) rfl _).trans (h main_v24 (by decide)).symm
  | ⟨3, _⟩ => h3.symm
variable {V V'} in
theorem ends1 (c : Dev nD) (h : ∀ r ∉ ([main_v32] : List (Ref sig .tc)), V' c r = V c r) (h3 : V' c main_v32 = (dat1 V c).arrAt (3 : Fin 4) cfg1.N) :
    ∀ w : Fin 4, (dat1 V c).arrAt w cfg1.N = V' c (Pipeline.arrRef spec1 w)
  | ⟨0, _⟩ => ((dat1 V c).arrAt_in (0 : Fin 4) rfl _).trans (h main_v31 (by decide)).symm
  | ⟨1, _⟩ => ((dat1 V c).arrAt_in (1 : Fin 4) rfl _).trans (h main_v21 (by decide)).symm
  | ⟨2, _⟩ => ((dat1 V c).arrAt_in (2 : Fin 4) rfl _).trans (h main_v24 (by decide)).symm
  | ⟨3, _⟩ => h3.symm
variable {V V'} in
theorem ends2 (c : Dev nD) (h : ∀ r ∉ ([main_v35] : List (Ref sig .tc)), V' c r = V c r) (h3 : V' c main_v35 = (dat2 V c).arrAt (2 : Fin 3) cfg2.N) :
    ∀ w : Fin 3, (dat2 V c).arrAt w cfg2.N = V' c (Pipeline.arrRef spec2 w)
  | ⟨0, _⟩ => ((dat2 V c).arrAt_in (0 : Fin 3) rfl _).trans (h main_v33 (by decide)).symm
  | ⟨1, _⟩ => ((dat2 V c).arrAt_in (1 : Fin 3) rfl _).trans (h main_v34 (by decide)).symm
  | ⟨2, _⟩ => h3.symm

def R0 (h : ∀ c w, (dat0 VA c).arrAt w cfg0.N = V' c (Pipeline.arrRef spec0 w)) : Pipeline.RegionSeg (pcfgs (F := F)) adm (pdats VA VB VC) () defs₀ 𝒱₀ L lv 0 :=
  Pipeline.RegionSeg.ofHeld (pcfgs (F := F)) adm (pdats VA VB VC) () defs₀ 𝒱₀ L lv 0 (fun c => tal (owedL c)) (fun _ => iprop(emp)) (fun _ => iprop(emp))
    launch0.toP rfl (fun c => (body0 VA c).loose) (fun _ _ => rfl) (fun _ => rfl) (fun c w => (show (dat0 VA c).share w = fullShare from by unfold Dat.share; split <;> rfl))
    (fun c => (show iprop(Pipeline.scopedRest spec0 c ∗ emp) ⊢ (Pipeline.scopedRest spec0 c : sProp 𝕄) from sep_elim_left))
    (fun c => (show (Pipeline.scopedRest spec0 c : sProp 𝕄) ⊢ iprop(Pipeline.scopedRest spec0 c ∗ emp) from by
      iintro H
      isplitl [H]; · iexact H
      iempintro))
    (fun _ => 0) cut0 (fun c => iprop(StableHlo.held (c : Thread nD τ) (Pipeline.ucRefs τ sig \ Pipeline.arrRefs spec0) (VA c) ∗ carry VC c))
    VA V' (fun _ _ => rfl) h

def R1 (h : ∀ c w, (dat1 VB c).arrAt w cfg1.N = V' c (Pipeline.arrRef spec1 w)) : Pipeline.RegionSeg (pcfgs (F := F)) adm (pdats VA VB VC) () defs₀ 𝒱₀ L lv 1 :=
  Pipeline.RegionSeg.ofHeld (pcfgs (F := F)) adm (pdats VA VB VC) () defs₀ 𝒱₀ L lv 1 (fun c => tal (owedL c)) (fun _ => iprop(emp)) (fun _ => iprop(emp))
    launch1.toP rfl (fun c => (body1 VB c).loose) (fun _ _ => rfl) (fun _ => rfl) (fun c w => (show (dat1 VB c).share w = fullShare from by unfold Dat.share; split <;> rfl))
    (fun c => (show iprop(Pipeline.scopedRest spec1 c ∗ emp) ⊢ (Pipeline.scopedRest spec1 c : sProp 𝕄) from sep_elim_left))
    (fun c => (show (Pipeline.scopedRest spec1 c : sProp 𝕄) ⊢ iprop(Pipeline.scopedRest spec1 c ∗ emp) from by
      iintro H
      isplitl [H]; · iexact H
      iempintro))
    (fun _ => 0) cut1 (fun c => iprop(StableHlo.held (c : Thread nD τ) (Pipeline.ucRefs τ sig \ Pipeline.arrRefs spec1) (VB c) ∗ carry VC c))
    VB V' (fun _ _ => rfl) h

/-- What the exchange's first point is entered with. -/
def awake (c : Dev nD) : sProp 𝕄 := iprop(running (part VC) c ∗ creds (F := F) c ∗ levAts L lv)

theorem awaken (c : Dev nD) : iprop(kept (part VC) c ∗ own0 (F := F) c ∗ levAts L lv) ⊢ |={Set.univ}=> awake VC c := by
  unfold awake
  iintro ⟨Hk, Ho, Hl⟩
  imod (start_running (part VC) c) $$ [Hk Ho] with ⟨Hr, Hc⟩
  · isplitl [Hk]; · iexact Hk
    iexact Ho
  imodintro
  isplitl [Hr]; · iexact Hr
  isplitl [Hc]; · iexact Hc
  iexact Hl

theorem enter (c : Dev nD) (Hh : sProp 𝕄) : iprop(rest2 (F := F) c ∗ (∃ r, prngReg c r) ∗ Hh ∗ awake VC c) ⊢ Φin VC c := by
  unfold Φin awake
  iintro ⟨Hr, Hp, -, Ha⟩
  ihave Hr := (scratch_in (F := F) c) $$ Hr
  icases Hr with ⟨Hs, Hx⟩
  isplitl [Ha]; · iexact Ha
  isplitl [Hs]; · iexact Hs
  isplitl [Hx]; · iexact Hx
  iexact Hp

theorem leave (c : Dev nD) (V : Valuation τ sig (Elt F)) : Φout (F := F) c
    ⊢ iprop(rest2 (F := F) c ∗ (∃ r, prngReg c r) ∗ StableHlo.held (c : Thread nD τ) ∅ V ∗ own0 (F := F) c ∗ unscopedSems0 c) := by
  unfold Φout
  iintro ⟨Hz, Hr, Hp⟩
  ihave Hz := (zeros_exit (F := F) c) $$ Hz
  icases Hz with ⟨Hu, Ho⟩
  isplitl [Hr]; · iexact Hr
  isplitl [Hp]; · iexact Hp
  isplitr
  · unfold StableHlo.held
    rw [bigSep_empty]; iempintro
  isplitl [Ho]; · iexact Ho
  iexact Hu

def R2 (h : ∀ c w, (dat2 VC c).arrAt w cfg2.N = V' c (Pipeline.arrRef spec2 w)) : Pipeline.RegionSeg (pcfgs (F := F)) adm (pdats VA VB VC) () defs₀ 𝒱₀ L lv 2 :=
  Pipeline.RegionSeg.ofTalk (pcfgs (F := F)) adm (pdats VA VB VC) () defs₀ 𝒱₀ L lv 2 osem ownSemFacts ∅ ∅ (Finset.Subset.refl _)
    launch2.toP rfl (fun c => (obligation VC c).loose) (fun _ => 0) (fun c => tal (owedL c)) (fun c => (zero_add (tal (owedL c))).symm) (fun _ => rfl) (fun _ => rfl)
    (fun c w => (show (dat2 VC c).share w = fullShare from by unfold Dat.share; split <;> rfl)) VC V' (fun c b hb => absurd hb (by simp))
    (fun c => kept (part VC) c) (fun c => unscopedSems0 c) (awake VC) (fun c => unscopedSems0 c)
    (awaken VC) (fun c => enter VC c _) (fun c => leave c _) (fun c => fupd_intro)
    (fun _ => 0) (cut2 VA VB VC) (fun c => StableHlo.held (c : Thread nD τ) (Pipeline.ucRefs τ sig \ Pipeline.arrRefs spec2) (VC c))
    (fun _ _ => rfl) h

end Cert.AllReduce
-- ==== Proof.Whole.lean ====
/-
# The whole run

The host stretches, the two attention calls and the exchange in order: from any memory with counters at zero the mesh ends with
every array at the contents named here and every counter at zero.
-/
module

public import proofs.«01_k».proof.Proof.Run

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The contents between the calls -/

/-- What the first attention call leaves. -/
def o30 (V : Dev nD → Valuation τ sig (Elt F)) (c : Dev nD) : Buf (Elt F) ((c : Thread nD τ).loc main_v30) := (dat0 V c).arrAt (3 : Fin 4) cfg0.N
/-- What the second attention call leaves. -/
def o32 (V : Dev nD → Valuation τ sig (Elt F)) (c : Dev nD) : Buf (Elt F) ((c : Thread nD τ).loc main_v32) := (dat1 V c).arrAt (3 : Fin 4) cfg1.N
/-- What the exchange leaves. -/
def o35 (V : Dev nD → Valuation τ sig (Elt F)) (c : Dev nD) : Buf (Elt F) ((c : Thread nD τ).loc main_v35) := (dat2 V c).arrAt (2 : Fin 3) cfg2.N

def W1 : Dev nD → Valuation τ sig (Elt F) := V1 m
def W2 (c : Dev nD) : Valuation τ sig (Elt F) := Function.update (W1 m c) main_v30 (o30 (W1 m) c)
def W3 (c : Dev nD) : Valuation τ sig (Elt F) := StableHlo.after hostOps1 (W2 m c)
def W4 (c : Dev nD) : Valuation τ sig (Elt F) := Function.update (W3 m c) main_v32 (o32 (W3 m) c)
def W5 (c : Dev nD) : Valuation τ sig (Elt F) := StableHlo.after hostOps2 (W4 m c)
def W6 (c : Dev nD) : Valuation τ sig (Elt F) := Function.update (W5 m c) main_v35 (o35 (W5 m) c)
def W7 (c : Dev nD) : Valuation τ sig (Elt F) := StableHlo.after hostOps3 (W6 m c)

theorem upd_of {V : Valuation τ sig (Elt F)} {r b : Ref sig .tc} {x} (h : r ∉ ([b] : List (Ref sig .tc))) : Function.update V (Proc.devRef .tc b) x r = V r :=
  Function.update_of_ne (StableHlo.devRef_ne_of_ne (List.ne_of_not_mem_cons h)) _ _

theorem W1_of (c : Dev nD) (r : Ref sig .tc) (h : r ∉ hostOps0_W) : W1 m c r = V0 m c r := V1_of m c r h
theorem W2_of (c : Dev nD) (r : Ref sig .tc) (h : r ∉ ([main_v30] : List (Ref sig .tc))) : W2 m c r = W1 m c r := upd_of h
theorem W3_of (c : Dev nD) (r : Ref sig .tc) (h : r ∉ hostOps1_W) : W3 m c r = W2 m c r := StableHlo.after_of_writes_sub hostOps1 _ hostOps1_writes h
theorem W4_of (c : Dev nD) (r : Ref sig .tc) (h : r ∉ ([main_v32] : List (Ref sig .tc))) : W4 m c r = W3 m c r := upd_of h
theorem W5_of (c : Dev nD) (r : Ref sig .tc) (h : r ∉ hostOps2_W) : W5 m c r = W4 m c r := StableHlo.after_of_writes_sub hostOps2 _ hostOps2_writes h
theorem W6_of (c : Dev nD) (r : Ref sig .tc) (h : r ∉ ([main_v35] : List (Ref sig .tc))) : W6 m c r = W5 m c r := upd_of h
theorem W7_of (c : Dev nD) (r : Ref sig .tc) (h : r ∉ hostOps3_W) : W7 m c r = W6 m c r := StableHlo.after_of_writes_sub hostOps3 _ hostOps3_writes h

/-- An array no call and no host operation writes ends as it began. -/
theorem kept_arg (c : Dev nD) (r : Ref sig .tc) (h0 : r ∉ hostOps0_W) (h : r ∉ [main_v30, main_v31, main_v32, main_v33, main_v34, main_v35, main_v36]) :
    W7 m c r = m ((c : Thread nD τ).loc r) := by
  simp only [List.mem_cons, List.not_mem_nil, or_false, not_or] at h
  obtain ⟨a, b, d, e, f, g, i⟩ := h
  rw [W7_of m c r (by simp [hostOps3_W, i]), W6_of m c r (by simp [g]), W5_of m c r (by simp [hostOps2_W, e, f]), W4_of m c r (by simp [d]),
    W3_of m c r (by simp [hostOps1_W, b]), W2_of m c r (by simp [a]), W1_of m c r h0]

/-! ## Splitting off a call's arrays -/

omit [FloatOps F] [Named F] in
/-- The arrays a call names, apart from the rest, which the call leaves alone. -/
theorem held_apart (c : Dev nD) {S : Finset (DevRef τ sig)} (hS : S ⊆ Pipeline.ucRefs τ sig) (V : Valuation τ sig (Elt F)) :
    (StableHlo.held (c : Thread nD τ) (Pipeline.ucRefs τ sig) V : sProp 𝕄)
      = iprop(StableHlo.held (c : Thread nD τ) S V ∗ StableHlo.held (c : Thread nD τ) (Pipeline.ucRefs τ sig \ S) V) :=
  StableHlo.held_sub_split (c : Thread nD τ) hS V

omit [FloatOps F] [Named F] in
theorem held_back (c : Dev nD) {S : Finset (DevRef τ sig)} (hS : S ⊆ Pipeline.ucRefs τ sig) {b : DevRef τ sig} (hb : b ∈ S) (V : Valuation τ sig (Elt F)) (x) :
    iprop(StableHlo.held (c : Thread nD τ) S (Function.update V b x) ∗ StableHlo.held (c : Thread nD τ) (Pipeline.ucRefs τ sig \ S) V)
      ⊢ (StableHlo.held (c : Thread nD τ) (Pipeline.ucRefs τ sig) (Function.update V b x) : sProp 𝕄) := by
  rw [held_apart c hS, StableHlo.held_congr (c : Thread nD τ) (S := Pipeline.ucRefs τ sig \ S) (V := V) (V' := Function.update V b x)
    fun d hd => (Function.update_of_ne (fun e => (Finset.mem_sdiff.mp hd).2 (by rw [e]; exact hb)) _ _).symm]

omit [FloatOps F] [Named F] in
theorem sub0 : Pipeline.arrRefs (τ := τ) spec0 ⊆ Pipeline.ucRefs τ sig := Pipeline.arrRefs_sub_ucRefs spec0 (by decide)
omit [FloatOps F] [Named F] in
theorem sub1 : Pipeline.arrRefs (τ := τ) spec1 ⊆ Pipeline.ucRefs τ sig := Pipeline.arrRefs_sub_ucRefs spec1 (by decide)
omit [FloatOps F] [Named F] in
theorem sub2 : Pipeline.arrRefs (τ := τ) spec2 ⊆ Pipeline.ucRefs τ sig := Pipeline.arrRefs_sub_ucRefs spec2 (by decide)
omit [FloatOps F] [Named F] in
theorem mem0 : (Proc.devRef .tc main_v30 : DevRef τ sig) ∈ Pipeline.arrRefs (τ := τ) spec0 :=
  Finset.mem_map.mpr ⟨main_v30, Finset.mem_image.mpr ⟨(3 : Fin 4), Finset.mem_univ _, rfl⟩, rfl⟩
omit [FloatOps F] [Named F] in
theorem mem1 : (Proc.devRef .tc main_v32 : DevRef τ sig) ∈ Pipeline.arrRefs (τ := τ) spec1 :=
  Finset.mem_map.mpr ⟨main_v32, Finset.mem_image.mpr ⟨(3 : Fin 4), Finset.mem_univ _, rfl⟩, rfl⟩
omit [FloatOps F] [Named F] in
theorem mem2 : (Proc.devRef .tc main_v35 : DevRef τ sig) ∈ Pipeline.arrRefs (τ := τ) spec2 :=
  Finset.mem_map.mpr ⟨main_v35, Finset.mem_image.mpr ⟨(2 : Fin 3), Finset.mem_univ _, rfl⟩, rfl⟩

/-! ## The regions in place -/

variable (VA VB VC : Dev nD → Valuation τ sig (Elt F))

abbrev heldAll (c : Dev nD) (V : Valuation τ sig (Elt F)) : sProp 𝕄 := StableHlo.held (c : Thread nD τ) (Pipeline.ucRefs τ sig) V

def goes (c : Dev nD) : sProp 𝕄 := iprop(∃ W, owes (c : Thread nD τ) (tal (owedL c)) W)

def Ra : Pipeline.RegionSeg (pcfgs (F := F)) adm (pdats VA VB VC) () defs₀ 𝒱₀ L lv 0 :=
  R0 VA VB VC (fun c => Function.update (VA c) main_v30 (o30 VA c)) (fun c => ends0 (V := VA) (V' := fun c => Function.update (VA c) main_v30 (o30 VA c)) c (fun r h => upd_of h) (Function.update_self (Proc.devRef .tc main_v30) (o30 VA c) (VA c)))
def Rb : Pipeline.RegionSeg (pcfgs (F := F)) adm (pdats VA VB VC) () defs₀ 𝒱₀ L lv 1 :=
  R1 VA VB VC (fun c => Function.update (VB c) main_v32 (o32 VB c)) (fun c => ends1 (V := VB) (V' := fun c => Function.update (VB c) main_v32 (o32 VB c)) c (fun r h => upd_of h) (Function.update_self (Proc.devRef .tc main_v32) (o32 VB c) (VB c)))
def Rc : Pipeline.RegionSeg (pcfgs (F := F)) adm (pdats VA VB VC) () defs₀ 𝒱₀ L lv 2 :=
  R2 VA VB VC (fun c => Function.update (VC c) main_v35 (o35 VC c)) (fun c => ends2 (V := VC) (V' := fun c => Function.update (VC c) main_v35 (o35 VC c)) c (fun r h => upd_of h) (Function.update_self (Proc.devRef .tc main_v35) (o35 VC c) (VC c)))

theorem Ra_pre (c : Dev nD) : iprop(heldAll c (VA c) ∗ carry VC c ∗ goes (F := F) c) ⊢ (Ra VA VB VC).pre c := by
  show _ ⊢ iprop(StableHlo.held (c : Thread nD τ) (Pipeline.arrRefs spec0) (VA c) ∗ emp
    ∗ (StableHlo.held (c : Thread nD τ) (Pipeline.ucRefs τ sig \ Pipeline.arrRefs spec0) (VA c) ∗ carry VC c) ∗ goes (F := F) c)
  unfold heldAll
  rw [held_apart c sub0]
  iintro ⟨⟨H, Hr⟩, Hc, Ho⟩
  isplitl [H]; · iexact H
  isplitr; · iempintro
  isplitr [Ho]; swap; · iexact Ho
  isplitl [Hr]; · iexact Hr
  iexact Hc
theorem Ra_post (c : Dev nD) : (Ra VA VB VC).post c ⊢ iprop(heldAll c (Function.update (VA c) main_v30 (o30 VA c)) ∗ carry VC c ∗ goes (F := F) c) := by
  show iprop(StableHlo.held (c : Thread nD τ) (Pipeline.arrRefs spec0) (Function.update (VA c) main_v30 (o30 VA c)) ∗ emp
    ∗ (StableHlo.held (c : Thread nD τ) (Pipeline.ucRefs τ sig \ Pipeline.arrRefs spec0) (VA c) ∗ carry VC c) ∗ goes (F := F) c) ⊢ _
  unfold heldAll
  iintro ⟨H, -, ⟨Hr, Hc⟩, Ho⟩
  isplitl [H Hr]
  · iapply (held_back c sub0 mem0 (VA c) (o30 VA c))
    isplitl [H]; · iexact H
    iexact Hr
  isplitl [Hc]; · iexact Hc
  iexact Ho

theorem Rb_pre (c : Dev nD) : iprop(heldAll c (VB c) ∗ carry VC c ∗ goes (F := F) c) ⊢ (Rb VA VB VC).pre c := by
  show _ ⊢ iprop(StableHlo.held (c : Thread nD τ) (Pipeline.arrRefs spec1) (VB c) ∗ emp
    ∗ (StableHlo.held (c : Thread nD τ) (Pipeline.ucRefs τ sig \ Pipeline.arrRefs spec1) (VB c) ∗ carry VC c) ∗ goes (F := F) c)
  unfold heldAll
  rw [held_apart c sub1]
  iintro ⟨⟨H, Hr⟩, Hc, Ho⟩
  isplitl [H]; · iexact H
  isplitr; · iempintro
  isplitr [Ho]; swap; · iexact Ho
  isplitl [Hr]; · iexact Hr
  iexact Hc
theorem Rb_post (c : Dev nD) : (Rb VA VB VC).post c ⊢ iprop(heldAll c (Function.update (VB c) main_v32 (o32 VB c)) ∗ carry VC c ∗ goes (F := F) c) := by
  show iprop(StableHlo.held (c : Thread nD τ) (Pipeline.arrRefs spec1) (Function.update (VB c) main_v32 (o32 VB c)) ∗ emp
    ∗ (StableHlo.held (c : Thread nD τ) (Pipeline.ucRefs τ sig \ Pipeline.arrRefs spec1) (VB c) ∗ carry VC c) ∗ goes (F := F) c) ⊢ _
  unfold heldAll
  iintro ⟨H, -, ⟨Hr, Hc⟩, Ho⟩
  isplitl [H Hr]
  · iapply (held_back c sub1 mem1 (VB c) (o32 VB c))
    isplitl [H]; · iexact H
    iexact Hr
  isplitl [Hc]; · iexact Hc
  iexact Ho

/-- What a device has beside its arrays once the exchange is over. -/
def done (c : Dev nD) : sProp 𝕄 := iprop((∃ r, prngReg c r) ∗ unscopedSems0 c ∗ ∃ W, owes (c : Thread nD τ) (0 : CellTallies nD τ sig Unit) W)

theorem Rc_pre (c : Dev nD) : iprop(heldAll c (VC c) ∗ carry VC c ∗ goes (F := F) c) ⊢ (Rc VA VB VC).pre c := by
  show _ ⊢ iprop(StableHlo.held (c : Thread nD τ) (Pipeline.arrRefs spec2) (VC c) ∗ (∃ r, prngReg c r)
    ∗ (StableHlo.held (c : Thread nD τ) ∅ (VC c) ∗ StableHlo.held (c : Thread nD τ) (Pipeline.ucRefs τ sig \ Pipeline.arrRefs spec2) (VC c)) ∗ kept (part VC) c
      ∗ ∃ W, owes (c : Thread nD τ) (0 + tal (owedL c)) W)
  unfold heldAll carry goes
  rw [held_apart c sub2, zero_add]
  iintro ⟨⟨H, Hr⟩, ⟨Hp, Hk⟩, Ho⟩
  isplitl [H]; · iexact H
  isplitl [Hp]; · iexact Hp
  isplitl [Hr]
  · isplitr
    · unfold StableHlo.held
      rw [bigSep_empty]; iempintro
    iexact Hr
  isplitl [Hk]; · iexact Hk
  iexact Ho
theorem Rc_post (c : Dev nD) : (Rc VA VB VC).post c ⊢ iprop(heldAll c (Function.update (VC c) main_v35 (o35 VC c)) ∗ done (F := F) c) := by
  show iprop(StableHlo.held (c : Thread nD τ) (Pipeline.arrRefs spec2) (Function.update (VC c) main_v35 (o35 VC c)) ∗ (∃ r, prngReg c r)
    ∗ (StableHlo.held (c : Thread nD τ) ∅ (Function.update (VC c) main_v35 (o35 VC c)) ∗ StableHlo.held (c : Thread nD τ) (Pipeline.ucRefs τ sig \ Pipeline.arrRefs spec2) (VC c)) ∗ unscopedSems0 c
      ∗ ∃ W, owes (c : Thread nD τ) (0 : CellTallies nD τ sig Unit) W) ⊢ _
  unfold heldAll done
  iintro ⟨H, Hp, ⟨-, Hr⟩, Hu, Ho⟩
  isplitl [H Hr]
  · iapply (held_back c sub2 mem2 (VC c) (o35 VC c))
    isplitl [H]; · iexact H
    iexact Hr
  isplitl [Hp]; · iexact Hp
  isplitl [Hu]; · iexact Hu
  iexact Ho

/-! ## The launch -/

def rest (VC : Dev nD → Valuation τ sig (Elt F)) (c : Dev nD) : sProp 𝕄 := iprop(carry VC c ∗ goes (F := F) c)

def items (c : Dev nD) : List (Seg (pcfgs (F := F)) adm (pdats VA VB VC) () defs₀ 𝒱₀ L lv) :=
  [.host (seg0 m 𝒱₀ L lv (fun _ => rest VC) c), .region (Ra VA VB VC),
   .host (HostSeg.ofOps _ _ _ _ _ (Pipeline.ucRefs τ sig) hostOps1 (fun op h => Pipeline.sub_ucRefs op ((List.forall_iff_forall_mem.mp hostOps1_sub) op h))
      (fun op h => (List.forall_iff_forall_mem.mp hostOps1_fresh) op h) (fun c => Function.update (VA c) main_v30 (o30 VA c)) (rest VC)),
   .region (Rb VA VB VC),
   .host (HostSeg.ofOps _ _ _ _ _ (Pipeline.ucRefs τ sig) hostOps2 (fun op h => Pipeline.sub_ucRefs op ((List.forall_iff_forall_mem.mp hostOps2_sub) op h))
      (fun op h => (List.forall_iff_forall_mem.mp hostOps2_fresh) op h) (fun c => Function.update (VB c) main_v32 (o32 VB c)) (rest VC)),
   .region (Rc VA VB VC),
   .host (HostSeg.ofOps _ _ _ _ _ (Pipeline.ucRefs τ sig) hostOps3 (fun op h => Pipeline.sub_ucRefs op ((List.forall_iff_forall_mem.mp hostOps3_sub) op h))
      (fun op h => (List.forall_iff_forall_mem.mp hostOps3_fresh) op h) (fun c => Function.update (VC c) main_v35 (o35 VC c)) (done (F := F)))]

theorem start_all : iprop((bigSep Finset.univ fun c : Dev nD => iprop(unscopedBufs c (fun b => m ((c : Thread nD τ).loc b)) ∗ unscopedSems0 c
        ∗ owes (c : Thread nD τ) (tal (owedL c)) ∅ ∗ Pipeline.launchCred (fun d => tal (owedL d)) c ∗ prngReg c (ρ c) ∗ parked (F := F) c)) ∗ levAts L lv)
    ⊢ |={Set.univ}=> bigSep Finset.univ fun c : Dev nD => iprop(heldAll c (V0 m c) ∗ rest VC c) := by
  have h1 : (bigSep Finset.univ fun c : Dev nD => iprop(unscopedBufs c (fun b => m ((c : Thread nD τ).loc b)) ∗ unscopedSems0 c
        ∗ owes (c : Thread nD τ) (tal (owedL c)) ∅ ∗ Pipeline.launchCred (fun d => tal (owedL d)) c ∗ prngReg c (ρ c) ∗ parked (F := F) c))
      ⊢ (iprop(((bigSep Finset.univ fun c : Dev nD => iprop(unscopedSems0 c ∗ Pipeline.launchCred (fun d => tal (owedL d)) c)) ∗ bigSep Finset.univ (parked (F := F)))
        ∗ bigSep Finset.univ fun c : Dev nD => iprop(heldAll c (V0 m c) ∗ goes (F := F) c ∗ ∃ r, prngReg c r)) : sProp 𝕄) := by
    rw [← bigSep_sep', ← bigSep_sep']
    refine bigSep_mono fun c _ => (show iprop(unscopedBufs c (fun b => m ((c : Thread nD τ).loc b)) ∗ unscopedSems0 c
        ∗ owes (c : Thread nD τ) (tal (owedL c)) ∅ ∗ Pipeline.launchCred (fun d => tal (owedL d)) c ∗ prngReg c (ρ c) ∗ parked (F := F) c)
      ⊢ (iprop(((unscopedSems0 c ∗ Pipeline.launchCred (fun d => tal (owedL d)) c) ∗ parked (F := F) c) ∗ heldAll c (V0 m c) ∗ goes (F := F) c ∗ ∃ r, prngReg c r) : sProp 𝕄) from ?_)
    rw [show heldAll c (V0 m c) = (unscopedBufs c (fun b => m ((c : Thread nD τ).loc b)) : sProp 𝕄) from
      (Pipeline.unscopedBufs_held (Ix := Unit) (Name := ℕ) (U := UU) (Lvl := ℕ) c (V0 m c)).symm]
    unfold goes
    iintro ⟨Hb, Hu, Ho, Hc, Hp, Hg⟩
    isplitl [Hu Hc Hg]
    · isplitl [Hu Hc]
      · isplitl [Hu]; · iexact Hu
        iexact Hc
      iexact Hg
    isplitl [Hb]; · iexact Hb
    isplitl [Ho]; · iexists ∅; iexact Ho
    iexists (ρ c); iexact Hp
  iintro ⟨H, -⟩
  ihave H := h1 $$ H
  icases H with ⟨HD, HR⟩
  imod (deal (part VC)) $$ HD with HK
  imodintro
  iapply (show iprop(bigSep Finset.univ (kept (part VC)) ∗ bigSep Finset.univ fun c : Dev nD => iprop(heldAll c (V0 m c) ∗ goes (F := F) c ∗ ∃ r, prngReg c r))
      ⊢ (bigSep Finset.univ fun c : Dev nD => iprop(heldAll c (V0 m c) ∗ rest VC c) : sProp 𝕄) from by
    rw [← bigSep_sep']
    refine bigSep_mono fun c _ => (show iprop(kept (part VC) c ∗ heldAll c (V0 m c) ∗ goes (F := F) c ∗ ∃ r, prngReg c r)
      ⊢ iprop(heldAll c (V0 m c) ∗ rest VC c) from ?_)
    unfold rest carry
    iintro ⟨Hk, Hh, Ho, Hp⟩
    isplitl [Hh]; · iexact Hh
    isplitr [Ho]; swap; · iexact Ho
    isplitl [Hp]; · iexact Hp
    iexact Hk)
  isplitl [HK]; · iexact HK
  iexact HR

/-- What a device ends with. -/
def final (V : Dev nD → Valuation τ sig (Elt F)) (c : Dev nD) : sProp 𝕄 := iprop(heldAll c (V c) ∗ unscopedSems0 c)

theorem read_end (V : Dev nD → Valuation τ sig (Elt F)) (c : Dev nD) (s' : Phys nD τ sig (Elt F)) :
    iprop(final V c ∗ SI s') ⊢ |={Set.univ}=> iprop(⌜(∀ r : Ref sig .tc, r.isScoped = false → s'.mem.mem ((c : Thread nD τ).loc r) = V c r)
      ∧ ∀ sm : SemLoc sig, sm.isScoped .tc = false → s'.mem.sem ((c : Thread nD τ), sm) = 0⌝ ∗ SI s') := by
  unfold final heldAll StableHlo.held
  iintro ⟨⟨Hh, Hu⟩, HSI⟩
  ihave Hr := (pointsTo_read_all (Pipeline.ucRefs τ sig) (fun b => ((c : Thread nD τ).1, b)) (V c) s') $$ [Hh HSI]
  · isplitl [Hh] <;> iassumption
  icases Hr with ⟨%h, HSI⟩
  imod (Pipeline.unscopedSems0_read (X := unscopedSems0 c) (c := c) fupd_intro s') $$ [Hu HSI] with ⟨%hs, HSI⟩
  · isplitl [Hu]; · iexact Hu
    iexact HSI
  imodintro
  isplitr
  · ipureintro
    exact ⟨fun r hr => h (Proc.devRef .tc r) (Finset.mem_filter.mpr ⟨StableHlo.devRef_mem_tcRefs r, fun h' => Bool.false_ne_true (hr.symm.trans h')⟩), hs⟩
  · iexact HSI

set_option maxRecDepth 8000 in
set_option backward.isDefEq.respectTransparency.types false in
/-- The run, over contents before each call that agree with the host stretches. -/
theorem run_over (hA : ∀ c, StableHlo.after (hostOps0 c) (V0 m c) = VA c)
    (hB : ∀ c, StableHlo.after hostOps1 (Function.update (VA c) main_v30 (o30 VA c)) = VB c)
    (hC : ∀ c, StableHlo.after hostOps2 (Function.update (VB c) main_v32 (o32 VB c)) = VC c) :
    θ_run defs (onTc (τ := τ) (main (F := F))) ⟨m, fun _ => 0, ρ⟩ (fun r =>
      (∀ (c : Dev nD) (b : Ref sig .tc), b.isScoped = false
        → r.2.mem ((c : Thread nD τ).loc b) = StableHlo.after hostOps3 (Function.update (VC c) main_v35 (o35 VC c)) b) ∧ r.2.sem = fun _ => 0) := by
  refine Pipeline.θ_run_regions_kit_dev_sems (pcfgs (F := F)) adm (pdats VA VB VC) () cellOf_inj EP defs₀ 𝒱₀ L lv m ρ main
    (items m VA VB VC)
    (fun c Q => by
      rewrite [main_chain c, Seg.run_eq_chain,
        show (items m VA VB VC c).map Seg.prog = [
          StableHlo.seq (hostOps0 c),
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide) (fun c => tal (owedL c)) L_of_ne (parked (F := F)) u₀
    (by
      unfold u₀
      iintro Hu
      ihave H := (ownU_pair _ _) $$ Hu
      icases H with ⟨HP, HX⟩
      imodintro
      isplitl [HP]; · iexact HP
      rw [parked_all]; iexact HX)
    (T₀ := fun c => iprop(heldAll c (V0 m c) ∗ rest VC c))
    (Tₙ := final fun c => StableHlo.after hostOps3 (Function.update (VC c) main_v35 (o35 VC c)))
    (hch := fun c => ⟨.rfl, ?_, ?_, ?_, ?_, ?_, ?_, ?_⟩)
    (hinit := start_all m ρ VC) (QY := fun c s => (∀ r : Ref sig .tc, r.isScoped = false
        → s.mem ((c : Thread nD τ).loc r) = StableHlo.after hostOps3 (Function.update (VC c) main_v35 (o35 VC c)) r)
      ∧ ∀ sm : SemLoc sig, sm.isScoped .tc = false → s.sem ((c : Thread nD τ), sm) = 0)
    (hfin := fun c s' => read_end _ c s')
    (hQ := fun s h hs => ⟨fun c b hb => (h c).1 b hb, sem_eq_zero hs fun c => (h c).2⟩)
  · show iprop(heldAll c (StableHlo.after (hostOps0 c) (V0 m c)) ∗ rest VC c) ⊢ _
    rw [hA c]; exact Ra_pre VA VB VC c
  · exact Ra_post VA VB VC c
  · show iprop(heldAll c (StableHlo.after hostOps1 (Function.update (VA c) main_v30 (o30 VA c))) ∗ rest VC c) ⊢ _
    rw [hB c]; exact Rb_pre VA VB VC c
  · exact Rb_post VA VB VC c
  · show iprop(heldAll c (StableHlo.after hostOps2 (Function.update (VB c) main_v32 (o32 VB c))) ∗ rest VC c) ⊢ _
    rw [hC c]; exact Rc_pre VA VB VC c
  · exact Rc_post VA VB VC c
  · show iprop(heldAll c (StableHlo.after hostOps3 (Function.update (VC c) main_v35 (o35 VC c))) ∗ done (F := F) c) ⊢ _
    unfold final done
    iintro ⟨Hh, -, Hu, Ho⟩
    isplitr [Ho]; swap; · iexact Ho
    isplitl [Hh]; · iexact Hh
    iexact Hu

/-- From any memory with counters at zero the mesh ends, with every array at the computed contents and every counter at zero. -/
theorem run_main : θ_run defs (onTc (τ := τ) (main (F := F))) ⟨m, fun _ => 0, ρ⟩ (fun r =>
    (∀ (c : Dev nD) (b : Ref sig .tc), b.isScoped = false → r.2.mem ((c : Thread nD τ).loc b) = W7 m c b) ∧ r.2.sem = fun _ => 0) :=
  run_over m ρ (W1 m) (W3 m) (W5 m) (fun _ => rfl) (fun _ => rfl) (fun _ => rfl)

end Cert.AllReduce
-- ==== Proof.Frames.lean ====
/-
# The frames

Every program ends with its arguments as they were and every semaphore at zero.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Whole
public import Idealize.ShloMosaic.Adequacy
public import Idealize.ShloMosaic.Init

@[expose] public section

noncomputable section

namespace Cert.AllReduce

open Cert.KernelIdeal Cert.KernelIdeal.Gen
open Idealize.ShloMosaic Idealize.ShloMosaic.TcCoe
open Idealize.SL.Sem

/-- At the machine's floats a named constant is the literal the program writes. -/
instance : Named Bits where
  named _ _ {φ} bits := FloatOps.ofBits φ bits

variable {F : FTy → Type} [FloatOps F] [Named F]

theorem quiet (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun _ h => ⟨fun c =>
    ⟨(h.1 c main_arg0 (by decide)).trans (kept_arg m c main_arg0 (by decide) (by decide)),
     (h.1 c main_arg1 (by decide)).trans (kept_arg m c main_arg1 (by decide) (by decide)),
     (h.1 c main_arg2 (by decide)).trans (kept_arg m c main_arg2 (by decide) (by decide)),
     (h.1 c main_arg3 (by decide)).trans (kept_arg m c main_arg3 (by decide) (by decide)),
     (h.1 c main_arg4 (by decide)).trans (kept_arg m c main_arg4 (by decide) (by decide))⟩, h.2⟩) (run_main m ρ)

/-- The two prints have the same attention bodies, -/
theorem attn0 : @Cert.Kernel.cc0__attn_body Bits _ _ = @Cert.KernelIdeal.cc0__attn_body Bits _ _ _ := by
  unfold Cert.Kernel.cc0__attn_body Cert.KernelIdeal.cc0__attn_body
  rfl

theorem attn1 : @Cert.Kernel.cc1__attn_body Bits _ _ = @Cert.KernelIdeal.cc1__attn_body Bits _ _ _ := by
  unfold Cert.Kernel.cc1__attn_body Cert.KernelIdeal.cc1__attn_body
  rfl

theorem sum2 : @Cert.Kernel.cc2__allreduce_body Bits _ _ = @Cert.KernelIdeal.cc2__allreduce_body Bits _ _ := rfl

theorem three {β : Fin 3 → Type} {γ : Fin 3 → Sort*} {f g : (l : Fin 3) → β l → γ l} (h0 : ∀ a, f 0 a = g 0 a) (h1 : ∀ a, f 1 a = g 1 a)
    (h2 : ∀ a, f 2 a = g 2 a) : f = g := by
  funext l a
  match l, a with
  | 0, a => exact h0 a
  | 1, a => exact h1 a
  | 2, a => exact h2 a

set_option maxHeartbeats 4000000 in
theorem table₀ : @Cert.Kernel.defs₀ Bits _ _ = @Cert.KernelIdeal.defs₀ Bits _ _ _ := by
  unfold Cert.Kernel.defs₀ Cert.KernelIdeal.defs₀
  rw [attn0, attn1, sum2]
  refine congrArg Defs.onTc ?_
  refine three (fun a => ?_) (fun a => ?_) (fun a => ?_)
  · obtain ⟨t, s⟩ := a
    rfl
  · obtain ⟨t, s⟩ := a
    rfl
  · obtain ⟨t, s⟩ := a
    rfl

/-- with the pipelines', -/
theorem table : @Cert.Kernel.defs Bits _ _ = @Cert.KernelIdeal.defs Bits _ _ _ := congrArg (Pipeline.defs _) table₀

set_option maxHeartbeats 4000000 in
/-- and the same text. -/
theorem text : @Cert.Kernel.main Bits _ _ = @Cert.KernelIdeal.main Bits _ _ := rfl

theorem frame_kernel : Cert.quiescent_Kernel := fun m ρ _ => by
  rw [table, text]
  exact quiet (F := Bits) m ρ

theorem frame_kernelIdeal : Cert.quiescent_KernelIdeal := fun m ρ _ => quiet (F := Ideal) m ρ

theorem frame_kernelIdeal_finite : Cert.quiescent_KernelIdeal_pre_finite_KernelIdeal := fun m ρ _ => quiet (F := Ideal) m ρ

theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_referenceIdeal_finite : Cert.quiescent_ReferenceIdeal_pre_finite_ReferenceIdeal := fun m ρ _ =>
  frame_referenceIdeal m ρ trivial

/-- The mask literal is the named one. -/
theorem preserved : Cert.preserves_Kernel_KernelIdeal :=
  IdealRules.named_const.statement Cert.KernelIdeal.κ "mask" .f32 0xC61C4000#32 ⊥ rfl

end Cert.AllReduce

end
-- ==== Proof.Soft.lean ====
/-
# Weights over the reals

The weighted mean with exponential weights, with some of the weights masked out, and its invariance under a shift of the
exponents. The extended reals meet the reals here.
-/
module

public import Idealize.ShloMosaic.Lib.IdealHost
public import Idealize.ShloMosaic.PureOps.Ideal.Laws

@[expose] public section

noncomputable section

namespace Cert.AllReduce

open Idealize.ShloMosaic
open scoped BigOperators

theorem up_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem up_dot {ι : Type} [Fintype ι] (f g : ι → ℝ) : (∑ i, (f i : EReal) * (g i : EReal)) = ((∑ i, f i * g i : ℝ) : EReal) := by
  rw [← up_sum]
  exact Finset.sum_congr rfl fun i _ => (EReal.coe_mul _ _).symm

theorem up_div (x y : ℝ) (hy : y ≠ 0) : Ideal.div (x : EReal) (y : EReal) = ((x / y : ℝ) : EReal) := by
  unfold Ideal.div
  rw [if_neg (fun h => hy (EReal.coe_eq_zero.mp h)), ← EReal.coe_inv, ← EReal.coe_mul, div_eq_mul_inv]

/-- A finite extended real is a real. -/
theorem up_of_abs {x : EReal} (h : max x (-x) < ⊤) : ∃ r : ℝ, x = (r : EReal) := by
  refine ⟨x.toReal, (EReal.coe_toReal ?_ ?_).symm⟩
  · rintro rfl
    exact absurd (lt_of_le_of_lt (le_max_left _ _) h) (lt_irrefl _)
  · rintro rfl
    exact absurd (lt_of_le_of_lt (le_max_right _ _) h) (by simp)

/-- The weight of an entry: its exponential, or nothing where it is masked. -/
def wt {n : ℕ} (c : Fin n → Prop) [DecidablePred c] (a : Fin n → ℝ) (j : Fin n) : ℝ := if c j then Real.exp (a j) else 0

theorem wt_nonneg {n : ℕ} (c : Fin n → Prop) [DecidablePred c] (a : Fin n → ℝ) (j : Fin n) : 0 ≤ wt c a j := by
  unfold wt
  split
  · exact (Real.exp_pos _).le
  · exact le_rfl

theorem wt_sum_pos {n : ℕ} (c : Fin n → Prop) [DecidablePred c] (a : Fin n → ℝ) (j : Fin n) (hj : c j) : 0 < ∑ k, wt c a k := by
  refine Finset.sum_pos' (fun k _ => wt_nonneg c a k) ⟨j, Finset.mem_univ _, ?_⟩
  unfold wt
  rw [if_pos hj]
  exact Real.exp_pos _

/-- The weighted mean, of entries that may be infinite. -/
def mean {n : ℕ} (c : Fin n → Prop) [DecidablePred c] (a : Fin n → ℝ) (v : Fin n → EReal) : EReal :=
  ∑ j, v j * ((wt c a j / ∑ k, wt c a k : ℝ) : EReal)

/-- A factor that is a real and not negative goes into a sum. -/
theorem sum_scale {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

/-- The weighted sum over the sum of the weights is the weighted mean. -/
theorem mean_of_sums {n : ℕ} (c : Fin n → Prop) [DecidablePred c] (a : Fin n → ℝ) (v : Fin n → EReal) (j : Fin n) (hj : c j) :
    Ideal.div (∑ k, (wt c a k : EReal) * v k) ((∑ k, wt c a k : ℝ) : EReal) = mean c a v := by
  have hp := wt_sum_pos c a j hj
  unfold Ideal.div mean
  rw [if_neg (fun h => hp.ne' (EReal.coe_eq_zero.mp h)), ← EReal.coe_inv, sum_scale _ _ _ (inv_nonneg.mpr hp.le)]
  refine Finset.sum_congr rfl fun k _ => ?_
  rw [div_eq_mul_inv, EReal.coe_mul, mul_comm (wt c a k : EReal), mul_assoc]

theorem wt_shift {n : ℕ} (c : Fin n → Prop) [DecidablePred c] (a : Fin n → ℝ) (M : ℝ) (j : Fin n) :
    wt c (fun k => a k - M) j = wt c a j * Real.exp (-M) := by
  unfold wt
  split
  · show Real.exp (a j - M) = _
    rw [sub_eq_add_neg, Real.exp_add]
  · rw [zero_mul]

/-- Shifting every exponent leaves the weighted mean. -/
theorem mean_shift {n : ℕ} (c : Fin n → Prop) [DecidablePred c] (a : Fin n → ℝ) (v : Fin n → EReal) (M : ℝ) :
    mean c (fun k => a k - M) v = mean c a v := by
  have hs : (∑ k, wt c (fun k => a k - M) k) = (∑ k, wt c a k) * Real.exp (-M) := by
    rw [Finset.sum_mul]
    exact Finset.sum_congr rfl fun k _ => wt_shift c a M k
  unfold mean
  rw [hs]
  refine Finset.sum_congr rfl fun j _ => ?_
  rw [wt_shift, mul_div_mul_right _ _ (Real.exp_pos _).ne']

/-- The mean over a prefix, when what follows is masked. -/
theorem mean_prefix {n k : ℕ} (c : Fin (n + k) → Prop) [DecidablePred c] (a : Fin (n + k) → ℝ) (v : Fin (n + k) → EReal) (h : ∀ j : Fin k, ¬ c (Fin.natAdd n j)) :
    mean (fun j : Fin n => c (Fin.castAdd k j)) (fun j => a (Fin.castAdd k j)) (fun j => v (Fin.castAdd k j)) = mean c a v := by
  have hz (j : Fin k) : wt c a (Fin.natAdd n j) = 0 := if_neg (h j)
  have hw : (∑ j, wt c a j) = ∑ j : Fin n, wt c a (Fin.castAdd k j) := by
    rw [Fin.sum_univ_add, Finset.sum_eq_zero (f := fun j : Fin k => wt c a (Fin.natAdd n j)) fun j _ => hz j, add_zero]
  unfold mean
  rw [Fin.sum_univ_add, hw, Finset.sum_eq_zero (f := fun j : Fin k => v (Fin.natAdd n j) * ((wt c a (Fin.natAdd n j) / _ : ℝ) : EReal)) fun j _ => by
    rw [hz, zero_div, EReal.coe_zero, mul_zero], add_zero]
  rfl

/-- The largest of the entries that are not masked is a real. -/
theorem top_real {n : ℕ} (c : Fin n → Prop) [DecidablePred c] (a : Fin n → ℝ) (j : Fin n) (hj : c j) :
    ∃ M : ℝ, (Finset.univ.fold max (⊥ : EReal) fun k => if c k then (a k : EReal) else ⊥) = (M : EReal) := by
  refine ⟨EReal.toReal _, (EReal.coe_toReal (ne_of_lt ?_) (ne_of_gt ?_)).symm⟩
  · rw [Finset.fold_max_lt]
    refine ⟨bot_lt_top, fun k _ => ?_⟩
    split
    · exact EReal.coe_lt_top _
    · exact bot_lt_top
  · show (⊥ : EReal) < _
    rw [Finset.lt_fold_max]
    refine Or.inr ⟨j, Finset.mem_univ _, ?_⟩
    rw [if_pos hj]
    exact EReal.bot_lt_coe _

theorem exp_masked {n : ℕ} (c : Fin n → Prop) [DecidablePred c] (a : Fin n → ℝ) (j : Fin n) :
    Ideal.exp (if c j then (a j : EReal) else ⊥) = (wt c a j : EReal) := by
  unfold wt
  split
  · rfl
  · rfl

theorem exp_masked_sub {n : ℕ} (c : Fin n → Prop) [DecidablePred c] (a : Fin n → ℝ) (M : ℝ) (j : Fin n) :
    Ideal.exp ((if c j then (a j : EReal) else ⊥) - (M : EReal)) = (wt c (fun k => a k - M) j : EReal) := by
  unfold wt
  split
  · rw [← EReal.coe_sub]; rfl
  · rw [EReal.bot_sub]; rfl

/-- A sum over a product of extents, cut. -/
theorem sum_cut {M : Type} [AddCommMonoid M] (a b : ℕ) (f : Fin (a * b) → M) :
    ∑ k, f k = ∑ i : Fin a, ∑ j : Fin b, f (finProdFinEquiv (i, j)) := by
  rw [← Equiv.sum_comp finProdFinEquiv, Fintype.sum_prod_type]

/-- The literal scale of the scores is a real. -/
theorem scale_real : ∃ s : ℝ, Ideal.ofBits .f32 0x3DB504F3#32 = (s : EReal) := by
  refine ⟨11863283 * (2 ^ 27)⁻¹, ?_⟩
  simp [Ideal.ofBits, Ideal.ieee]

theorem inf_top : Ideal.ofBits .f32 0x7F800000#32 = (⊤ : EReal) := by
  simp [Ideal.ofBits, Ideal.ieee]

theorem neg_inf_bot : Ideal.ofBits .f32 0xFF800000#32 = (⊥ : EReal) := by
  simp [Ideal.ofBits, Ideal.ieee]

end Cert.AllReduce

end
-- ==== Proof.Model.lean ====
/-
# What is computed, over the reals

Attention by blocks of 64 and its projections, as sums and means. Column `128 H + e` of the projections belongs
to head `H`.
-/
module

public import proofs.«01_k».proof.Proof.Soft

@[expose] public section

noncomputable section

namespace Cert.AllReduce

open scoped BigOperators

/-- Key `j` is seen from row `R` when its block of 64 does not come after the row's. -/
abbrev seen (R j : ℕ) : Prop := j / 64 ≤ R / 64

/-- Column `e` of head `H`. -/
def hcol (H e : Fin 128) : Fin 16384 := ⟨H.val * 128 + e.val, by omega⟩

theorem sum_cols {M : Type} [AddCommMonoid M] (f : Fin 16384 → M) : ∑ k, f k = ∑ H : Fin 128, ∑ e : Fin 128, f (hcol H e) := by
  refine (sum_cut 128 128 f).trans (Finset.sum_congr rfl fun H _ => Finset.sum_congr rfl fun e _ => congrArg f (Fin.ext ?_))
  show e.val + 128 * H.val = H.val * 128 + e.val
  omega

/-- The five arrays and the scale of the scores. Those that the exponents come from are real numbers. -/
structure Reals where
  x : Fin 2048 → Fin 1024 → ℝ
  wq : Fin 1024 → Fin 16384 → ℝ
  k : Fin 2048 → Fin 128 → Fin 128 → ℝ
  v : Fin 2048 → Fin 128 → Fin 128 → EReal
  wo : Fin 16384 → Fin 1024 → EReal
  s : ℝ

namespace Reals

variable (D : Reals)

def query (i : Fin 2048) (H e : Fin 128) : ℝ := ∑ a, D.x i a * D.wq a (hcol H e)

def score (i : Fin 2048) (H : Fin 128) (j : Fin 2048) : ℝ := (∑ e, D.query i H e * D.k j H e) * D.s

def att (i : Fin 2048) (H d : Fin 128) : EReal := mean (fun j : Fin 2048 => seen i.val j.val) (D.score i H) (fun j => D.v j H d)

def out (i : Fin 2048) (n : Fin 1024) : EReal := ∑ H : Fin 128, ∑ d : Fin 128, D.att i H d * D.wo (hcol H d) n

end Reals

end Cert.AllReduce

end
-- ==== Proof.Host.lean ====
/-
# The host's arrays

What each device's host operations before, between and after the calls compute from the arguments.
-/
module

public import proofs.«01_k».proof.Proof.Whole
public import proofs.«01_k».proof.Proof.Model
public import Idealize.ShloMosaic.Lib.Pointwise
public import Idealize.ShloMosaic.Lib.WordCmp

@[expose] public section

noncomputable section

namespace Cert.AllReduce

open Cert.KernelIdeal Cert.KernelIdeal.Gen
open Idealize.ShloMosaic Idealize.ShloMosaic.TcCoe
open Idealize.SL.Sem
open Idealize.ShloMosaic.StableHlo
open scoped BigOperators

variable {F : FTy → Type} [FloatOps F] [Named F]

/-- A device's first column of the projections, as a word: its number times 1024. -/
def start (c : Dev nD) : IVec S_ 32 :=
  select (cmpi .slt (muli (id (Host.remui (Host.divui (constantI S_ 32 (Dev.word c)) (constantI S_ 32 1#32)) (constantI S_ 32 16#32))) (constantI S_ 32 1024#32)) (constantI S_ 32 0#32))
    (addi (muli (id (Host.remui (Host.divui (constantI S_ 32 (Dev.word c)) (constantI S_ 32 1#32)) (constantI S_ 32 16#32))) (constantI S_ 32 1024#32)) (constantI S_ 32 16384#32))
    (muli (id (Host.remui (Host.divui (constantI S_ 32 (Dev.word c)) (constantI S_ 32 1#32)) (constantI S_ 32 16#32))) (constantI S_ 32 1024#32))

theorem start_val (c : Dev nD) : (start c (Shape.Idx.first h_S_)).toInt = 1024 * (c.val : Int) := by
  revert c; decide +kernel

/-- The columns of the query projection that are the device's, -/
def wqOf (a : FVec F S1024x16384 .f32) (c : Dev nD) : FVec F S1024x1024 .f32 :=
  Host.dynamicSlice S1024x1024 a (fun k => ((![constantI S_ 32 0#32, start c] : Fin 2 → IVec S_ 32) k (Shape.Idx.first h_S_)).toInt) sliceFits_S1024x16384_S1024x1024

/-- and the rows of the output projection. -/
def woOf (a : FVec F S16384x1024 .f32) (c : Dev nD) : FVec F S1024x1024 .f32 :=
  Host.dynamicSlice S1024x1024 a (fun k => ((![start c, constantI S_ 32 0#32] : Fin 2 → IVec S_ 32) k (Shape.Idx.first h_S_)).toInt) sliceFits_S16384x1024_S1024x1024

/-- The scaled queries. -/
def qOf (x : FVec F S1x2048x1024 .f32) (a : FVec F S1024x16384 .f32) (c : Dev nD) : FVec F S2048x1024 .bf16 :=
  truncf .bf16 (mulf (Host.dotGeneral dot_S2048x1024_S1024x1024_S2048x1024_1_0_0_1_n_n none
      (truncf .bf16 (shapeCast _ x shapeCasts_S1x2048x1024_S2048x1024 : FVec F S2048x1024 .f32) bitsLt_bf16_f32) (truncf .bf16 (wqOf a c) bitsLt_bf16_f32))
    (broadcastInDim S2048x1024 ![] bcast_S_S2048x1024 (constant S_ .f32 0x3DB504F3#32))) bitsLt_bf16_f32

/-- The device's keys, or its values, a head after the other along the columns. -/
def kvOf (x : FVec F S1x2048x8x128 .f32) : FVec F S2048x1024 .bf16 :=
  truncf .bf16 (shapeCast _ (shapeCast _ x shapeCasts_S1x2048x8x128_S2048x8x128 : FVec F S2048x8x128 .f32) shapeCasts_S2048x8x128_S2048x1024) bitsLt_bf16_f32

variable (m : (ℓ : Loc nD τ sig) → Buf (Elt F) ℓ) (c : Dev nD)

theorem first_v11 : W1 m c main_v11 = wqOf (m ((c : Thread nD τ).loc main_arg1)) c := by
  show StableHlo.after (hostOps0 c) (V0 m c) (Proc.devRef .tc main_v11) = _
  unfold wqOf start
  after_results
  refine congrArg (fun f => Host.dynamicSlice S1024x1024 (m ((c : Thread nD τ).loc main_arg1)) f sliceFits_S1024x16384_S1024x1024)
    (funext (Fin.forall_fin_two.mpr ⟨congrArg (fun x : IVec S_ 32 => (x (Shape.Idx.first h_S_)).toInt) ?_, congrArg (fun x : IVec S_ 32 => (x (Shape.Idx.first h_S_)).toInt) ?_⟩))
  · dsimp only [Matrix.cons_val_zero, Matrix.cons_val_one, cast_eq]
    simp only [↓ StableHlo.readResult]
    rfl
  · dsimp only [Matrix.cons_val_zero, Matrix.cons_val_one, cast_eq]
    simp only [↓ StableHlo.readResult]
    rfl

theorem first_v17 : W1 m c main_v17 = woOf (m ((c : Thread nD τ).loc main_arg4)) c := by
  show StableHlo.after (hostOps0 c) (V0 m c) (Proc.devRef .tc main_v17) = _
  unfold woOf start
  after_results
  refine congrArg (fun f => Host.dynamicSlice S1024x1024 (m ((c : Thread nD τ).loc main_arg4)) f sliceFits_S16384x1024_S1024x1024)
    (funext (Fin.forall_fin_two.mpr ⟨congrArg (fun x : IVec S_ 32 => (x (Shape.Idx.first h_S_)).toInt) ?_, congrArg (fun x : IVec S_ 32 => (x (Shape.Idx.first h_S_)).toInt) ?_⟩))
  · dsimp only [Matrix.cons_val_zero, Matrix.cons_val_one, cast_eq]
    simp only [↓ StableHlo.readResult]
    rfl
  · dsimp only [Matrix.cons_val_zero, Matrix.cons_val_one, cast_eq]
    simp only [↓ StableHlo.readResult]
    rfl

set_option maxRecDepth 8192 in
theorem first_v28 : W1 m c main_v28 = qOf (m ((c : Thread nD τ).loc main_arg0)) (m ((c : Thread nD τ).loc main_arg1)) c := by
  unfold qOf
  rw [← first_v11]
  show StableHlo.after (hostOps0 c) (V0 m c) (Proc.devRef .tc main_v28) = truncf .bf16 (mulf (Host.dotGeneral dot_S2048x1024_S1024x1024_S2048x1024_1_0_0_1_n_n none
      _ (truncf .bf16 (StableHlo.after (hostOps0 c) (V0 m c) (Proc.devRef .tc main_v11)) bitsLt_bf16_f32)) _) bitsLt_bf16_f32
  after_results
  rfl

set_option maxRecDepth 8192 in
theorem first_v29 : W1 m c main_v29 = extractStridedSlice S1024x1024 ![0, 0] (W1 m c main_v28) slices_S2048x1024_S1024x1024_0_0 := by
  show StableHlo.after (hostOps0 c) (V0 m c) (Proc.devRef .tc main_v29)
    = extractStridedSlice S1024x1024 ![0, 0] (StableHlo.after (hostOps0 c) (V0 m c) (Proc.devRef .tc main_v28)) slices_S2048x1024_S1024x1024_0_0
  after_results

set_option maxRecDepth 8192 in
set_option maxHeartbeats 4000000 in
theorem first_v21 : W1 m c main_v21 = kvOf (m ((c : Thread nD τ).loc main_arg2)) := by
  show StableHlo.after (hostOps0 c) (V0 m c) (Proc.devRef .tc main_v21) = _
  unfold kvOf
  after_results
  rfl

set_option maxRecDepth 8192 in
set_option maxHeartbeats 4000000 in
theorem first_v24 : W1 m c main_v24 = kvOf (m ((c : Thread nD τ).loc main_arg3)) := by
  show StableHlo.after (hostOps0 c) (V0 m c) (Proc.devRef .tc main_v24) = _
  unfold kvOf
  after_results
  rfl

set_option maxRecDepth 8192 in
theorem first_v18 : W1 m c main_v18 = truncf .bf16 (woOf (m ((c : Thread nD τ).loc main_arg4)) c) bitsLt_bf16_f32 := by
  rw [← first_v17]
  show StableHlo.after (hostOps0 c) (V0 m c) (Proc.devRef .tc main_v18)
    = truncf .bf16 (StableHlo.after (hostOps0 c) (V0 m c) (Proc.devRef .tc main_v17)) bitsLt_bf16_f32
  after_results

/-! ## Between the calls -/

theorem second_v31 : W3 m c main_v31 = extractStridedSlice S1024x1024 ![1024, 0] (W1 m c main_v28) slices_S2048x1024_S1024x1024_1024_0 := by
  have e : W2 m c main_v28 = W1 m c main_v28 := W2_of m c main_v28 (by decide)
  rw [← e]
  show StableHlo.after hostOps1 (W2 m c) (Proc.devRef .tc main_v31) = _
  after_results

theorem second_of (r : Ref sig .tc) (h : r ∉ [main_v30, main_v31]) : W3 m c r = W1 m c r := by
  simp only [List.mem_cons, List.not_mem_nil, or_false, not_or] at h
  rw [W3_of m c r (by simp [hostOps1_W, h.2]), W2_of m c r (by simp [h.1])]

theorem third_v30 : W4 m c main_v30 = o30 (W1 m) c := by
  rw [W4_of m c main_v30 (by decide), W3_of m c main_v30 (by decide)]
  exact Function.update_self (Proc.devRef .tc main_v30) (o30 (W1 m) c) (W1 m c)

theorem third_v32 : W4 m c main_v32 = o32 (W3 m) c := by
  unfold W4
  exact Function.update_self (Proc.devRef .tc main_v32) (o32 (W3 m) c) (W3 m c)

theorem third_v18 : W4 m c main_v18 = W1 m c main_v18 := by
  rw [W4_of m c main_v18 (by decide), second_of m c main_v18 (by decide)]

theorem third_v33 : W5 m c main_v33 = Host.dotGeneral dot_S1024x1024_S1024x1024_S1024x1024_1_0_0_1_n_n none (o30 (W1 m) c) (W1 m c main_v18) := by
  rw [← third_v30, ← third_v18]
  show StableHlo.after hostOps2 (W4 m c) (Proc.devRef .tc main_v33) = _
  after_results

theorem third_v34 : W5 m c main_v34 = Host.dotGeneral dot_S1024x1024_S1024x1024_S1024x1024_1_0_0_1_n_n none (o32 (W3 m) c) (W1 m c main_v18) := by
  rw [← third_v32, ← third_v18]
  show StableHlo.after hostOps2 (W4 m c) (Proc.devRef .tc main_v34) = _
  after_results

theorem last_v36 : W7 m c main_v36 = broadcastInDim S1x2048x1024 ![1, 2] bcast_S2048x1024_S1x2048x1024_1_2 (o35 (W5 m) c) := by
  have e : W6 m c main_v35 = o35 (W5 m) c := by
    unfold W6
    exact Function.update_self (Proc.devRef .tc main_v35) (o35 (W5 m) c) (W5 m c)
  rw [← e]
  show StableHlo.after hostOps3 (W6 m c) (Proc.devRef .tc main_v36) = _
  after_results

/-! ## At an index -/

theorem wqOf_apply (a : FVec F S1024x16384 .f32) (c : Dev nD) (i n : Fin 1024) : wqOf a c (ix2 i n) = a (ix2 i ⟨1024 * c.val + n.val, by have : c.val < 16 := c.isLt; omega⟩) := by
  have hc : c.val < 16 := c.isLt
  have hs : S1024x16384.Slices ![0, 1024 * c.val] S1024x1024 := ⟨rfl, Fin.forall_fin_two.mpr ⟨by show 0 + 1024 ≤ 1024; omega, by show 1024 * c.val + 1024 ≤ 16384; omega⟩⟩
  have e : wqOf a c = extractStridedSlice S1024x1024 ![0, 1024 * c.val] a hs := by
    unfold wqOf
    refine WordCmp.dynamicSlice_eq_extract (s := S1024x16384) S1024x1024 a _ _ ![0, 1024 * c.val] hs (Fin.forall_fin_two.mpr ⟨?_, ?_⟩)
    · rfl
    · exact start_val c
  rw [e]
  pointwise
  all_goals congr 1

theorem woOf_apply (a : FVec F S16384x1024 .f32) (c : Dev nD) (i n : Fin 1024) : woOf a c (ix2 i n) = a (ix2 ⟨1024 * c.val + i.val, by have : c.val < 16 := c.isLt; omega⟩ n) := by
  have hc : c.val < 16 := c.isLt
  have hs : S16384x1024.Slices ![1024 * c.val, 0] S1024x1024 := ⟨rfl, Fin.forall_fin_two.mpr ⟨by show 1024 * c.val + 1024 ≤ 16384; omega, by show 0 + 1024 ≤ 1024; omega⟩⟩
  have e : woOf a c = extractStridedSlice S1024x1024 ![1024 * c.val, 0] a hs := by
    unfold woOf
    refine WordCmp.dynamicSlice_eq_extract (s := S16384x1024) S1024x1024 a _ _ ![1024 * c.val, 0] hs (Fin.forall_fin_two.mpr ⟨?_, ?_⟩)
    · exact start_val c
    · rfl
  rw [e]
  pointwise
  all_goals congr 1

theorem kvOf_apply (x : FVec Ideal S1x2048x8x128 .f32) (j : Fin 2048) (n : Fin 1024) :
    kvOf x (ix2 j n) = x (ix4 0 j ⟨n.val / 128, by omega⟩ ⟨n.val % 128, by omega⟩) := by
  pointwise [kvOf]

theorem qOf_apply (D : Reals) (x : FVec Ideal S1x2048x1024 .f32) (a : FVec Ideal S1024x16384 .f32) (hx : ∀ i k, x (ix3 0 i k) = (D.x i k : EReal))
    (ha : ∀ k n, a (ix2 k n) = (D.wq k n : EReal)) (hs : Ideal.ofBits .f32 0x3DB504F3#32 = (D.s : EReal)) (c : Dev nD) (i : Fin 2048) (n : Fin 1024) :
    qOf x a c (ix2 i n) = (((∑ k, D.x i k * D.wq k ⟨1024 * c.val + n.val, by have : c.val < 16 := c.isLt; omega⟩) * D.s : ℝ) : EReal) := by
  pointwise [qOf, dot_S2048x1024_S1024x1024_S2048x1024_1_0_0_1_n_n]
  simp only [wqOf_apply, hx, ha, up_dot, hs]
  rw [← EReal.coe_mul]

end Cert.AllReduce

end
-- ==== Proof.Tile.lean ====
/-
# A tile over the reals
-/
module

public import proofs.«01_k».proof.Proof.Attn
public import proofs.«01_k».proof.Proof.Model
public import Idealize.ShloMosaic.Lib.Pointwise
public import Idealize.ShloMosaic.Lib.WordCmp

@[expose] public section

noncomputable section

namespace Cert.AllReduce

open Cert.KernelIdeal Cert.KernelIdeal.Gen
open Idealize.ShloMosaic
open scoped BigOperators

/-- The word a tile compares the key's number with, in the first call -/
theorem limit0 (t : Fin 4) (r : Fin 256) :
    IntOp.addi (IntOp.subi (IntOp.addi (BitVec.ofNat 32 r.val) (Scalar.muli (Scalar.addi (BitVec.ofNat 32 t.val) 0#32) 256#32))
      (IntOp.remsi .vector (IntOp.addi (BitVec.ofNat 32 r.val) (Scalar.muli (Scalar.addi (BitVec.ofNat 32 t.val) 0#32) 256#32)) 64#32)) 64#32
      = BitVec.ofNat 32 (64 * ((256 * t.val + r.val) / 64) + 64) := by
  revert t r; decide +kernel

/-- and in the second, whose rows start at 1024. -/
theorem limit1 (t : Fin 4) (r : Fin 256) :
    IntOp.addi (IntOp.subi (IntOp.addi (BitVec.ofNat 32 r.val) (Scalar.muli (Scalar.addi (BitVec.ofNat 32 t.val) 4#32) 256#32))
      (IntOp.remsi .vector (IntOp.addi (BitVec.ofNat 32 r.val) (Scalar.muli (Scalar.addi (BitVec.ofNat 32 t.val) 4#32) 256#32)) 64#32)) 64#32
      = BitVec.ofNat 32 (64 * ((1024 + (256 * t.val + r.val)) / 64) + 64) := by
  revert t r; decide +kernel

theorem select_seen (R j : ℕ) (hR : R < 4096) (hj : j < 4096) (A : EReal) :
    Scalar.select (IntOp.cmpi .slt (BitVec.ofNat 32 j) (BitVec.ofNat 32 (64 * (R / 64) + 64))) A ⊥ = if seen R j then A else ⊥ := by
  rw [WordCmp.cmpi_slt_ofNat (by omega) (by omega), WordCmp.select_ofBool]
  refine if_congr ?_ rfl rfl
  rw [decide_eq_true_iff]
  unfold seen
  omega

theorem mask_bot : (Named.named κ "mask" 0xC61C4000#32 : Ideal .f32) = (⊥ : EReal) := rfl

theorem tile0 (i : grid0.Coords) (q : FVec Ideal S256x128 .bf16) (k v : FVec Ideal S1024x128 .bf16) (q' : Fin 256 → Fin 128 → ℝ)
    (k' : Fin 1024 → Fin 128 → ℝ) (v' : Fin 1024 → Fin 128 → EReal) (hq : ∀ r e, q (ix2 r e) = (q' r e : EReal)) (hk : ∀ j e, k (ix2 j e) = (k' j e : EReal))
    (hv : ∀ j e, v (ix2 j e) = v' j e) (t : Fin 4) (ht : (i 1).val = t.val) (r : Fin 256) (d : Fin 128) :
    k0_pay1 (F := Ideal) i q k v (ix2 r d)
      = mean (fun j : Fin 1024 => seen (256 * t.val + r.val) j.val) (fun j => ∑ e, q' r e * k' j e) (fun j => v' j d) := by
  pointwise [k0_pay1, dot_S256x128_S1024x128_S256x1024_1_1_0_0_n_n, dot_S256x1024_S1024x128_S256x128_1_0_0_1_n_n]
  have hR : 256 * t.val + r.val < 4096 := by omega
  have hs (x : Fin 1024) := select_seen (256 * t.val + r.val) x.val hR (by omega)
  have he (x : Fin 1024) : Ideal.exp (if seen (256 * t.val + r.val) x.val then ((∑ e, q' r e * k' x e : ℝ) : EReal) else ⊥)
      = ((wt (fun j : Fin 1024 => seen (256 * t.val + r.val) j.val) (fun j => ∑ e, q' r e * k' j e) x : ℝ) : EReal) :=
    exp_masked (fun j : Fin 1024 => seen (256 * t.val + r.val) j.val) (fun j => ∑ e, q' r e * k' j e) x
  simp only [ht, limit0, mask_bot, hs, hq, hk, hv, up_dot, he, up_sum]
  exact mean_of_sums _ _ _ (0 : Fin 1024) (by simp [seen])

theorem tile1 (i : grid1.Coords) (q : FVec Ideal S256x128 .bf16) (k v : FVec Ideal S2048x128 .bf16) (q' : Fin 256 → Fin 128 → ℝ)
    (k' : Fin 2048 → Fin 128 → ℝ) (v' : Fin 2048 → Fin 128 → EReal) (hq : ∀ r e, q (ix2 r e) = (q' r e : EReal)) (hk : ∀ j e, k (ix2 j e) = (k' j e : EReal))
    (hv : ∀ j e, v (ix2 j e) = v' j e) (t : Fin 4) (ht : (i 1).val = t.val) (r : Fin 256) (d : Fin 128) :
    k1_pay1 (F := Ideal) i q k v (ix2 r d)
      = mean (fun j : Fin 2048 => seen (1024 + (256 * t.val + r.val)) j.val) (fun j => ∑ e, q' r e * k' j e) (fun j => v' j d) := by
  pointwise [k1_pay1, dot_S256x128_S2048x128_S256x2048_1_1_0_0_n_n, dot_S256x2048_S2048x128_S256x128_1_0_0_1_n_n]
  have hR : 1024 + (256 * t.val + r.val) < 4096 := by omega
  have hs (x : Fin 2048) := select_seen (1024 + (256 * t.val + r.val)) x.val hR (by omega)
  have he (x : Fin 2048) : Ideal.exp (if seen (1024 + (256 * t.val + r.val)) x.val then ((∑ e, q' r e * k' x e : ℝ) : EReal) else ⊥)
      = ((wt (fun j : Fin 2048 => seen (1024 + (256 * t.val + r.val)) j.val) (fun j => ∑ e, q' r e * k' j e) x : ℝ) : EReal) :=
    exp_masked (fun j : Fin 2048 => seen (1024 + (256 * t.val + r.val)) j.val) (fun j => ∑ e, q' r e * k' j e) x
  simp only [ht, limit1, mask_bot, hs, hq, hk, hv, up_dot, he, up_sum]
  exact mean_of_sums _ _ _ (0 : Fin 2048) (by simp [seen])

end Cert.AllReduce

end
-- ==== Proof.Cover.lean ====
/-
# The attention calls' arrays, over the reals

The tiles of either call cover its result: entry `(i, n)` is the mean over the keys row `i` sees, weighted by the scores of the
head that column `n` belongs to.
-/
module

public import proofs.«01_k».proof.Proof.Whole
public import proofs.«01_k».proof.Proof.Tile
public import Idealize.ShloMosaic.Lib.Pipeline.ValueKit.Geometry

@[expose] public section

noncomputable section

namespace Cert.AllReduce

open Cert.KernelIdeal Cert.KernelIdeal.Gen
open Idealize.ShloMosaic Idealize.ShloMosaic.TcCoe
open Idealize.SL.Sem
open scoped BigOperators

/-- Column `e` of the head that column `n` of a device's eight belongs to. -/
def peer (n : Fin 1024) (e : Fin 128) : Fin 1024 := ⟨128 * (n.val / 128) + e.val, by omega⟩

/-- What row `i`, numbered `R`, and column `n` of a call's result hold, over the first `N` keys. -/
def ctx (N : ℕ) (hN : N ≤ 2048) (q : Fin 1024 → Fin 1024 → ℝ) (k : Fin 2048 → Fin 1024 → ℝ) (v : Fin 2048 → Fin 1024 → EReal) (R : ℕ) (i n : Fin 1024) : EReal :=
  mean (fun j : Fin N => seen R j.val) (fun j => ∑ e, q i (peer n e) * k (j.castLE hN) (peer n e)) (fun j => v (j.castLE hN) n)

theorem peer_of (h : Fin 8) (d e : Fin 128) : peer ⟨128 * h.val + d.val, by omega⟩ e = ⟨128 * h.val + e.val, by omega⟩ :=
  Fin.ext (by
    have hd : (128 * h.val + d.val) / 128 = h.val := by omega
    show 128 * ((128 * h.val + d.val) / 128) + e.val = _
    rw [hd])

variable (V : Dev nD → Valuation τ sig (Elt Ideal)) (c : Dev nD)

/-! ## The first call -/

theorem at0_0 : ∀ t : Fin cfg0.N, win0_0.index t = ![(grid0.coords t 1).val, (grid0.coords t 0).val] := by decide +kernel
theorem at0_1 : ∀ t : Fin cfg0.N, win0_1.index t = ![0, (grid0.coords t 0).val] := by decide +kernel
theorem at0_2 : ∀ t : Fin cfg0.N, win0_2.index t = ![0, (grid0.coords t 0).val] := by decide +kernel
theorem at0_3 : ∀ t : Fin cfg0.N, win0_3.index t = ![(grid0.coords t 1).val, (grid0.coords t 0).val] := by decide +kernel

theorem q0_apply (t : Fin cfg0.N) (h : Fin 8) (hh : (grid0.coords t 0).val = h.val) (T : Fin 4) (hT : (grid0.coords t 1).val = T.val) (r : Fin 256) (e : Fin 128) :
    q0 V c t (ix2 r e) = V c main_v29 (ix2 ⟨256 * T.val + r.val, by omega⟩ ⟨128 * h.val + e.val, by omega⟩) := by
  unfold q0
  blk_simp
  blk_ext [at0_0, hh, hT]

theorem k0_apply (t : Fin cfg0.N) (h : Fin 8) (hh : (grid0.coords t 0).val = h.val) (j : Fin 1024) (e : Fin 128) :
    k0 V c t (ix2 j e) = V c main_v21 (ix2 ⟨j.val, by omega⟩ ⟨128 * h.val + e.val, by omega⟩) := by
  unfold k0
  blk_simp
  blk_ext [at0_1, hh]

theorem v0_apply (t : Fin cfg0.N) (h : Fin 8) (hh : (grid0.coords t 0).val = h.val) (j : Fin 1024) (e : Fin 128) :
    v0 V c t (ix2 j e) = V c main_v24 (ix2 ⟨j.val, by omega⟩ ⟨128 * h.val + e.val, by omega⟩) := by
  unfold v0
  blk_simp
  blk_ext [at0_2, hh]

theorem left0 (t : Fin cfg0.N) : (dat0 V c).after (3 : Fin 4) t = k0_pay1 (F := Ideal) (grid0.coords t) (q0 V c t) (k0 V c t) (v0 V c t) := rfl

theorem tile0_at (q : Fin 1024 → Fin 1024 → ℝ) (k : Fin 2048 → Fin 1024 → ℝ) (v : Fin 2048 → Fin 1024 → EReal) (hq : ∀ i n, V c main_v29 (ix2 i n) = (q i n : EReal))
    (hk : ∀ j n, V c main_v21 (ix2 j n) = (k j n : EReal)) (hv : ∀ j n, V c main_v24 (ix2 j n) = v j n) (t : Fin cfg0.N) (h : Fin 8)
    (hh : (grid0.coords t 0).val = h.val) (T : Fin 4) (hT : (grid0.coords t 1).val = T.val) (r : Fin 256) (d : Fin 128) :
    k0_pay1 (F := Ideal) (grid0.coords t) (q0 V c t) (k0 V c t) (v0 V c t) (ix2 r d)
      = (ctx 1024 (by omega) q k v (256 * T.val + r.val) ⟨256 * T.val + r.val, by omega⟩ ⟨128 * h.val + d.val, by omega⟩ : EReal) := by
  rw [tile0 (grid0.coords t) (q0 V c t) (k0 V c t) (v0 V c t) (fun r e => q ⟨256 * T.val + r.val, by omega⟩ ⟨128 * h.val + e.val, by omega⟩)
    (fun j e => k ⟨j.val, by omega⟩ ⟨128 * h.val + e.val, by omega⟩) (fun j e => v ⟨j.val, by omega⟩ ⟨128 * h.val + e.val, by omega⟩)
    (fun r e => (q0_apply V c t h hh T hT r e).trans (hq _ _)) (fun j e => (k0_apply V c t h hh j e).trans (hk _ _))
    (fun j e => (v0_apply V c t h hh j e).trans (hv _ _)) T hT r d]
  unfold ctx
  simp only [peer_of]
  rfl

theorem o30_apply (q : Fin 1024 → Fin 1024 → ℝ) (k : Fin 2048 → Fin 1024 → ℝ) (v : Fin 2048 → Fin 1024 → EReal) (hq : ∀ i n, V c main_v29 (ix2 i n) = (q i n : EReal))
    (hk : ∀ j n, V c main_v21 (ix2 j n) = (k j n : EReal)) (hv : ∀ j n, V c main_v24 (ix2 j n) = v j n) (i n : Fin 1024) :
    o30 V c (ix2 i n) = (ctx 1024 (by omega) q k v i.val i n : EReal) := by
  have H : o30 V c = fun x => (ctx 1024 (by omega) q k v (x 0).val (x 0) (x 1) : EReal) := by
    unfold o30
    refine (dat0 V c).arrAt_eq_of_covers (3 : Fin 4) _ (by decide +kernel) fun t hf y => ?_
    blk_simp
    have h0 : (grid0.coords t 0).val < 8 := (grid0.coords t 0).isLt
    have h1 : (grid0.coords t 1).val < 4 := (grid0.coords t 1).isLt
    have y0 : (y 0).val < 256 := (y 0).isLt
    have y1 : (y 1).val < 128 := (y 1).isLt
    have hy : y = ix2 (⟨(y 0).val, y0⟩ : Fin 256) (⟨(y 1).val, y1⟩ : Fin 128) := funext (Fin.forall_fin_two.mpr ⟨rfl, rfl⟩)
    have e : (win0_3.blk t).view.emb y = ix2 (⟨256 * (grid0.coords t 1).val + (y 0).val, by omega⟩ : Fin 1024) (⟨128 * (grid0.coords t 0).val + (y 1).val, by omega⟩ : Fin 1024) := by
      blk_ext [at0_3]
    have key := tile0_at V c q k v hq hk hv t ⟨_, h0⟩ rfl ⟨_, h1⟩ rfl ⟨_, y0⟩ ⟨_, y1⟩
    rw [← hy] at key
    have er : win0_3.index t 0 * 256 + (y 0).val = 256 * (grid0.coords t 1).val + (y 0).val := by
      rw [at0_3 t, Nat.mul_comm]
      rfl
    rw [e, er]
    exact (congrFun (left0 V c t) y).trans key
  rw [H]
  rfl

/-! ## The second -/

theorem at1_0 : ∀ t : Fin cfg1.N, win1_0.index t = ![(grid1.coords t 1).val, (grid1.coords t 0).val] := by decide +kernel
theorem at1_1 : ∀ t : Fin cfg1.N, win1_1.index t = ![0, (grid1.coords t 0).val] := by decide +kernel
theorem at1_2 : ∀ t : Fin cfg1.N, win1_2.index t = ![0, (grid1.coords t 0).val] := by decide +kernel
theorem at1_3 : ∀ t : Fin cfg1.N, win1_3.index t = ![(grid1.coords t 1).val, (grid1.coords t 0).val] := by decide +kernel

theorem q1_apply (t : Fin cfg1.N) (h : Fin 8) (hh : (grid1.coords t 0).val = h.val) (T : Fin 4) (hT : (grid1.coords t 1).val = T.val) (r : Fin 256) (e : Fin 128) :
    q1 V c t (ix2 r e) = V c main_v31 (ix2 ⟨256 * T.val + r.val, by omega⟩ ⟨128 * h.val + e.val, by omega⟩) := by
  unfold q1
  blk_simp
  blk_ext [at1_0, hh, hT]

theorem k1_apply (t : Fin cfg1.N) (h : Fin 8) (hh : (grid1.coords t 0).val = h.val) (j : Fin 2048) (e : Fin 128) :
    k1 V c t (ix2 j e) = V c main_v21 (ix2 j ⟨128 * h.val + e.val, by omega⟩) := by
  unfold k1
  blk_simp
  blk_ext [at1_1, hh]

theorem v1_apply (t : Fin cfg1.N) (h : Fin 8) (hh : (grid1.coords t 0).val = h.val) (j : Fin 2048) (e : Fin 128) :
    v1 V c t (ix2 j e) = V c main_v24 (ix2 j ⟨128 * h.val + e.val, by omega⟩) := by
  unfold v1
  blk_simp
  blk_ext [at1_2, hh]

theorem left1 (t : Fin cfg1.N) : (dat1 V c).after (3 : Fin 4) t = k1_pay1 (F := Ideal) (grid1.coords t) (q1 V c t) (k1 V c t) (v1 V c t) := rfl

theorem tile1_at (q : Fin 1024 → Fin 1024 → ℝ) (k : Fin 2048 → Fin 1024 → ℝ) (v : Fin 2048 → Fin 1024 → EReal) (hq : ∀ i n, V c main_v31 (ix2 i n) = (q i n : EReal))
    (hk : ∀ j n, V c main_v21 (ix2 j n) = (k j n : EReal)) (hv : ∀ j n, V c main_v24 (ix2 j n) = v j n) (t : Fin cfg1.N) (h : Fin 8)
    (hh : (grid1.coords t 0).val = h.val) (T : Fin 4) (hT : (grid1.coords t 1).val = T.val) (r : Fin 256) (d : Fin 128) :
    k1_pay1 (F := Ideal) (grid1.coords t) (q1 V c t) (k1 V c t) (v1 V c t) (ix2 r d)
      = (ctx 2048 (by omega) q k v (1024 + (256 * T.val + r.val)) ⟨256 * T.val + r.val, by omega⟩ ⟨128 * h.val + d.val, by omega⟩ : EReal) := by
  rw [tile1 (grid1.coords t) (q1 V c t) (k1 V c t) (v1 V c t) (fun r e => q ⟨256 * T.val + r.val, by omega⟩ ⟨128 * h.val + e.val, by omega⟩)
    (fun j e => k j ⟨128 * h.val + e.val, by omega⟩) (fun j e => v j ⟨128 * h.val + e.val, by omega⟩)
    (fun r e => (q1_apply V c t h hh T hT r e).trans (hq _ _)) (fun j e => (k1_apply V c t h hh j e).trans (hk _ _))
    (fun j e => (v1_apply V c t h hh j e).trans (hv _ _)) T hT r d]
  unfold ctx
  simp only [peer_of]
  rfl

theorem o32_apply (q : Fin 1024 → Fin 1024 → ℝ) (k : Fin 2048 → Fin 1024 → ℝ) (v : Fin 2048 → Fin 1024 → EReal) (hq : ∀ i n, V c main_v31 (ix2 i n) = (q i n : EReal))
    (hk : ∀ j n, V c main_v21 (ix2 j n) = (k j n : EReal)) (hv : ∀ j n, V c main_v24 (ix2 j n) = v j n) (i n : Fin 1024) :
    o32 V c (ix2 i n) = (ctx 2048 (by omega) q k v (1024 + i.val) i n : EReal) := by
  have H : o32 V c = fun x => (ctx 2048 (by omega) q k v (1024 + (x 0).val) (x 0) (x 1) : EReal) := by
    unfold o32
    refine (dat1 V c).arrAt_eq_of_covers (3 : Fin 4) _ (by decide +kernel) fun t hf y => ?_
    blk_simp
    have h0 : (grid1.coords t 0).val < 8 := (grid1.coords t 0).isLt
    have h1 : (grid1.coords t 1).val < 4 := (grid1.coords t 1).isLt
    have y0 : (y 0).val < 256 := (y 0).isLt
    have y1 : (y 1).val < 128 := (y 1).isLt
    have hy : y = ix2 (⟨(y 0).val, y0⟩ : Fin 256) (⟨(y 1).val, y1⟩ : Fin 128) := funext (Fin.forall_fin_two.mpr ⟨rfl, rfl⟩)
    have e : (win1_3.blk t).view.emb y = ix2 (⟨256 * (grid1.coords t 1).val + (y 0).val, by omega⟩ : Fin 1024) (⟨128 * (grid1.coords t 0).val + (y 1).val, by omega⟩ : Fin 1024) := by
      blk_ext [at1_3]
    have key := tile1_at V c q k v hq hk hv t ⟨_, h0⟩ rfl ⟨_, h1⟩ rfl ⟨_, y0⟩ ⟨_, y1⟩
    rw [← hy] at key
    have er : win1_3.index t 0 * 256 + (y 0).val = 256 * (grid1.coords t 1).val + (y 0).val := by
      rw [at1_3 t, Nat.mul_comm]
      rfl
    rw [e, er]
    exact (congrFun (left1 V c t) y).trans key
  rw [H]
  rfl

end Cert.AllReduce

end
-- ==== Proof.Value.lean ====
/-
# What the exchange leaves, over the extended reals

With exact arithmetic the casts are the identity and every finished row is the sum over all sixteen devices.
-/
module

public import proofs.«01_k».proof.Proof.Whole
public import Idealize.ShloMosaic.Lib.IdealHost

@[expose] public section

noncomputable section

namespace Cert.AllReduce

open Cert.KernelIdeal Cert.KernelIdeal.Gen
open Idealize.ShloMosaic Idealize.ShloMosaic.TcCoe
open Idealize.SL.Sem

/-! ## The sum over the devices -/

/-- The devices whose partial results device `c` has added before step `k` of half `hf`. -/
def grp (hf : Fin 2) : Nat → Dev nD → List (Dev nD)
  | 0, c => [c]
  | k + 1, c => grp hf k c ++ grp hf k (P hf (Fin.ofNat 4 k) c)

theorem grp_all (hf : Fin 2) (c : Dev nD) : (grp hf 4 c).Perm (List.finRange 16) := by revert hf c; decide +kernel

/-- The value one device holds at an index, as an extended real. -/
abbrev at_ (X : Dev nD → SR.Idx → Ideal .f32) (i : SR.Idx) (d : Dev nD) : EReal := X d i

theorem A_sum (X : Dev nD → SR.Idx → Ideal .f32) (hf : Fin 2) (i : SR.Idx) : ∀ k : Nat, k ≤ 4 → ∀ c : Dev nD,
    i ∈ rowsU (act hf k c) (nu k) → A X hf k c i = ((grp hf k c).map (at_ X i)).sum
  | 0, _, c, _ => by
    show at_ X i c = at_ X i c + 0
    rw [add_zero]
  | k + 1, hk, c, hi => by
    have hk' : (Fin.ofNat 4 k) = (⟨k, by omega⟩ : Fin 4) := Fin.ext (Nat.mod_eq_of_lt (by omega))
    have h1 : i ∈ rowsU (act hf k c) (nu k) := by
      have := rows_union hf ⟨k, by omega⟩ c
      rw [this]; exact Finset.mem_union_left _ hi
    have h2 : i ∈ rowsU (act hf k (P hf (Fin.ofNat 4 k) c)) (nu k) := by
      have h := rows_union hf ⟨k, by omega⟩ (P hf ⟨k, by omega⟩ c)
      rw [hk', h]
      refine Finset.mem_union_right _ ?_
      rw [snd_P]; exact hi
    have e : A X hf (k + 1) c i = (A X hf k c i + A X hf k (P hf (Fin.ofNat 4 k) c) i : EReal) := if_pos hi
    rw [e, A_sum X hf i k (by omega) c h1, A_sum X hf i k (by omega) _ h2]
    show _ = ((grp hf k c ++ grp hf k (P hf (Fin.ofNat 4 k) c)).map (at_ X i)).sum
    rw [List.map_append, List.sum_append]

theorem A_all (X : Dev nD → SR.Idx → Ideal .f32) (hf : Fin 2) (i : SR.Idx) (c : Dev nD) (hi : i ∈ rowsU (act hf 4 c) 1) :
    A X hf 4 c i = ∑ d : Fin 16, at_ X i d := by
  rw [A_sum X hf i 4 le_rfl c hi, Fin.sum_univ_def]
  exact ((grp_all hf c).map _).sum_eq

theorem act_owner (hf : Fin 2) (u : Fin 32) : 16 * hf.val ≤ u.val → u.val < 16 * hf.val + 16 → act hf 4 (owner hf u.val) = u.val := by
  revert hf u; decide +kernel

theorem B_sum (X : Dev nD → SR.Idx → Ideal .f32) (hf : Fin 2) (c : Dev nD) (i : SR.Idx) (hi : i ∈ half hf) :
    B X hf 0 c i = ∑ d : Fin 16, at_ X i d := by
  by_cases h : i ∈ rowsU (act hf 4 c) 1
  · exact (if_neg fun hn => hn.2 h).trans (A_all X hf i c h)
  · have e : B X hf 0 c i = A X hf 4 (owner hf ((i 0).val / 64)) i := if_pos ⟨hi, h⟩
    rw [e]
    refine A_all X hf i _ ?_
    have hh := mem_rowsU.mp hi
    have hr : (i 0).val < 2048 := (i 0).isLt
    have ho := act_owner hf ⟨(i 0).val / 64, by omega⟩ (by show _ ≤ (i 0).val / 64; omega) (by show (i 0).val / 64 < _; omega)
    rw [mem_rowsU, ho]
    show 64 * ((i 0).val / 64) ≤ _ ∧ _ < 64 * ((i 0).val / 64 + 1)
    omega

theorem res_sum (V : Dev nD → Valuation τ sig (Elt Ideal)) (c : Dev nD) (i : SR.Idx) :
    res V c i = ∑ d : Fin 16, at_ (part V) i d := by
  unfold res both
  by_cases h : i ∈ half 0
  · rw [if_pos h]; exact B_sum _ 0 c i h
  · rw [if_neg h]
    refine B_sum _ 1 c i ?_
    have hu := Finset.mem_univ i
    rw [halves] at hu
    exact (Finset.mem_union.mp hu).resolve_left h

/-! ## The arrays of the launch -/

section Blocks

variable {F : FTy → Type} [FloatOps F] [Named F] (V : Dev nD → Valuation τ sig (Elt F))

theorem xin_eq (c : Dev nD) : xin V c = V c main_v33 :=
  Memref.read_access_unit_zero (Elt F) main_v33 (funext fun a => by fin_cases a <;> decide) (fun a => by fin_cases a <;> decide) _

theorem yin_eq (c : Dev nD) : yin V c = V c main_v34 :=
  Memref.read_access_unit_zero (Elt F) main_v34 (funext fun a => by fin_cases a <;> decide) (fun a => by fin_cases a <;> decide) _

theorem o35_eq (c : Dev nD) : o35 V c = res V c := by
  have h : (win2_2.blk (0 : Fin 1)).view.read (Elt F) (o35 V c) = res V c := by
    unfold o35
    rw [show cfg2.N = ((0 : Fin 1) : Fin cfg2.N).val + 1 from rfl, (dat2 V c).arrAt_succ (2 : Fin 3) (0 : Fin 1)]
    rw [show (cfg2.win (2 : Fin 3)).flush (0 : Fin 1) = true from by decide, if_pos rfl]
    exact View.read_write_univ _ _
  exact (Memref.read_access_unit_zero (Elt F) main_v35 (funext fun a => by fin_cases a <;> decide) (fun a => by fin_cases a <;> decide) _).symm.trans h

end Blocks

end Cert.AllReduce

end
-- ==== Proof.Final.lean ====
/-
# What the kernel leaves

Every device's result: the sum over the sixteen devices of what each one's eight heads contribute.
-/
module

public import proofs.«01_k».proof.Proof.Host
public import proofs.«01_k».proof.Proof.Cover
public import proofs.«01_k».proof.Proof.Value

@[expose] public section

noncomputable section

namespace Cert.AllReduce

open Cert.KernelIdeal Cert.KernelIdeal.Gen
open Idealize.ShloMosaic Idealize.ShloMosaic.TcCoe
open Idealize.SL.Sem
open scoped BigOperators

/-- The head of the whole problem that is head `h` of device `c`. -/
def head (c : Fin 16) (h : Fin 8) : Fin 128 := ⟨8 * c.val + h.val, by omega⟩

/-- The column of the whole problem that is column `n` of device `c`. -/
def wide (c : Fin 16) (n : Fin 1024) : Fin 16384 := ⟨1024 * c.val + n.val, by omega⟩

/-- The head of a device's column, -/
def hd (n : Fin 1024) : Fin 8 := ⟨n.val / 128, by omega⟩
/-- and where in the head it is. -/
def inn (n : Fin 1024) : Fin 128 := ⟨n.val % 128, by omega⟩

theorem wide_eq (c : Fin 16) (n : Fin 1024) : wide c n = hcol (head c (hd n)) (inn n) := Fin.ext (by
  show 1024 * c.val + n.val = (8 * c.val + n.val / 128) * 128 + n.val % 128
  omega)

theorem hd_peer (n : Fin 1024) (e : Fin 128) : hd (peer n e) = hd n := Fin.ext (by
  have h : (128 * (n.val / 128) + e.val) / 128 = n.val / 128 := by omega
  exact h)

theorem inn_peer (n : Fin 1024) (e : Fin 128) : inn (peer n e) = e := Fin.ext (by
  have h : (128 * (n.val / 128) + e.val) % 128 = e.val := by omega
  exact h)

/-- The sum over all heads and their columns, device by device. -/
theorem sum_devices (f : Fin 128 → Fin 128 → EReal) : ∑ c : Fin 16, ∑ n : Fin 1024, f (head c (hd n)) (inn n) = ∑ H : Fin 128, ∑ d : Fin 128, f H d := by
  rw [show (∑ H : Fin 128, ∑ d : Fin 128, f H d) = ∑ c : Fin 16, ∑ h : Fin 8, ∑ d : Fin 128, f (finProdFinEquiv (c, h)) d from
    sum_cut 16 8 fun H => ∑ d : Fin 128, f H d]
  refine Finset.sum_congr rfl fun c _ => ?_
  rw [show (∑ n : Fin 1024, f (head c (hd n)) (inn n)) = ∑ h : Fin 8, ∑ d : Fin 128, f (head c (hd (finProdFinEquiv (h, d)))) (inn (finProdFinEquiv (h, d))) from
    sum_cut 8 128 fun n => f (head c (hd n)) (inn n)]
  refine Finset.sum_congr rfl fun h _ => Finset.sum_congr rfl fun d _ => ?_
  have e1 : head c (hd (finProdFinEquiv (h, d))) = finProdFinEquiv (c, h) := Fin.ext (by
    show 8 * c.val + (d.val + 128 * h.val) / 128 = h.val + 8 * c.val
    omega)
  have e2 : inn (finProdFinEquiv (h, d)) = d := Fin.ext (by
    show (d.val + 128 * h.val) % 128 = d.val
    omega)
  rw [e1, e2]

/-! ## The attention of a device's heads -/

variable (D : Reals)

/-- A device's scaled queries, its keys and its values. -/
def ownQ (c : Fin 16) (i : Fin 2048) (n : Fin 1024) : ℝ := (∑ a, D.x i a * D.wq a (wide c n)) * D.s
def ownK (c : Fin 16) (j : Fin 2048) (n : Fin 1024) : ℝ := D.k j (head c (hd n)) (inn n)
def ownV (c : Fin 16) (j : Fin 2048) (n : Fin 1024) : EReal := D.v j (head c (hd n)) (inn n)

theorem scored (c : Fin 16) (i j : Fin 2048) (n : Fin 1024) : (∑ e, ownQ D c i (peer n e) * ownK D c j (peer n e)) = D.score i (head c (hd n)) j := by
  unfold Reals.score
  rw [Finset.sum_mul]
  refine Finset.sum_congr rfl fun e _ => ?_
  unfold ownQ ownK Reals.query
  rw [wide_eq, hd_peer, inn_peer]
  ring

theorem ctx_all (c : Fin 16) (i : Fin 2048) (r n : Fin 1024) (q : Fin 1024 → Fin 1024 → ℝ) (hq : ∀ n, q r n = ownQ D c i n) :
    ctx 2048 le_rfl q (ownK D c) (ownV D c) i.val r n = D.att i (head c (hd n)) (inn n) := by
  unfold ctx Reals.att
  have e : (fun j : Fin 2048 => ∑ e, q r (peer n e) * ownK D c (j.castLE le_rfl) (peer n e)) = D.score i (head c (hd n)) := funext fun j => by
    simp only [hq]
    exact scored D c i j n
  rw [e]
  rfl

/-- Rows below 1024 see no key from 1024 on. -/
theorem ctx_half (c : Fin 16) (i : Fin 2048) (hi : i.val < 1024) (r n : Fin 1024) (q : Fin 1024 → Fin 1024 → ℝ) (hN : 1024 ≤ 2048) :
    ctx 1024 hN q (ownK D c) (ownV D c) i.val r n = ctx 2048 le_rfl q (ownK D c) (ownV D c) i.val r n :=
  mean_prefix (n := 1024) (k := 1024) (fun j : Fin 2048 => seen i.val j.val) (fun j => ∑ e, q r (peer n e) * ownK D c j (peer n e)) (fun j => ownV D c j n)
    fun j => by
      show ¬ (1024 + j.val) / 64 ≤ i.val / 64
      omega

/-! ## A device's part of the sum -/

variable (m : (ℓ : Loc nD τ sig) → Buf (Elt Ideal) ℓ)

/-- The arguments hold these numbers. -/
structure Holds : Prop where
  x : ∀ (c : Dev nD) i a, (m ((c : Thread nD τ).loc main_arg0) : FVec Ideal S1x2048x1024 .f32) (ix3 0 i a) = (D.x i a : EReal)
  wq : ∀ (c : Dev nD) a n, (m ((c : Thread nD τ).loc main_arg1) : FVec Ideal S1024x16384 .f32) (ix2 a n) = (D.wq a n : EReal)
  k : ∀ (c : Dev nD) j h e, (m ((c : Thread nD τ).loc main_arg2) : FVec Ideal S1x2048x8x128 .f32) (ix4 0 j h e) = (D.k j (head c h) e : EReal)
  v : ∀ (c : Dev nD) j h e, (m ((c : Thread nD τ).loc main_arg3) : FVec Ideal S1x2048x8x128 .f32) (ix4 0 j h e) = D.v j (head c h) e
  wo : ∀ (c : Dev nD) a n, (m ((c : Thread nD τ).loc main_arg4) : FVec Ideal S16384x1024 .f32) (ix2 a n) = D.wo a n
  s : Ideal.ofBits .f32 0x3DB504F3#32 = (D.s : EReal)

variable {D m} (H : Holds D m) (c : Dev nD)

include H

theorem at_v28 (i : Fin 2048) (n : Fin 1024) : W1 m c main_v28 (ix2 i n) = (ownQ D c i n : EReal) := by
  rw [first_v28]
  exact qOf_apply D _ _ (H.x c) (H.wq c) H.s c i n

theorem at_v29 (i n : Fin 1024) : W1 m c main_v29 (ix2 i n) = (ownQ D c ⟨i.val, by omega⟩ n : EReal) := by
  rw [first_v29, ← at_v28 H]
  generalize W1 m c main_v28 = y
  pointwise

theorem at_v31 (i n : Fin 1024) : W3 m c main_v31 (ix2 i n) = (ownQ D c ⟨1024 + i.val, by omega⟩ n : EReal) := by
  rw [second_v31, ← at_v28 H]
  generalize W1 m c main_v28 = y
  pointwise

theorem at_v21 (j : Fin 2048) (n : Fin 1024) : W1 m c main_v21 (ix2 j n) = (ownK D c j n : EReal) := by
  rw [first_v21]
  exact (kvOf_apply _ j n).trans (H.k c j (hd n) (inn n))

theorem at_v24 (j : Fin 2048) (n : Fin 1024) : W1 m c main_v24 (ix2 j n) = ownV D c j n := by
  rw [first_v24]
  exact (kvOf_apply _ j n).trans (H.v c j (hd n) (inn n))

theorem at_v18 (r n : Fin 1024) : W1 m c main_v18 (ix2 r n) = D.wo (wide c r) n := by
  rw [first_v18]
  show woOf (F := Ideal) (m ((c : Thread nD τ).loc main_arg4)) c (ix2 r n) = _
  rw [woOf_apply]
  exact H.wo c (wide c r) n

theorem at_o30 (i n : Fin 1024) : o30 (W1 m) c (ix2 i n) = D.att ⟨i.val, by omega⟩ (head c (hd n)) (inn n) := by
  rw [o30_apply (W1 m) c (fun i n => ownQ D c ⟨i.val, by omega⟩ n) (ownK D c) (ownV D c) (at_v29 H c) (at_v21 H c) (at_v24 H c) i n]
  refine (ctx_half D c ⟨i.val, by omega⟩ i.isLt i n _ (by omega)).trans ?_
  exact ctx_all D c ⟨i.val, by omega⟩ i n _ fun _ => rfl

theorem at_o32 (i n : Fin 1024) : o32 (W3 m) c (ix2 i n) = D.att ⟨1024 + i.val, by omega⟩ (head c (hd n)) (inn n) := by
  rw [o32_apply (W3 m) c (fun i n => ownQ D c ⟨1024 + i.val, by omega⟩ n) (ownK D c) (ownV D c) (at_v31 H c)
    (fun j n => by rw [second_of m c main_v21 (by decide)]; exact at_v21 H c j n) (fun j n => by rw [second_of m c main_v24 (by decide)]; exact at_v24 H c j n) i n]
  exact ctx_all D c ⟨1024 + i.val, by omega⟩ i n _ fun _ => rfl

omit H in
theorem dot_read (a b : FVec Ideal S1024x1024 .bf16) (i n : Fin 1024) :
    Host.dotGeneral (F := Ideal) dot_S1024x1024_S1024x1024_S1024x1024_1_0_0_1_n_n none a b (ix2 i n) = ((∑ r : Fin 1024, a (ix2 i r) * b (ix2 r n)) : EReal) := by
  pointwise [dot_S1024x1024_S1024x1024_S1024x1024_1_0_0_1_n_n]

/-- What device `c` adds to row `i`. -/
def adds (D : Reals) (c : Fin 16) (i : Fin 2048) (n : Fin 1024) : EReal := ∑ r : Fin 1024, D.att i (head c (hd r)) (inn r) * D.wo (hcol (head c (hd r)) (inn r)) n

theorem at_v33 (i n : Fin 1024) : W5 m c main_v33 (ix2 i n) = adds D c ⟨i.val, by omega⟩ n := by
  rw [third_v33]
  refine (dot_read _ _ i n).trans ?_
  simp only [at_o30 H c, at_v18 H c, wide_eq]
  rfl

theorem at_v34 (i n : Fin 1024) : W5 m c main_v34 (ix2 i n) = adds D c ⟨1024 + i.val, by omega⟩ n := by
  rw [third_v34]
  refine (dot_read _ _ i n).trans ?_
  simp only [at_o32 H c, at_v18 H c, wide_eq]
  rfl

theorem at_part (i : Fin 2048) (n : Fin 1024) : part (W5 m) c (ix2 i n) = adds D c i n := by
  unfold part
  rw [xin_eq, yin_eq]
  have hi : i.val < 2048 := i.isLt
  have hn : n.val < 1024 := n.isLt
  by_cases h : i.val < 1024
  · have e : ix i.val n.val = ix2 (⟨i.val, h⟩ : Fin 1024) n := ix_eq _ _ _ (by show i.val % 1024 = i.val; omega) rfl
    have g : jn (W5 m c main_v33) (W5 m c main_v34) (ix2 i n) = W5 m c main_v33 (ix i.val n.val) := if_pos h
    rw [g, e]
    exact at_v33 H c ⟨i.val, h⟩ n
  · have e : ix i.val n.val = ix2 (⟨i.val - 1024, by omega⟩ : Fin 1024) n := ix_eq _ _ _ (by show i.val % 1024 = i.val - 1024; omega) rfl
    have g : jn (W5 m c main_v33) (W5 m c main_v34) (ix2 i n) = W5 m c main_v34 (ix i.val n.val) := if_neg h
    rw [g, e, at_v34 H]
    congr 1
    exact Fin.ext (by show 1024 + (i.val - 1024) = i.val; omega)

/-- Every device's result. -/
theorem at_v36 (i : Fin 2048) (n : Fin 1024) : W7 m c main_v36 (ix3 0 i n) = D.out i n := by
  have e : W7 m c main_v36 (ix3 0 i n) = o35 (W5 m) c (ix2 i n) := by
    rw [last_v36]
    generalize o35 (W5 m) c = y
    pointwise
  rw [e, o35_eq, res_sum]
  show (∑ d : Fin 16, (part (W5 m) d (ix2 i n) : EReal)) = _
  rw [Finset.sum_congr rfl fun d _ => at_part H d i n]
  exact sum_devices fun h d => D.att i h d * D.wo (hcol h d) n

end Cert.AllReduce

end
-- ==== Proof.Ref.lean ====
/-
# The reference at an index
-/
module

public import proofs.«01_k».proof.Proof.Model
public import proofs.«01_k».proof.Proof.Gen.ReferenceIdeal.Run
public import Idealize.ShloMosaic.Lib.Pointwise
public import Idealize.ShloMosaic.Lib.WordCmp

@[expose] public section

noncomputable section

namespace Cert.RefValue

open Cert.ReferenceIdeal Cert.ReferenceIdeal.Gen Cert.AllReduce
open Idealize.ShloMosaic Idealize.ShloMosaic.TcCoe
open scoped BigOperators

/-- The block of 64 each row or key lies in. -/
def blk64 : IVec S2048 32 :=
  select (andi (cmpi .ne (signi (iotaInDim S2048 32 0)) (broadcastInDim S2048 ![] bcast_S_S2048 (signi (id (constantI S_ 32 64#32)))))
    (cmpi .ne (Host.remsi (iotaInDim S2048 32 0) (broadcastInDim S2048 ![] bcast_S_S2048 (id (constantI S_ 32 64#32)))) (broadcastInDim S2048 ![] bcast_S_S2048 (constantI S_ 32 0#32))))
    (subi (Host.divsi (iotaInDim S2048 32 0) (broadcastInDim S2048 ![] bcast_S_S2048 (id (constantI S_ 32 64#32)))) (broadcastInDim S2048 ![] bcast_S_S2048 (constantI S_ 32 1#32)))
    (Host.divsi (iotaInDim S2048 32 0) (broadcastInDim S2048 ![] bcast_S_S2048 (id (constantI S_ 32 64#32))))

def mask : IVec S2048x2048 1 :=
  cmpi .sle (broadcastInDim S2048x2048 ![0, 1] bcast_S1x2048_S2048x2048_0_1 (broadcastInDim S1x2048 ![1] bcast_S2048_S1x2048_1 blk64))
    (broadcastInDim S2048x2048 ![0, 1] bcast_S2048x1_S2048x2048_0_1 (broadcastInDim S2048x1 ![0] bcast_S2048_S2048x1_0 blk64))

def keep : IVec S2048 1 := Host.reduce IntOp.ori mask (constantI S_ 1 0#1) reducesTo_S2048x2048_S2048_d1 h_S_

def queries (x : FVec Ideal S1x2048x1024 .f32) (wq : FVec Ideal S1024x16384 .f32) : FVec Ideal S1x2048x128x128 .f32 :=
  shapeCast _ (Host.dotGeneral dot_S1x2048x1024_S1024x16384_S1x2048x16384_2_0_01_1_n_n none x wq) shapeCasts_S1x2048x16384_S1x2048x128x128

def scores (q k : FVec Ideal S1x2048x128x128 .f32) : FVec Ideal S1x128x2048x2048 .f32 :=
  select (broadcastInDim S1x128x2048x2048 ![0, 1, 2, 3] bcast_S1x1x2048x2048_S1x128x2048x2048_0_1_2_3 (broadcastInDim S1x1x2048x2048 ![2, 3] bcast_S2048x2048_S1x1x2048x2048_2_3 mask))
    (mulf (Host.dotGeneral dot_S1x2048x128x128_S1x2048x128x128_S1x128x2048x2048_3_3_1_1_02_02 none q k) (broadcastInDim S1x128x2048x2048 ![] bcast_S_S1x128x2048x2048 (constant S_ .f32 0x3DB504F3#32)))
    (broadcastInDim S1x128x2048x2048 ![] bcast_S_S1x128x2048x2048 (id (constant S_ .f32 0xFF800000#32)))

def largest (s : FVec Ideal S1x128x2048x2048 .f32) : FVec Ideal S1x128x2048 .f32 :=
  Host.reduce FloatOps.maximumf s (constant S_ .f32 0xFF800000#32) reducesTo_S1x128x2048x2048_S1x128x2048_d3 h_S_

def weights (s : FVec Ideal S1x128x2048x2048 .f32) : FVec Ideal S1x128x2048x2048 .f32 :=
  Host.exp (subf s (broadcastInDim S1x128x2048x2048 ![0, 1, 2, 3] bcast_S1x128x2048x1_S1x128x2048x2048_0_1_2_3 (broadcastInDim S1x128x2048x1 ![0, 1, 2] bcast_S1x128x2048_S1x128x2048x1_0_1_2 (largest s))))

def sums (w : FVec Ideal S1x128x2048x2048 .f32) : FVec Ideal S1x128x2048 .f32 :=
  Host.reduceAdd w (constant S_ .f32 0x00000000#32) reducesTo_S1x128x2048x2048_S1x128x2048_d3 h_S_

/-- What each weight is divided by. -/
def divisors (w : FVec Ideal S1x128x2048x2048 .f32) : FVec Ideal S1x128x2048x1 .f32 :=
  select (broadcastInDim S1x128x2048x1 ![0, 1, 2, 3] bcast_S1x1x2048x1_S1x128x2048x1_0_1_2_3 (broadcastInDim S1x1x2048x1 ![2] bcast_S2048_S1x1x2048x1_2 keep))
    (broadcastInDim S1x128x2048x1 ![0, 1, 2] bcast_S1x128x2048_S1x128x2048x1_0_1_2 (sums w))
    (broadcastInDim S1x128x2048x1 ![] bcast_S_S1x128x2048x1 (id (constant S_ .f32 0x3F800000#32)))

def keptRows : IVec S1x128x2048x2048 1 :=
  broadcastInDim S1x128x2048x2048 ![0, 1, 2, 3] bcast_S1x1x2048x1_S1x128x2048x2048_0_1_2_3 (broadcastInDim S1x1x2048x1 ![2] bcast_S2048_S1x1x2048x1_2 keep)

def quotients (w : FVec Ideal S1x128x2048x2048 .f32) : FVec Ideal S1x128x2048x2048 .f32 :=
  Host.divf w (broadcastInDim S1x128x2048x2048 ![0, 1, 2, 3] bcast_S1x128x2048x1_S1x128x2048x2048_0_1_2_3 (divisors w))

def shares (w : FVec Ideal S1x128x2048x2048 .f32) : FVec Ideal S1x128x2048x2048 .f32 :=
  select keptRows (quotients w) (broadcastInDim S1x128x2048x2048 ![] bcast_S_S1x128x2048x2048 (id (constant S_ .f32 0x00000000#32)))

def context (v : FVec Ideal S1x2048x128x128 .f32) (w : FVec Ideal S1x128x2048x2048 .f32) : FVec Ideal S1x2048x16384 .f32 :=
  shapeCast _ (transpose S1x2048x128x128 [0, 3, 1, 2] (Host.dotGeneral dot_S1x2048x128x128_S1x128x2048x2048_S1x128x128x2048_1_3_3_2_02_01 none v w)
    transposes_S1x128x128x2048_S1x2048x128x128_0_3_1_2) shapeCasts_S1x2048x128x128_S1x2048x16384

/-- The reference's result, from its five arrays. -/
def result (x : FVec Ideal S1x2048x1024 .f32) (wq : FVec Ideal S1024x16384 .f32) (k v : FVec Ideal S1x2048x128x128 .f32)
    (wo : FVec Ideal S16384x1024 .f32) : FVec Ideal S1x2048x1024 .f32 :=
  Host.dotGeneral dot_S1x2048x16384_S16384x1024_S1x2048x1024_2_0_01_1_n_n none (context v (shares (weights (scores (queries x wq) k)))) wo

theorem result_eq (m : (ℓ : Loc nD τ sig) → Buf (Elt Ideal) ℓ) (c : Dev nD) :
    Cert.ReferenceIdeal.Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_out0 Cert.ReferenceIdeal.Value.res_main_v33 result context shares quotients keptRows divisors sums weights largest scores queries keep mask blk64
  rfl

/-! ## The stages at an index -/

theorem blk64_apply (i : Fin 2048) : blk64 (ix1 i) = BitVec.ofNat 32 (i.val / 64) := by
  pointwise [blk64]
  revert i; decide +kernel

theorem mask_apply (i j : Fin 2048) : mask (ix2 i j) = BitVec.ofBool (decide (seen i.val j.val)) := by
  pointwise [mask]
  rw [blk64_apply, blk64_apply, WordCmp.cmpi_sle_ofNat (by omega) (by omega)]

theorem keep_apply (i : Fin 2048) : keep (ix1 i) = 1#1 := by
  pointwise [keep]
  rw [← Finset.insert_erase (Finset.mem_univ (0 : Fin 2048)), Finset.fold_insert (Finset.notMem_erase _ _), mask_apply,
    decide_eq_true (by simp [seen])]
  generalize Finset.fold IntOp.ori (0#1) (fun x => mask (ix2 i x)) _ = y
  revert y; decide

variable (D : Reals)

theorem queries_apply (x : FVec Ideal S1x2048x1024 .f32) (wq : FVec Ideal S1024x16384 .f32) (hx : ∀ i a, x (ix3 0 i a) = (D.x i a : EReal))
    (hw : ∀ a n, wq (ix2 a n) = (D.wq a n : EReal)) (i : Fin 2048) (h e : Fin 128) : queries x wq (ix4 0 i h e) = (D.query i h e : EReal) := by
  pointwise [queries, dot_S1x2048x1024_S1024x16384_S1x2048x16384_2_0_01_1_n_n]
  simp only [hx, hw, up_dot]
  rfl

theorem scores_apply (q k : FVec Ideal S1x2048x128x128 .f32) (hq : ∀ i h e, q (ix4 0 i h e) = (D.query i h e : EReal))
    (hk : ∀ j h e, k (ix4 0 j h e) = (D.k j h e : EReal)) (hs : Ideal.ofBits .f32 0x3DB504F3#32 = (D.s : EReal)) (i j : Fin 2048) (h : Fin 128) :
    scores q k (ix4 0 h i j) = if seen i.val j.val then (D.score i h j : EReal) else ⊥ := by
  pointwise [scores, dot_S1x2048x128x128_S1x2048x128x128_S1x128x2048x2048_3_3_1_1_02_02]
  have hb : (id (constant S_ .f32 0xFF800000#32) : FVec Ideal S_ .f32) ix0 = (⊥ : EReal) := neg_inf_bot
  rw [mask_apply, WordCmp.select_ofBool, hb]
  simp only [hq, hk, up_dot, hs, decide_eq_true_iff]
  rw [← EReal.coe_mul]
  rfl

theorem largest_apply (s : FVec Ideal S1x128x2048x2048 .f32) (i : Fin 2048) (h : Fin 128) (a : Fin 2048 → ℝ)
    (hs : ∀ j : Fin 2048, s (ix4 0 h i j) = if seen i.val j.val then (a j : EReal) else ⊥) : ∃ M : ℝ, largest s (ix3 0 h i) = (M : EReal) := by
  pointwise [largest]
  simp only [hs, neg_inf_bot]
  exact top_real (fun j : Fin 2048 => seen i.val j.val) a 0 (by simp [seen])

theorem weights_apply (s : FVec Ideal S1x128x2048x2048 .f32) (i : Fin 2048) (h : Fin 128) (a : Fin 2048 → ℝ)
    (hs : ∀ j : Fin 2048, s (ix4 0 h i j) = if seen i.val j.val then (a j : EReal) else ⊥) :
    ∃ M : ℝ, ∀ j : Fin 2048, weights s (ix4 0 h i j) = (wt (fun j : Fin 2048 => seen i.val j.val) (fun j => a j - M) j : EReal) := by
  obtain ⟨M, hM⟩ := largest_apply s i h a hs
  refine ⟨M, fun j => ?_⟩
  pointwise [weights]
  rw [hM, hs]
  exact exp_masked_sub (fun j : Fin 2048 => seen i.val j.val) a M j

theorem sums_apply (w : FVec Ideal S1x128x2048x2048 .f32) (i : Fin 2048) (h : Fin 128) : sums w (ix3 0 h i) = ∑ j : Fin 2048, w (ix4 0 h i j) := by
  pointwise [sums]

theorem select_true (a b : EReal) : Scalar.select (1#1) a b = a := rfl

theorem divisors_read (w : FVec Ideal S1x128x2048x2048 .f32) (i : Fin 2048) (h : Fin 128) : divisors w (ix4 0 h i 0) = sums w (ix3 0 h i) := by
  pointwise [divisors]
  rw [keep_apply]
  exact select_true _ _

theorem keptRows_read (i j : Fin 2048) (h : Fin 128) : keptRows (ix4 0 h i j) = 1#1 := by
  pointwise [keptRows]
  exact keep_apply i

theorem over_rows (w : FVec Ideal S1x128x2048x2048 .f32) (u : FVec Ideal S1x128x2048x1 .f32) (i j : Fin 2048) (h : Fin 128) :
    Host.divf w (broadcastInDim S1x128x2048x2048 ![0, 1, 2, 3] bcast_S1x128x2048x1_S1x128x2048x2048_0_1_2_3 u) (ix4 0 h i j)
      = Ideal.div (w (ix4 0 h i j)) (u (ix4 0 h i 0)) := by
  pointwise

theorem quotients_read (w : FVec Ideal S1x128x2048x2048 .f32) (i j : Fin 2048) (h : Fin 128) :
    quotients w (ix4 0 h i j) = Ideal.div (w (ix4 0 h i j)) (divisors w (ix4 0 h i 0)) := over_rows w (divisors w) i j h

theorem shares_read (w : FVec Ideal S1x128x2048x2048 .f32) (i j : Fin 2048) (h : Fin 128) :
    shares w (ix4 0 h i j) = Ideal.div (w (ix4 0 h i j)) (sums w (ix3 0 h i)) := by
  have e : shares w (ix4 0 h i j) = Scalar.select (keptRows (ix4 0 h i j)) (quotients w (ix4 0 h i j))
      (broadcastInDim S1x128x2048x2048 ![] bcast_S_S1x128x2048x2048 (id (constant (F := Ideal) S_ .f32 0x00000000#32)) (ix4 0 h i j)) := rfl
  rw [e, keptRows_read, select_true, quotients_read, divisors_read]

theorem shares_apply (w : FVec Ideal S1x128x2048x2048 .f32) (i : Fin 2048) (h : Fin 128) (b : Fin 2048 → ℝ)
    (hw : ∀ j : Fin 2048, w (ix4 0 h i j) = (b j : EReal)) (hb : ∑ j, b j ≠ 0) (j : Fin 2048) :
    shares w (ix4 0 h i j) = ((b j / ∑ k, b k : ℝ) : EReal) := by
  rw [shares_read, sums_apply, hw, Finset.sum_congr rfl fun k _ => hw k, up_sum, up_div _ _ hb]

theorem context_read (v : FVec Ideal S1x2048x128x128 .f32) (w : FVec Ideal S1x128x2048x2048 .f32) (i : Fin 2048) (n : Fin 16384) :
    context v w (ix3 0 i n) = ∑ j : Fin 2048, v (ix4 0 j ⟨n.val / 128, by omega⟩ ⟨n.val % 128, by omega⟩) * w (ix4 0 ⟨n.val / 128, by omega⟩ i j) := by
  pointwise [context, dot_S1x2048x128x128_S1x128x2048x2048_S1x128x128x2048_1_3_3_2_02_01]

theorem context_apply (v : FVec Ideal S1x2048x128x128 .f32) (w : FVec Ideal S1x128x2048x2048 .f32) (i : Fin 2048) (h d : Fin 128) :
    context v w (ix3 0 i (hcol h d)) = ∑ j : Fin 2048, v (ix4 0 j h d) * w (ix4 0 h i j) := by
  rw [context_read]
  have e1 : (⟨(hcol h d).val / 128, by omega⟩ : Fin 128) = h := Fin.ext (by show (h.val * 128 + d.val) / 128 = _; omega)
  have e2 : (⟨(hcol h d).val % 128, by omega⟩ : Fin 128) = d := Fin.ext (by show (h.val * 128 + d.val) % 128 = _; omega)
  rw [e1, e2]

theorem result_read (x : FVec Ideal S1x2048x1024 .f32) (wq : FVec Ideal S1024x16384 .f32) (k v : FVec Ideal S1x2048x128x128 .f32)
    (wo : FVec Ideal S16384x1024 .f32) (i : Fin 2048) (n : Fin 1024) :
    result x wq k v wo (ix3 0 i n) = ∑ a : Fin 16384, context v (shares (weights (scores (queries x wq) k))) (ix3 0 i a) * wo (ix2 a n) := by
  pointwise [result, dot_S1x2048x16384_S16384x1024_S1x2048x1024_2_0_01_1_n_n]

/-- The reference's result. -/
theorem result_apply (x : FVec Ideal S1x2048x1024 .f32) (wq : FVec Ideal S1024x16384 .f32) (k v : FVec Ideal S1x2048x128x128 .f32)
    (wo : FVec Ideal S16384x1024 .f32) (hx : ∀ i a, x (ix3 0 i a) = (D.x i a : EReal)) (hw : ∀ a n, wq (ix2 a n) = (D.wq a n : EReal))
    (hk : ∀ j h e, k (ix4 0 j h e) = (D.k j h e : EReal)) (hv : ∀ j h e, v (ix4 0 j h e) = D.v j h e)
    (ho : ∀ a n, wo (ix2 a n) = D.wo a n) (hs : Ideal.ofBits .f32 0x3DB504F3#32 = (D.s : EReal)) (i : Fin 2048) (n : Fin 1024) :
    result x wq k v wo (ix3 0 i n) = D.out i n := by
  rw [result_read, sum_cols]
  have hc (h d : Fin 128) : context v (shares (weights (scores (queries x wq) k))) (ix3 0 i (hcol h d)) = D.att i h d := by
    obtain ⟨M, hM⟩ := weights_apply (scores (queries x wq) k) i h (D.score i h)
      fun j => scores_apply D _ k (queries_apply D x wq hx hw) hk hs i j h
    have hp := (wt_sum_pos (fun j : Fin 2048 => seen i.val j.val) (fun j => D.score i h j - M) 0 (by simp [seen])).ne'
    rw [context_apply, Finset.sum_congr rfl fun j _ => by rw [hv, shares_apply _ i h _ hM hp j]]
    exact mean_shift _ _ _ M
  exact Finset.sum_congr rfl fun h _ => Finset.sum_congr rfl fun d _ => by rw [hc, ho]

end Cert.RefValue

end
-- ==== Proof.Finite.lean ====
/-
# What the precondition says

Every entry of a device's `x`, `Wq` and keys is a real number.
-/
module

public import proofs.«01_k».proof.Proof.Soft
public import proofs.«01_k».proof.Pre_finite_KernelIdeal
public import Idealize.ShloMosaic.Lib.Pointwise
public import Idealize.ShloMosaic.Lib.ReduceAll

@[expose] public section

noncomputable section

namespace Cert.Finite

open Cert.Pre_finite_KernelIdeal Cert.AllReduce
open Idealize.ShloMosaic

variable [Facts]

theorem cmp_real (x : Ideal .f32) (e : FloatOps.cmpf (F := Ideal) .olt (max x (-x) : EReal) (FloatOps.ofBits .f32 0x7F800000#32) = 1#1) : ∃ r : ℝ, x = (r : EReal) := by
  refine up_of_abs ?_
  have h : BitVec.ofBool (decide (max x (-x) < Ideal.ofBits .f32 0x7F800000#32)) = 1#1 := e
  rw [inf_top] at h
  by_contra hn
  rw [decide_eq_false hn] at h
  exact absurd h (by decide)

/-- An array all of whose entries compare as finite. -/
theorem entries {s : Shape} {axes : List (Fin s.rank)} (a : FVec Ideal s .f32) (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32))) (constantI S_ 1 1#1) hr hu ix0 = 1#1) (i : s.Idx) :
    ∃ r : ℝ, a i = (r : EReal) := by
  haveI : Subsingleton S_.Idx := ⟨fun a b => funext fun k => k.elim0⟩
  exact cmp_real (a i) (Host.reduce_andi_all _ _ hr hu ix0 e i)

theorem reals (a0 : FVec Ideal S1x2048x1024 .f32) (a1 : FVec Ideal S1024x16384 .f32) (a2 a3 : FVec Ideal S1x2048x8x128 .f32) (a4 : FVec Ideal S16384x1024 .f32)
    (h : fn (F := Ideal) a0 a1 a2 a3 a4 = fun _ => 1#1) :
    (∀ i, ∃ r : ℝ, a0 i = (r : EReal)) ∧ (∀ i, ∃ r : ℝ, a1 i = (r : EReal)) ∧ ∀ i, ∃ r : ℝ, a2 i = (r : EReal) := by
  have e := congrFun h ix0
  unfold fn at e
  obtain ⟨e, e2⟩ := IntOp.andi_eq_one.1 e
  obtain ⟨e0, e1⟩ := IntOp.andi_eq_one.1 e
  exact ⟨entries a0 _ _ _ e0, entries a1 _ _ _ e1, entries a2 _ _ _ e2⟩

end Cert.Finite

end
-- ==== Proof.lean ====
/-
# The claims

Every device's result is the reference's: both are `Reals.out` of the same arrays.
-/
module

public import proofs.«01_k».proof.Defs
public import proofs.«01_k».proof.Proof.Frames
public import proofs.«01_k».proof.Proof.Final
public import proofs.«01_k».proof.Proof.Ref
public import proofs.«01_k».proof.Proof.Finite

@[expose] public section

noncomputable section

namespace Cert.Proof

open Idealize.ShloMosaic Idealize.ShloMosaic.TcCoe
open Idealize.SL.Sem
open Cert.AllReduce

/-- The shape of the whole keys and values, -/
abbrev Wide : Shape := ⟨4, ![1, 2048, 128, 128]⟩
/-- and of a device's. -/
abbrev Narrow : Shape := ⟨4, ![1, 2048, 8, 128]⟩

/-- Where a device's entry lies in the whole array. -/
theorem block_read (c : Fin 16) (y : Wide.Idx → EReal) (j : Fin 2048) (h : Fin 8) (e : Fin 128) :
    Layout.block Narrow Wide 2 16 c y (by decide) (ix4 0 j h e) = y (ix4 0 j (head c h) e) := by
  rw [Layout.block_apply]
  refine congrArg y (funext fun b => Fin.ext ?_)
  rw [Layout.Tiles.idx_val]
  match b with
  | 0 => rfl
  | 1 => rfl
  | 2 => exact congrArg (· + h.val) (Nat.mul_comm c.val 8)
  | 3 => rfl

theorem up_toReal {a : EReal} (h : ∃ r : ℝ, a = (r : EReal)) : a = ((a.toReal : ℝ) : EReal) := by
  obtain ⟨r, rfl⟩ := h
  rw [EReal.toReal_coe]

/-- A head is some device's. -/
theorem head_split (h : Fin 128) : ∃ (c : Fin 16) (k : Fin 8), h = head c k :=
  ⟨⟨h.val / 8, by omega⟩, ⟨h.val % 8, by omega⟩, Fin.ext (by
    show h.val = 8 * (h.val / 8) + h.val % 8
    omega)⟩

/-- The whole keys are real numbers where every device's are. -/
theorem wide_real (y : Wide.Idx → EReal) (hy : ∀ c : Fin 16, ∀ i, ∃ r : ℝ, Layout.block Narrow Wide 2 16 c y (by decide) i = (r : EReal))
    (j : Fin 2048) (h e : Fin 128) : ∃ r : ℝ, y (ix4 0 j h e) = (r : EReal) := by
  obtain ⟨c, k, rfl⟩ := head_split h
  obtain ⟨r, hr⟩ := hy c (ix4 0 j k e)
  exact ⟨r, (block_read c y j k e).symm.trans hr⟩

/-- The arrays behind the five arguments. -/
def realsOf (x : FVec Ideal Cert.KernelIdeal.S1x2048x1024 .f32) (wq : FVec Ideal Cert.KernelIdeal.S1024x16384 .f32) (k v : Wide.Idx → EReal)
    (wo : FVec Ideal Cert.KernelIdeal.S16384x1024 .f32) (s : ℝ) : Reals where
  x i a := (x (ix3 0 i a) : EReal).toReal
  wq a n := (wq (ix2 a n) : EReal).toReal
  k j h e := (k (ix4 0 j h e)).toReal
  v j h e := v (ix4 0 j h e)
  wo a n := wo (ix2 a n)
  s := s

theorem algebraic : Cert.algebraic_KernelIdeal_ReferenceIdeal_pre_finite_KernelIdeal := by
  intro m ρ m' ρ' hpre hagree
  obtain ⟨s, hs⟩ := scale_real
  have fin := fun c => Cert.Finite.reals _ _ _ _ _ (hpre c)
  set x := m' (((0 : Dev Cert.ReferenceIdeal.nD).tc : Thread Cert.ReferenceIdeal.nD Cert.ReferenceIdeal.τ).loc Cert.ReferenceIdeal.main_arg0) with hx
  set wq := m' (((0 : Dev Cert.ReferenceIdeal.nD).tc : Thread Cert.ReferenceIdeal.nD Cert.ReferenceIdeal.τ).loc Cert.ReferenceIdeal.main_arg1) with hwq
  set k := m' (((0 : Dev Cert.ReferenceIdeal.nD).tc : Thread Cert.ReferenceIdeal.nD Cert.ReferenceIdeal.τ).loc Cert.ReferenceIdeal.main_arg2) with hk
  set v := m' (((0 : Dev Cert.ReferenceIdeal.nD).tc : Thread Cert.ReferenceIdeal.nD Cert.ReferenceIdeal.τ).loc Cert.ReferenceIdeal.main_arg3) with hv
  set wo := m' (((0 : Dev Cert.ReferenceIdeal.nD).tc : Thread Cert.ReferenceIdeal.nD Cert.ReferenceIdeal.τ).loc Cert.ReferenceIdeal.main_arg4) with hwo
  have rx : ∀ i a, (x : FVec Ideal Cert.KernelIdeal.S1x2048x1024 .f32) (ix3 0 i a) = (((realsOf x wq k v wo s).x i a : ℝ) : EReal) := fun i a => up_toReal (by
    have f := (fin 0).1 (ix3 0 i a)
    rw [(hagree 0).1] at f
    exact f)
  have rwq : ∀ a n, (wq : FVec Ideal Cert.KernelIdeal.S1024x16384 .f32) (ix2 a n) = (((realsOf x wq k v wo s).wq a n : ℝ) : EReal) := fun a n => up_toReal (by
    have f := (fin 0).2.1 (ix2 a n)
    rw [(hagree 0).2.1] at f
    exact f)
  have rk : ∀ j h e, (k : Wide.Idx → EReal) (ix4 0 j h e) = (((realsOf x wq k v wo s).k j h e : ℝ) : EReal) := fun j h e =>
    up_toReal (wide_real k (fun c i => by
      have f := (fin c).2.2 i
      rw [(hagree c).2.2.1] at f
      exact f) j h e)
  have H : Holds (realsOf x wq k v wo s) m :=
    { x := fun c i a => by rw [(hagree c).1]; exact rx i a
      wq := fun c a n => by rw [(hagree c).2.1]; exact rwq a n
      k := fun c j h e => by rw [(hagree c).2.2.1]; exact (block_read c k j h e).trans (rk j (head c h) e)
      v := fun c j h e => by rw [(hagree c).2.2.2.1]; exact block_read c v j h e
      wo := fun c a n => by rw [(hagree c).2.2.2.2]; rfl
      s := hs }
  refine ⟨Cert.RefValue.result x wq k v wo, ?_, ?_⟩
  · refine (θ_run Cert.KernelIdeal.defs _ _).mono (fun _ h c =>
      ⟨(h.1 c Cert.KernelIdeal.main_v36 (by decide)).trans ?_,
       (h.1 c Cert.KernelIdeal.main_arg0 (by decide)).trans (kept_arg m c Cert.KernelIdeal.main_arg0 (by decide) (by decide)),
       (h.1 c Cert.KernelIdeal.main_arg1 (by decide)).trans (kept_arg m c Cert.KernelIdeal.main_arg1 (by decide) (by decide)),
       (h.1 c Cert.KernelIdeal.main_arg2 (by decide)).trans (kept_arg m c Cert.KernelIdeal.main_arg2 (by decide) (by decide)),
       (h.1 c Cert.KernelIdeal.main_arg3 (by decide)).trans (kept_arg m c Cert.KernelIdeal.main_arg3 (by decide) (by decide)),
       (h.1 c Cert.KernelIdeal.main_arg4 (by decide)).trans (kept_arg m c Cert.KernelIdeal.main_arg4 (by decide) (by decide))⟩) (run_main (F := Ideal) m ρ)
    refine funext fun t => ?_
    have et : t = ix3 0 (t 1 : Fin 2048) (t 2 : Fin 1024) := funext fun b => by
      match b with
      | 0 => exact Subsingleton.elim (α := Fin 1) _ _
      | 1 => rfl
      | 2 => rfl
    rw [et]
    exact (at_v36 H c _ _).trans (Cert.RefValue.result_apply (realsOf x wq k v wo s) x wq k v wo rx rwq rk (fun _ _ _ => rfl) (fun _ _ => rfl) hs _ _).symm
  · exact (θ_run Cert.ReferenceIdeal.defs _ _).mono (fun _ h => ⟨((h 0).1).trans (Cert.RefValue.result_eq m' 0), (h 0).2⟩)
      (Cert.ReferenceIdeal.Value.run (F := Ideal) m' ρ')

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_kernelIdeal, frame_kernelIdeal_finite, frame_referenceIdeal, frame_referenceIdeal_finite, preserved, algebraic⟩

end Cert.Proof

end
